-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v135_0)) (v1 : (c : Dev Cert.KernelIdeal.nD) → Buf (Elt Ideal) ((c.tc : Thread Cert.KernelIdeal.nD Cert.KernelIdeal.τ).loc Cert.KernelIdeal.main_v135_1)) (v2 : (c : Dev Cert.KernelIdeal.nD) → Buf (Elt Ideal) ((c.tc : Thread Cert.KernelIdeal.nD Cert.KernelIdeal.τ).loc Cert.KernelIdeal.main_v135_2)) (v3 : (c : Dev Cert.KernelIdeal.nD) → Buf (Elt Ideal) ((c.tc : Thread Cert.KernelIdeal.nD Cert.KernelIdeal.τ).loc Cert.KernelIdeal.main_v135_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135_0) = v0 c
          ∧ r.2.mem ((c.tc : Thread Cert.KernelIdeal.nD Cert.KernelIdeal.τ).loc Cert.KernelIdeal.main_v135_1) = v1 c
          ∧ r.2.mem ((c.tc : Thread Cert.KernelIdeal.nD Cert.KernelIdeal.τ).loc Cert.KernelIdeal.main_v135_2) = v2 c
          ∧ r.2.mem ((c.tc : Thread Cert.KernelIdeal.nD Cert.KernelIdeal.τ).loc Cert.KernelIdeal.main_v135_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v367) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v274) = v2 c
          ∧ r.2.mem ((c.tc : Thread Cert.ReferenceIdeal.nD Cert.ReferenceIdeal.τ).loc Cert.ReferenceIdeal.main_v275) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S1x1024 : Shape := ⟨2, ![1, 1024]⟩
abbrev S1x1024x7680 : Shape := ⟨3, ![1, 1024, 7680]⟩
abbrev S1x4x256 : Shape := ⟨3, ![1, 4, 256]⟩
abbrev S1x64 : Shape := ⟨2, ![1, 64]⟩
abbrev S1x16 : Shape := ⟨2, ![1, 16]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x7680 : S_.BroadcastsInDim S1x1024x7680 (![] : Fin 0 → Fin S1x1024x7680.rank)
  reducesTo_S1x1024x7680_S_d0_1_2 : S1x1024x7680.ReducesTo [0, 1, 2] S_
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg6 : FVec F S1x16 .f32) (main_v3 : IVec S_ 1) (main_v7 : IVec S_ 1) (main_v11 : IVec S_ 1) (main_v15 : IVec S_ 1) : IVec S_ 1 :=
  let main_v16 : FVec F S1x16 .f32 := Host.absf main_arg6
  let main_cst_6 : FVec F S_ .f32 := constant S_ .f32 0x7F800000#32
  let main_v17 : FVec F S1x16 .f32 := broadcastInDim S1x16 ![] bcast_S_S1x16 main_cst_6
  let main_v18 : IVec S1x16 1 := cmpf .olt main_v16 main_v17
  let main_c_7 : IVec S_ 1 := constantI S_ 1 1#1
  let main_v19 : IVec S_ 1 := (fun x v => Host.reduce IntOp.andi x v reducesTo_S1x16_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x4096x1024 .f32) (main_arg1 : FVec F S1x1024 .f32) (main_arg2 : FVec F S1x1024x7680 .f32) (main_arg3 : FVec F S1x4x256 .f32) (main_arg4 : FVec F S1x64 .f32) (main_arg5 : FVec F S1x64 .f32) (main_arg6 : FVec F S1x16 .f32) (main_arg7 : FVec F S1x1024x1024 .f32) (main_arg8 : FVec F S1x1024x1024 .f32) (main_arg9 : FVec F S1x1024x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x7680 .f32 := Host.absf main_arg2
  let main_cst_0 : FVec F S_ .f32 := constant S_ .f32 0x7F800000#32
  let main_v5 : FVec F S1x1024x7680 .f32 := broadcastInDim S1x1024x7680 ![] bcast_S_S1x1024x7680 main_cst_0
  let main_v6 : IVec S1x1024x7680 1 := cmpf .olt main_v4 main_v5
  let main_c_1 : IVec S_ 1 := constantI S_ 1 1#1
  let main_v7 : IVec S_ 1 := (fun x v => Host.reduce IntOp.andi x v reducesTo_S1x1024x7680_S_d0_1_2 h_S_) main_v6 main_c_1
  let main_v8 : FVec F S1x64 .f32 := Host.absf main_arg4
  let main_cst_2 : FVec F S_ .f32 := constant S_ .f32 0x7F800000#32
  let main_v9 : FVec F S1x64 .f32 := broadcastInDim S1x64 ![] bcast_S_S1x64 main_cst_2
  let main_v10 : IVec S1x64 1 := cmpf .olt main_v8 main_v9
  let main_c_3 : IVec S_ 1 := constantI S_ 1 1#1
  let main_v11 : IVec S_ 1 := (fun x v => Host.reduce IntOp.andi x v reducesTo_S1x64_S_d0_1 h_S_) main_v10 main_c_3
  let main_v12 : FVec F S1x64 .f32 := Host.absf main_arg5
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg6 main_v3 main_v7 main_v11 main_v15
-- ==== Kernel.lean ====
abbrev S4x4096x1024 : Shape := ⟨3, ![4, 4096, 1024]⟩
abbrev S1x1024 : Shape := ⟨2, ![1, 1024]⟩
abbrev S1x1024x7680 : Shape := ⟨3, ![1, 1024, 7680]⟩
abbrev S1x4x256 : Shape := ⟨3, ![1, 4, 256]⟩
abbrev S1x64 : Shape := ⟨2, ![1, 64]⟩
abbrev S1x16 : Shape := ⟨2, ![1, 16]⟩
abbrev S1x1024x1024 : Shape := ⟨3, ![1, 1024, 1024]⟩
abbrev S1024 : Shape := ⟨1, ![1024]⟩
abbrev S1024x7680 : Shape := ⟨2, ![1024, 7680]⟩
abbrev S4x256 : Shape := ⟨2, ![4, 256]⟩
abbrev S64 : Shape := ⟨1, ![64]⟩
abbrev S4x64 : Shape := ⟨2, ![4, 64]⟩
abbrev S256 : Shape := ⟨1, ![256]⟩
abbrev S1x256 : Shape := ⟨2, ![1, 256]⟩
abbrev S16 : Shape := ⟨1, ![16]⟩
abbrev S1024x1024 : Shape := ⟨2, ![1024, 1024]⟩
abbrev S4 : Shape := ⟨1, ![4]⟩
abbrev S_ : Shape := ⟨0, ![]⟩
abbrev S256x1 : Shape := ⟨2, ![256, 1]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256x1 : Shape := ⟨3, ![4, 256, 1]⟩
abbrev S4x256x128 : Shape := ⟨3, ![4, 256, 128]⟩
abbrev S4096 : Shape := ⟨1, ![4096]⟩
abbrev S4096x1 : Shape := ⟨2, ![4096, 1]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S4x4x128x256 : Shape := ⟨4, ![4, 4, 128, 256]⟩
abbrev S4x128x256 : Shape := ⟨3, ![4, 128, 256]⟩
abbrev S1x256x1024 : Shape := ⟨3, ![1, 256, 1024]⟩
abbrev S256x128 : Shape := ⟨2, ![256, 128]⟩
abbrev S1x4x128x256 : Shape := ⟨4, ![1, 4, 128, 256]⟩
abbrev S1x128x256 : Shape := ⟨3, ![1, 128, 256]⟩
abbrev S128x256 : Shape := ⟨2, ![128, 256]⟩
abbrev S256x1024 : Shape := ⟨2, ![256, 1024]⟩
abbrev S1x128 : Shape := ⟨2, ![1, 128]⟩
abbrev S1024x512 : Shape := ⟨2, ![1024, 512]⟩
abbrev S256x512 : Shape := ⟨2, ![256, 512]⟩
abbrev S1x256x128 : Shape := ⟨3, ![1, 256, 128]⟩
abbrev S1024x256 : Shape := ⟨2, ![1024, 256]⟩
abbrev S512x128 : Shape := ⟨2, ![512, 128]⟩
abbrev S128x128 : Shape := ⟨2, ![128, 128]⟩
abbrev S128x512 : Shape := ⟨2, ![128, 512]⟩
abbrev S1 : Shape := ⟨1, ![1]⟩
abbrev S128 : Shape := ⟨1, ![128]⟩
abbrev S128x1 : Shape := ⟨2, ![128, 1]⟩

abbrev nBuf : Space → Nat
  | .hbm => 190
  | .vmem => 35
  | .smem => 1
  | _ => 0

abbrev hbmTy0_0 (i : Nat) : BufTy := match i % 128 with
  | 0 => ⟨S4x4096x1024, .f32⟩
  | 1 => ⟨S1x1024, .f32⟩
  | 2 => ⟨S1x1024x7680, .f32⟩
  | 3 => ⟨S1x4x256, .f32⟩
  | 4 => ⟨S1x64, .f32⟩
  | 5 => ⟨S1x64, .f32⟩
  | 6 => ⟨S1x16, .f32⟩
  | 7 => ⟨S1x1024x1024, .f32⟩
  | 8 => ⟨S1x1024x1024, .f32⟩
  | 9 => ⟨S1x1024x1024, .f32⟩
  | 10 => ⟨S1024, .f32⟩
  | 11 => ⟨S1x1024, .f32⟩
  | 12 => ⟨S1024x7680, .f32⟩
  | 13 => ⟨S1024x7680, .bf16⟩
  | 14 => ⟨S4x256, .f32⟩
  | 15 => ⟨S1x1024, .f32⟩
  | 16 => ⟨S64, .f32⟩
  | 17 => ⟨S1x64, .f32⟩
  | 18 => ⟨S4x64, .f32⟩
  | 19 => ⟨S256, .f32⟩
  | 20 => ⟨S1x256, .f32⟩
  | 21 => ⟨S64, .f32⟩
  | 22 => ⟨S1x64, .f32⟩
  | 23 => ⟨S4x64, .f32⟩
  | 24 => ⟨S256, .f32⟩
  | 25 => ⟨S1x256, .f32⟩
  | 26 => ⟨S16, .f32⟩
  | 27 => ⟨S1024x1024, .f32⟩
  | 28 => ⟨S1024x1024, .bf16⟩
  | 29 => ⟨S1024x1024, .f32⟩
  | 30 => ⟨S1024x1024, .bf16⟩
  | 31 => ⟨S1024x1024, .f32⟩
  | 32 => ⟨S1024x1024, .bf16⟩
  | 33 => ⟨S4, .f32⟩
  | 34 => ⟨S_, .f32⟩
  | 35 => ⟨S4, .f32⟩
  | 36 => ⟨S4, .f32⟩
  | 37 => ⟨S_, .f32⟩
  | 38 => ⟨S4, .f32⟩
  | 39 => ⟨S4, .f32⟩
  | 40 => ⟨S_, .f32⟩
  | 41 => ⟨S4, .f32⟩
  | 42 => ⟨S4, .f32⟩
  | 43 => ⟨S4, .f32⟩
  | 44 => ⟨S256, .f32⟩
  | 45 => ⟨S256x1, .f32⟩
  | 46 => ⟨S1x256, .f32⟩
  | 47 => ⟨S256x256, .f32⟩
  | 48 => ⟨S256x256, .f32⟩
  | 49 => ⟨S256x256, .f32⟩
  | 50 => ⟨S1x256x256, .f32⟩
  | 51 => ⟨S_, .f32⟩
  | 52 => ⟨S1x256x256, .f32⟩
  | 53 => ⟨S1x256x256, .i1⟩
  | 54 => ⟨S_, .f32⟩
  | 55 => ⟨S256x256, .f32⟩
  | 56 => ⟨S256x256, .f32⟩
  | 57 => ⟨S1x256x256, .f32⟩
  | 58 => ⟨S4x1x1, .f32⟩
  | 59 => ⟨S4x256x256, .f32⟩
  | 60 => ⟨S4x256x256, .f32⟩
  | 61 => ⟨S4x256x256, .f32⟩
  | 62 => ⟨S4x256x256, .f32⟩
  | 63 => ⟨S_, .f32⟩
  | 64 => ⟨S_, .f32⟩
  | 65 => ⟨S4x256x256, .i1⟩
  | 66 => ⟨S4x256x256, .f32⟩
  | 67 => ⟨S4x256x256, .f32⟩
  | 68 => ⟨S1x256, .f32⟩
  | 69 => ⟨S_, .f32⟩
  | 70 => ⟨S1x256, .f32⟩
  | 71 => ⟨S1x256, .f32⟩
  | 72 => ⟨S4x1, .f32⟩
  | 73 => ⟨S4x256, .f32⟩
  | 74 => ⟨S4x256, .f32⟩
  | 75 => ⟨S4x256, .f32⟩
  | 76 => ⟨S4x256, .f32⟩
  | 77 => ⟨S4x256x1, .f32⟩
  | 78 => ⟨S4x256x128, .f32⟩
  | 79 => ⟨S_, .f32⟩
  | 80 => ⟨S256, .f32⟩
  | 81 => ⟨S256, .f32⟩
  | 82 => ⟨S1x256, .f32⟩
  | 83 => ⟨S4x1, .f32⟩
  | 84 => ⟨S4x256, .f32⟩
  | 85 => ⟨S4x256, .f32⟩
  | 86 => ⟨S4x256, .f32⟩
  | 87 => ⟨S4x256, .f32⟩
  | 88 => ⟨S4x256x1, .f32⟩
  | 89 => ⟨S4x256x128, .f32⟩
  | 90 => ⟨S4096, .i32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S4096, .f32⟩
  | 106 => ⟨S4096x1, .f32⟩
  | 107 => ⟨S1x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S4096x128, .f32⟩
  | 114 => ⟨S1x4096x1x128, .f32⟩
  | 115 => ⟨S1x4096x1x128, .f32⟩
  | 116 => ⟨S4096x128, .f32⟩
  | 117 => ⟨S4096x64, .f32⟩
  | 118 => ⟨S4096x128, .f32⟩
  | 119 => ⟨S1x4096x1x128, .f32⟩
  | 120 => ⟨S1x4096x1x128, .f32⟩
  | 121 => ⟨S4096x128, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S4x4096x1024, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S4096, .f32⟩
  | 9 => ⟨S4096x1, .f32⟩
  | 10 => ⟨S1x32, .f32⟩
  | 11 => ⟨S4096x32, .f32⟩
  | 12 => ⟨S4096x32, .f32⟩
  | 13 => ⟨S4096x32, .f32⟩
  | 14 => ⟨S4096x32, .f32⟩
  | 15 => ⟨S4096x32, .f32⟩
  | 16 => ⟨S4096x64, .f32⟩
  | 17 => ⟨S1x4096x1x64, .f32⟩
  | 18 => ⟨S1x4096x2x64, .f32⟩
  | 19 => ⟨S4096x128, .f32⟩
  | 20 => ⟨S4096x32, .f32⟩
  | 21 => ⟨S4096x64, .f32⟩
  | 22 => ⟨S1x4096x1x64, .f32⟩
  | 23 => ⟨S1x4096x2x64, .f32⟩
  | 24 => ⟨S4096x128, .f32⟩
  | 25 => ⟨S256, .i32⟩
  | 26 => ⟨S_, .i32⟩
  | 27 => ⟨S_, .i32⟩
  | 28 => ⟨S256, .i32⟩
  | 29 => ⟨S256, .i32⟩
  | 30 => ⟨S256, .i32⟩
  | 31 => ⟨S_, .i32⟩
  | 32 => ⟨S256, .i32⟩
  | 33 => ⟨S256, .i1⟩
  | 34 => ⟨S256, .i32⟩
  | 35 => ⟨S256, .i32⟩
  | 36 => ⟨S_, .i32⟩
  | 37 => ⟨S256, .i32⟩
  | 38 => ⟨S256, .i1⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S1x256, .i32⟩
  | 46 => ⟨S256x256, .i32⟩
  | 47 => ⟨S256x256, .i32⟩
  | 48 => ⟨S256x256, .i1⟩
  | 49 => ⟨S_, .f32⟩
  | 50 => ⟨S_, .f32⟩
  | 51 => ⟨S256x256, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S256x256, .bf16⟩
  | 58 => ⟨S4x4096x1024, .f32⟩
  | 59 => ⟨S4x4x128x256, .f32⟩
  | 60 => ⟨S4x128x256, .f32⟩
  | 61 => ⟨S4x128x256, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x7680, .bf16⟩
  | .local _ .vmem, ⟨4, _⟩ => ⟨S1x1024, .f32⟩
  | .local _ .vmem, ⟨5, _⟩ => ⟨S1x256, .f32⟩
  | .local _ .vmem, ⟨6, _⟩ => ⟨S1x256, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4x256x256, .f32⟩
  | .local _ .vmem, ⟨19, _⟩ => ⟨S4x256x128, .f32⟩
  | .local _ .vmem, ⟨20, _⟩ => ⟨S4x256x128, .f32⟩
  | .local _ .vmem, ⟨21, _⟩ => ⟨S256x256, .bf16⟩
  | .local _ .vmem, ⟨22, _⟩ => ⟨S1x256x1024, .f32⟩
  | .local _ .vmem, ⟨23, _⟩ => ⟨S1x256x1024, .f32⟩
  | .local _ .vmem, ⟨24, _⟩ => ⟨S1x4x128x256, .f32⟩
  | .local _ .vmem, ⟨25, _⟩ => ⟨S1x4x128x256, .f32⟩
  | .local _ .vmem, ⟨26, _⟩ => ⟨S1x128x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S4x128x256, .f32⟩
  | .local _ .vmem, ⟨31, _⟩ => ⟨S128x256, .f32⟩
  | .local _ .vmem, ⟨32, _⟩ => ⟨S128x256, .f32⟩
  | .local _ .vmem, ⟨33, _⟩ => ⟨S256x1024, .bf16⟩
  | .local _ .vmem, ⟨34, _⟩ => ⟨S256x1024, .bf16⟩
  | .local _ .smem, ⟨0, _⟩ => ⟨S16, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_11 : Ref sig .tc := ⟨.hbm, 123, rfl⟩
abbrev main_v98 : Ref sig .tc := ⟨.hbm, 124, rfl⟩
abbrev main_v99 : Ref sig .tc := ⟨.hbm, 125, rfl⟩
abbrev main_cst_12 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_cst_14 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_c : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_call1_v5 : Ref sig .tc := ⟨.hbm, 160, rfl⟩
abbrev main_call1_v6 : Ref sig .tc := ⟨.hbm, 161, rfl⟩
abbrev main_call1_v7 : Ref sig .tc := ⟨.hbm, 162, rfl⟩
abbrev main_call1_v8 : Ref sig .tc := ⟨.hbm, 163, rfl⟩
abbrev main_call1_c : Ref sig .tc := ⟨.hbm, 164, rfl⟩
abbrev main_call1_v9 : Ref sig .tc := ⟨.hbm, 165, rfl⟩
abbrev main_call1_v10 : Ref sig .tc := ⟨.hbm, 166, rfl⟩
abbrev main_call1_v11 : Ref sig .tc := ⟨.hbm, 167, rfl⟩
abbrev main_call1_c_0 : Ref sig .tc := ⟨.hbm, 168, rfl⟩
abbrev main_call1_v12 : Ref sig .tc := ⟨.hbm, 169, rfl⟩
abbrev main_call1_v13 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_15 : Ref sig .tc := ⟨.hbm, 177, rfl⟩
abbrev main_cst_16 : Ref sig .tc := ⟨.hbm, 178, rfl⟩
abbrev main_call2_v0 : Ref sig .tc := ⟨.hbm, 179, rfl⟩
abbrev main_call2_v1 : Ref sig .tc := ⟨.hbm, 180, rfl⟩
abbrev main_v131 : Ref sig .tc := ⟨.hbm, 181, rfl⟩
abbrev main_cst_17 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135_0 : Ref sig .tc := ⟨.hbm, 186, rfl⟩
abbrev main_v135_1 : Ref sig .tc := ⟨.hbm, 187, rfl⟩
abbrev main_v135_2 : Ref sig .tc := ⟨.hbm, 188, rfl⟩
abbrev main_v135_3 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v2034 : BitVec 1 := Scalar.cmpi .eq arg1 c15_i32
  let v2035 : BitVec 32 := Scalar.extui v2034
  let c0_i32_648 : BitVec 32 := 0#32
  let v2036 : BitVec 1 := Scalar.cmpi .ne v2035 c0_i32_648
  v2036

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S4x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S4x4096x1024 : Shape := ⟨3, ![4, 4096, 1024]⟩
abbrev S1x1024 : Shape := ⟨2, ![1, 1024]⟩
abbrev S1x1024x7680 : Shape := ⟨3, ![1, 1024, 7680]⟩
abbrev S1x4x256 : Shape := ⟨3, ![1, 4, 256]⟩
abbrev S1x64 : Shape := ⟨2, ![1, 64]⟩
abbrev S1x16 : Shape := ⟨2, ![1, 16]⟩
abbrev S1x1024x1024 : Shape := ⟨3, ![1, 1024, 1024]⟩
abbrev S4 : Shape := ⟨1, ![4]⟩
abbrev S_ : Shape := ⟨0, ![]⟩
abbrev S4096 : Shape := ⟨1, ![4096]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x7680 : Shape := ⟨2, ![1024, 7680]⟩
abbrev S4x4096x7680 : Shape := ⟨3, ![4, 4096, 7680]⟩
abbrev S4x4096x512 : Shape := ⟨3, ![4, 4096, 512]⟩
abbrev S4x4096x256 : Shape := ⟨3, ![4, 4096, 256]⟩
abbrev S4x4096x4x128 : Shape := ⟨4, ![4, 4096, 4, 128]⟩
abbrev S64 : Shape := ⟨1, ![64]⟩
abbrev S4096x1 : Shape := ⟨2, ![4096, 1]⟩
abbrev S4096x64 : Shape := ⟨2, ![4096, 64]⟩
abbrev S4096x1x64 : Shape := ⟨3, ![4096, 1, 64]⟩
abbrev S4x4096x4x64 : Shape := ⟨4, ![4, 4096, 4, 64]⟩
abbrev S1x4096x1x64 : Shape := ⟨4, ![1, 4096, 1, 64]⟩
abbrev S4x4096x4x256 : Shape := ⟨4, ![4, 4096, 4, 256]⟩
abbrev S1x4096 : Shape := ⟨2, ![1, 4096]⟩
abbrev S4096x4096 : Shape := ⟨2, ![4096, 4096]⟩
abbrev S1x4096x4096 : Shape := ⟨3, ![1, 4096, 4096]⟩
abbrev S4x1x1 : Shape := ⟨3, ![4, 1, 1]⟩
abbrev S4x4096x4096 : Shape := ⟨3, ![4, 4096, 4096]⟩
abbrev S4x4x4096x4096 : Shape := ⟨4, ![4, 4, 4096, 4096]⟩
abbrev S1x4x4096x4096 : Shape := ⟨4, ![1, 4, 4096, 4096]⟩
abbrev S4x4x256x4096 : Shape := ⟨4, ![4, 4, 256, 4096]⟩
abbrev S1x4 : Shape := ⟨2, ![1, 4]⟩
abbrev S4096x4 : Shape := ⟨2, ![4096, 4]⟩
abbrev S1x4096x4x1 : Shape := ⟨4, ![1, 4096, 4, 1]⟩
abbrev S4x4x128x256 : Shape := ⟨4, ![4, 4, 128, 256]⟩
abbrev S4x256 : Shape := ⟨2, ![4, 256]⟩
abbrev S4x4096x4 : Shape := ⟨3, ![4, 4096, 4]⟩
abbrev S4x4096x4x1 : Shape := ⟨4, ![4, 4096, 4, 1]⟩
abbrev S1x1x4x256 : Shape := ⟨4, ![1, 1, 4, 256]⟩
abbrev S1024x1024 : Shape := ⟨2, ![1024, 1024]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x4x32 : Shape := ⟨4, ![4, 4096, 4, 32]⟩
abbrev S4x128x4x64 : Shape := ⟨4, ![4, 128, 4, 64]⟩
abbrev S4x128x256 : Shape := ⟨3, ![4, 128, 256]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S4x32x128x16x64 : Shape := ⟨5, ![4, 32, 128, 16, 64]⟩
abbrev S4x4096x4x4x64 : Shape := ⟨5, ![4, 4096, 4, 4, 64]⟩
abbrev S4x1x128x16x64 : Shape := ⟨5, ![4, 1, 128, 16, 64]⟩
abbrev S4x31x128x16x64 : Shape := ⟨5, ![4, 31, 128, 16, 64]⟩
abbrev S4x32x256x16x64 : Shape := ⟨5, ![4, 32, 256, 16, 64]⟩
abbrev S4x32x16x128x256 : Shape := ⟨5, ![4, 32, 16, 128, 256]⟩
abbrev S1x32x1x128x256 : Shape := ⟨5, ![1, 32, 1, 128, 256]⟩
abbrev S1x1x16x1x1 : Shape := ⟨5, ![1, 1, 16, 1, 1]⟩
abbrev S4x32x16x128x1 : Shape := ⟨5, ![4, 32, 16, 128, 1]⟩
abbrev S4x32x16x128x257 : Shape := ⟨5, ![4, 32, 16, 128, 257]⟩
abbrev S4x32x16x128 : Shape := ⟨4, ![4, 32, 16, 128]⟩
abbrev S4x32x16x64x128 : Shape := ⟨5, ![4, 32, 16, 64, 128]⟩

abbrev nBuf : Space → Nat
  | .hbm => 452
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x7680, .f32⟩
  | 3 => ⟨S1x4x256, .f32⟩
  | 4 => ⟨S1x64, .f32⟩
  | 5 => ⟨S1x64, .f32⟩
  | 6 => ⟨S1x16, .f32⟩
  | 7 => ⟨S1x1024x1024, .f32⟩
  | 8 => ⟨S1x1024x1024, .f32⟩
  | 9 => ⟨S1x1024x1024, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S4096, .i32⟩
  | 22 => ⟨S1024, .f32⟩
  | 23 => ⟨S4x4096x1024, .f32⟩
  | 24 => ⟨S_, .f32⟩
  | 25 => ⟨S4x4096, .f32⟩
  | 26 => ⟨S4x4096x1, .f32⟩
  | 27 => ⟨S_, .f32⟩
  | 28 => ⟨S4x4096x1, .f32⟩
  | 29 => ⟨S4x4096x1, .f32⟩
  | 30 => ⟨S_, .f32⟩
  | 31 => ⟨S4x4096x1, .f32⟩
  | 32 => ⟨S4x4096x1, .f32⟩
  | 33 => ⟨S4x4096x1, .f32⟩
  | 34 => ⟨S4x4096x1024, .f32⟩
  | 35 => ⟨S4x4096x1024, .f32⟩
  | 36 => ⟨S1x1x1024, .f32⟩
  | 37 => ⟨S4x4096x1024, .f32⟩
  | 38 => ⟨S4x4096x1024, .f32⟩
  | 39 => ⟨S1024x7680, .f32⟩
  | 40 => ⟨S4x4096x7680, .f32⟩
  | 41 => ⟨S4x4096x512, .f32⟩
  | 42 => ⟨S4x4096x512, .f32⟩
  | 43 => ⟨S4x4096x1024, .f32⟩
  | 44 => ⟨S4x4096x1024, .f32⟩
  | 45 => ⟨S4x4096x1024, .f32⟩
  | 46 => ⟨S4x4096x256, .f32⟩
  | 47 => ⟨S4x4096x256, .f32⟩
  | 48 => ⟨S4x4096x1024, .f32⟩
  | 49 => ⟨S4x4096x1024, .f32⟩
  | 50 => ⟨S4x4096x1024, .f32⟩
  | 51 => ⟨S4x4096x4x128, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S4096, .f32⟩
  | 67 => ⟨S4096x1, .f32⟩
  | 68 => ⟨S1x64, .f32⟩
  | 69 => ⟨S4096x64, .f32⟩
  | 70 => ⟨S4096x64, .f32⟩
  | 71 => ⟨S4096x64, .f32⟩
  | 72 => ⟨S4096x64, .f32⟩
  | 73 => ⟨S4096x1x64, .f32⟩
  | 74 => ⟨S4096x64, .f32⟩
  | 75 => ⟨S4096x1x64, .f32⟩
  | 76 => ⟨S4x4096x4x64, .f32⟩
  | 77 => ⟨S4x4096x4x64, .f32⟩
  | 78 => ⟨S1x4096x1x64, .f32⟩
  | 79 => ⟨S4x4096x4x64, .f32⟩
  | 80 => ⟨S4x4096x4x64, .f32⟩
  | 81 => ⟨S1x4096x1x64, .f32⟩
  | 82 => ⟨S4x4096x4x64, .f32⟩
  | 83 => ⟨S4x4096x4x64, .f32⟩
  | 84 => ⟨S4x4096x4x64, .f32⟩
  | 85 => ⟨S1x4096x1x64, .f32⟩
  | 86 => ⟨S4x4096x4x64, .f32⟩
  | 87 => ⟨S4x4096x4x64, .f32⟩
  | 88 => ⟨S1x4096x1x64, .f32⟩
  | 89 => ⟨S4x4096x4x64, .f32⟩
  | 90 => ⟨S4x4096x4x64, .f32⟩
  | 91 => ⟨S4x4096x4x64, .f32⟩
  | 92 => ⟨S4x4096x4x128, .f32⟩
  | 93 => ⟨S4x4096x4x128, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S4096, .f32⟩
  | 109 => ⟨S4096x1, .f32⟩
  | 110 => ⟨S1x64, .f32⟩
  | 111 => ⟨S4096x64, .f32⟩
  | 112 => ⟨S4096x64, .f32⟩
  | 113 => ⟨S4096x64, .f32⟩
  | 114 => ⟨S4096x64, .f32⟩
  | 115 => ⟨S4096x1x64, .f32⟩
  | 116 => ⟨S4096x64, .f32⟩
  | 117 => ⟨S4096x1x64, .f32⟩
  | 118 => ⟨S4x4096x4x64, .f32⟩
  | 119 => ⟨S4x4096x4x64, .f32⟩
  | 120 => ⟨S1x4096x1x64, .f32⟩
  | 121 => ⟨S4x4096x4x64, .f32⟩
  | 122 => ⟨S4x4096x4x64, .f32⟩
  | 123 => ⟨S1x4096x1x64, .f32⟩
  | 124 => ⟨S4x4096x4x64, .f32⟩
  | 125 => ⟨S4x4096x4x64, .f32⟩
  | 126 => ⟨S4x4096x4x64, .f32⟩
  | 127 => ⟨S1x4096x1x64, .f32⟩
  | _ => ⟨S4x4096x1024, .f32⟩

abbrev hbmTy0_1 (i : Nat) : BufTy := match i % 128 with
  | 0 => ⟨S4x4096x4x64, .f32⟩
  | 1 => ⟨S4x4096x4x64, .f32⟩
  | 2 => ⟨S1x4096x1x64, .f32⟩
  | 3 => ⟨S4x4096x4x64, .f32⟩
  | 4 => ⟨S4x4096x4x64, .f32⟩
  | 5 => ⟨S4x4096x4x64, .f32⟩
  | 6 => ⟨S4x4096x4x128, .f32⟩
  | 7 => ⟨S_, .f32⟩
  | 8 => ⟨S4x4096x4x128, .f32⟩
  | 9 => ⟨S4x4096x4x128, .f32⟩
  | 10 => ⟨S4x4096x4x256, .f32⟩
  | 11 => ⟨S4096, .f32⟩
  | 12 => ⟨S4096x1, .f32⟩
  | 13 => ⟨S1x4096, .f32⟩
  | 14 => ⟨S4096x4096, .f32⟩
  | 15 => ⟨S4096x4096, .f32⟩
  | 16 => ⟨S4096x4096, .f32⟩
  | 17 => ⟨S1x4096x4096, .f32⟩
  | 18 => ⟨S_, .f32⟩
  | 19 => ⟨S1x4096x4096, .f32⟩
  | 20 => ⟨S1x4096x4096, .i1⟩
  | 21 => ⟨S_, .f32⟩
  | 22 => ⟨S4096x4096, .f32⟩
  | 23 => ⟨S4096x4096, .f32⟩
  | 24 => ⟨S1x4096x4096, .f32⟩
  | 25 => ⟨S4x1x1, .f32⟩
  | 26 => ⟨S4x4096x4096, .f32⟩
  | 27 => ⟨S4x4096x4096, .f32⟩
  | 28 => ⟨S4x4096x4096, .f32⟩
  | 29 => ⟨S4x4096x4096, .f32⟩
  | 30 => ⟨S_, .f32⟩
  | 31 => ⟨S_, .f32⟩
  | 32 => ⟨S4x4096x4096, .i1⟩
  | 33 => ⟨S4x4096x4096, .f32⟩
  | 34 => ⟨S4x4096x4096, .f32⟩
  | 35 => ⟨S4x4x4096x4096, .f32⟩
  | 36 => ⟨S1x4x4096x4096, .f32⟩
  | 37 => ⟨S4x4x4096x4096, .f32⟩
  | 38 => ⟨S4x4x4096x4096, .f32⟩
  | 39 => ⟨S4x4x256x4096, .f32⟩
  | 40 => ⟨S4x4096x4x256, .f32⟩
  | 41 => ⟨S_, .f32⟩
  | 42 => ⟨S4096, .f32⟩
  | 43 => ⟨S4096, .f32⟩
  | 44 => ⟨S4096x1, .f32⟩
  | 45 => ⟨S1x4, .f32⟩
  | 46 => ⟨S4096x4, .f32⟩
  | 47 => ⟨S4096x4, .f32⟩
  | 48 => ⟨S4096x4, .f32⟩
  | 49 => ⟨S4096x4, .f32⟩
  | 50 => ⟨S1x4096x4x1, .f32⟩
  | 51 => ⟨S4x4096x4x128, .f32⟩
  | 52 => ⟨S4x4096x4x128, .f32⟩
  | 53 => ⟨S4x4x128x256, .f32⟩
  | 54 => ⟨S4x256, .f32⟩
  | 55 => ⟨S4x4096x4x256, .f32⟩
  | 56 => ⟨S_, .f32⟩
  | 57 => ⟨S4x4096x4, .f32⟩
  | 58 => ⟨S4x4096x4x1, .f32⟩
  | 59 => ⟨S_, .f32⟩
  | 60 => ⟨S4x4096x4x1, .f32⟩
  | 61 => ⟨S4x4096x4x1, .f32⟩
  | 62 => ⟨S_, .f32⟩
  | 63 => ⟨S4x4096x4x1, .f32⟩
  | 64 => ⟨S4x4096x4x1, .f32⟩
  | 65 => ⟨S4x4096x4x1, .f32⟩
  | 66 => ⟨S4x4096x4x256, .f32⟩
  | 67 => ⟨S4x4096x4x256, .f32⟩
  | 68 => ⟨S1x1x4x256, .f32⟩
  | 69 => ⟨S4x4096x4x256, .f32⟩
  | 70 => ⟨S4x4096x4x256, .f32⟩
  | 71 => ⟨S4x4096x1024, .f32⟩
  | 72 => ⟨S4x4096x1024, .f32⟩
  | 73 => ⟨S4x4096x1024, .f32⟩
  | 74 => ⟨S_, .f32⟩
  | 75 => ⟨S4x4096x1024, .f32⟩
  | 76 => ⟨S4x4096x1024, .f32⟩
  | 77 => ⟨S_, .f32⟩
  | 78 => ⟨S4x4096x1024, .f32⟩
  | 79 => ⟨S4x4096x1024, .f32⟩
  | 80 => ⟨S4x4096x1024, .f32⟩
  | 81 => ⟨S4x4096x1024, .f32⟩
  | 82 => ⟨S1024x1024, .f32⟩
  | 83 => ⟨S4x4096x1024, .f32⟩
  | 84 => ⟨S4x4096x16x64, .f32⟩
  | 85 => ⟨S64, .f32⟩
  | 86 => ⟨S4x4096x16x64, .f32⟩
  | 87 => ⟨S_, .f32⟩
  | 88 => ⟨S4x4096x16, .f32⟩
  | 89 => ⟨S4x4096x16x1, .f32⟩
  | 90 => ⟨S_, .f32⟩
  | 91 => ⟨S4x4096x16x1, .f32⟩
  | 92 => ⟨S4x4096x16x1, .f32⟩
  | 93 => ⟨S_, .f32⟩
  | 94 => ⟨S4x4096x16x1, .f32⟩
  | 95 => ⟨S4x4096x16x1, .f32⟩
  | 96 => ⟨S4x4096x16x1, .f32⟩
  | 97 => ⟨S4x4096x16x64, .f32⟩
  | 98 => ⟨S4x4096x16x64, .f32⟩
  | 99 => ⟨S1x1x1x64, .f32⟩
  | 100 => ⟨S4x4096x16x64, .f32⟩
  | 101 => ⟨S4x4096x16x64, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S4096, .f32⟩
  | 117 => ⟨S4096x1, .f32⟩
  | 118 => ⟨S1x32, .f32⟩
  | 119 => ⟨S4096x32, .f32⟩
  | 120 => ⟨S4096x32, .f32⟩
  | 121 => ⟨S4096x32, .f32⟩
  | 122 => ⟨S4096x32, .f32⟩
  | 123 => ⟨S4096x1x32, .f32⟩
  | 124 => ⟨S4096x32, .f32⟩
  | 125 => ⟨S4096x1x32, .f32⟩
  | 126 => ⟨S4x4096x16x32, .f32⟩
  | 127 => ⟨S4x4096x16x32, .f32⟩
  | _ => ⟨S4x4096x1024, .f32⟩

abbrev hbmTy0_2 (i : Nat) : BufTy := match i % 128 with
  | 0 => ⟨S1x4096x1x32, .f32⟩
  | 1 => ⟨S4x4096x16x32, .f32⟩
  | 2 => ⟨S4x4096x16x32, .f32⟩
  | 3 => ⟨S1x4096x1x32, .f32⟩
  | 4 => ⟨S4x4096x16x32, .f32⟩
  | 5 => ⟨S4x4096x16x32, .f32⟩
  | 6 => ⟨S4x4096x16x32, .f32⟩
  | 7 => ⟨S1x4096x1x32, .f32⟩
  | 8 => ⟨S4x4096x16x32, .f32⟩
  | 9 => ⟨S4x4096x16x32, .f32⟩
  | 10 => ⟨S1x4096x1x32, .f32⟩
  | 11 => ⟨S4x4096x16x32, .f32⟩
  | 12 => ⟨S4x4096x16x32, .f32⟩
  | 13 => ⟨S4x4096x16x32, .f32⟩
  | 14 => ⟨S4x4096x16x64, .f32⟩
  | 15 => ⟨S4x4096x4x64, .f32⟩
  | 16 => ⟨S64, .f32⟩
  | 17 => ⟨S4x4096x4x64, .f32⟩
  | 18 => ⟨S_, .f32⟩
  | 19 => ⟨S4x4096x4, .f32⟩
  | 20 => ⟨S4x4096x4x1, .f32⟩
  | 21 => ⟨S_, .f32⟩
  | 22 => ⟨S4x4096x4x1, .f32⟩
  | 23 => ⟨S4x4096x4x1, .f32⟩
  | 24 => ⟨S_, .f32⟩
  | 25 => ⟨S4x4096x4x1, .f32⟩
  | 26 => ⟨S4x4096x4x1, .f32⟩
  | 27 => ⟨S4x4096x4x1, .f32⟩
  | 28 => ⟨S4x4096x4x64, .f32⟩
  | 29 => ⟨S4x4096x4x64, .f32⟩
  | 30 => ⟨S1x1x1x64, .f32⟩
  | 31 => ⟨S4x4096x4x64, .f32⟩
  | 32 => ⟨S4x4096x4x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4096, .f32⟩
  | 48 => ⟨S4096x1, .f32⟩
  | 49 => ⟨S1x32, .f32⟩
  | 50 => ⟨S4096x32, .f32⟩
  | 51 => ⟨S4096x32, .f32⟩
  | 52 => ⟨S4096x32, .f32⟩
  | 53 => ⟨S4096x32, .f32⟩
  | 54 => ⟨S4096x1x32, .f32⟩
  | 55 => ⟨S4096x32, .f32⟩
  | 56 => ⟨S4096x1x32, .f32⟩
  | 57 => ⟨S4x4096x4x32, .f32⟩
  | 58 => ⟨S4x4096x4x32, .f32⟩
  | 59 => ⟨S1x4096x1x32, .f32⟩
  | 60 => ⟨S4x4096x4x32, .f32⟩
  | 61 => ⟨S4x4096x4x32, .f32⟩
  | 62 => ⟨S1x4096x1x32, .f32⟩
  | 63 => ⟨S4x4096x4x32, .f32⟩
  | 64 => ⟨S4x4096x4x32, .f32⟩
  | 65 => ⟨S4x4096x4x32, .f32⟩
  | 66 => ⟨S1x4096x1x32, .f32⟩
  | 67 => ⟨S4x4096x4x32, .f32⟩
  | 68 => ⟨S4x4096x4x32, .f32⟩
  | 69 => ⟨S1x4096x1x32, .f32⟩
  | 70 => ⟨S4x4096x4x32, .f32⟩
  | 71 => ⟨S4x4096x4x32, .f32⟩
  | 72 => ⟨S4x4096x4x32, .f32⟩
  | 73 => ⟨S4x4096x4x64, .f32⟩
  | 74 => ⟨S4x128x4x64, .f32⟩
  | 75 => ⟨S4x128x256, .f32⟩
  | 76 => ⟨S4x128x256, .f32⟩
  | 77 => ⟨S4x4096x4x64, .f32⟩
  | 78 => ⟨S16, .f32⟩
  | 79 => ⟨S128, .i32⟩
  | 80 => ⟨S128x1, .i32⟩
  | 81 => ⟨S256, .i32⟩
  | 82 => ⟨S1x256, .i32⟩
  | 83 => ⟨S_, .i32⟩
  | 84 => ⟨S128x1, .i32⟩
  | 85 => ⟨S128x1, .i32⟩
  | 86 => ⟨S128x256, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i1⟩
  | 95 => ⟨S128x256, .i1⟩
  | 96 => ⟨S1x128x256, .i1⟩
  | 97 => ⟨S32, .i32⟩
  | 98 => ⟨S32x1x1, .i32⟩
  | 99 => ⟨S_, .i32⟩
  | 100 => ⟨S32x1x1, .i32⟩
  | 101 => ⟨S32x1x1, .i1⟩
  | 102 => ⟨S1x1x256, .i32⟩
  | 103 => ⟨S_, .i32⟩
  | 104 => ⟨S1x1x256, .i32⟩
  | 105 => ⟨S1x1x256, .i1⟩
  | 106 => ⟨S32x1x256, .i1⟩
  | 107 => ⟨S32x1x256, .i1⟩
  | 108 => ⟨S32x1x256, .i1⟩
  | 109 => ⟨S32x128x256, .i1⟩
  | 110 => ⟨S32x128x256, .i1⟩
  | 111 => ⟨S32x128x256, .i1⟩
  | 112 => ⟨S4x32x128x16x64, .f32⟩
  | 113 => ⟨S4x4096x4x4x64, .f32⟩
  | 114 => ⟨S4x4096x16x64, .f32⟩
  | 115 => ⟨S4x32x128x16x64, .f32⟩
  | 116 => ⟨S4x1x128x16x64, .f32⟩
  | 117 => ⟨S_, .f32⟩
  | 118 => ⟨S4x1x128x16x64, .f32⟩
  | 119 => ⟨S4x31x128x16x64, .f32⟩
  | 120 => ⟨S4x32x128x16x64, .f32⟩
  | 121 => ⟨S4x32x256x16x64, .f32⟩
  | 122 => ⟨S4x4096x4x4x64, .f32⟩
  | 123 => ⟨S4x4096x16x64, .f32⟩
  | 124 => ⟨S4x32x128x16x64, .f32⟩
  | 125 => ⟨S4x1x128x16x64, .f32⟩
  | 126 => ⟨S_, .f32⟩
  | 127 => ⟨S4x1x128x16x64, .f32⟩
  | _ => ⟨S4x4096x1024, .f32⟩

abbrev hbmTy0_3 (i : Nat) : BufTy := match i % 128 with
  | 0 => ⟨S4x31x128x16x64, .f32⟩
  | 1 => ⟨S4x32x128x16x64, .f32⟩
  | 2 => ⟨S4x32x256x16x64, .f32⟩
  | 3 => ⟨S4x32x16x128x256, .f32⟩
  | 4 => ⟨S_, .f32⟩
  | 5 => ⟨S4x32x16x128x256, .f32⟩
  | 6 => ⟨S4x32x16x128x256, .f32⟩
  | 7 => ⟨S1x32x1x128x256, .i1⟩
  | 8 => ⟨S_, .f32⟩
  | 9 => ⟨S_, .f32⟩
  | 10 => ⟨S4x32x16x128x256, .i1⟩
  | 11 => ⟨S4x32x16x128x256, .f32⟩
  | 12 => ⟨S4x32x16x128x256, .f32⟩
  | 13 => ⟨S1x1x16x1x1, .f32⟩
  | 14 => ⟨S4x32x16x128x1, .f32⟩
  | 15 => ⟨S4x32x16x128x257, .f32⟩
  | 16 => ⟨S_, .f32⟩
  | 17 => ⟨S4x32x16x128, .f32⟩
  | 18 => ⟨S_, .f32⟩
  | 19 => ⟨S4x32x16x128, .f32⟩
  | 20 => ⟨S4x32x16x128, .f32⟩
  | 21 => ⟨S4x32x16x128x1, .f32⟩
  | 22 => ⟨S4x32x16x128x257, .f32⟩
  | 23 => ⟨S4x32x16x128x257, .f32⟩
  | 24 => ⟨S4x32x16x128x257, .f32⟩
  | 25 => ⟨S_, .f32⟩
  | 26 => ⟨S4x32x16x128, .f32⟩
  | 27 => ⟨S4x32x16x128x1, .f32⟩
  | 28 => ⟨S4x32x16x128x257, .f32⟩
  | 29 => ⟨S4x32x16x128x257, .f32⟩
  | 30 => ⟨S4x32x16x128x256, .f32⟩
  | 31 => ⟨S4x32x16x64x128, .f32⟩
  | 32 => ⟨S4x32x128x16x64, .f32⟩
  | 33 => ⟨S4x4096x1024, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S_, .f32⟩
  | 40 => ⟨S4x4096x1024, .f32⟩
  | 41 => ⟨S4x4096x1024, .f32⟩
  | 42 => ⟨S4x4096x1024, .f32⟩
  | 43 => ⟨S4x4096x1024, .f32⟩
  | 44 => ⟨S1024x1024, .f32⟩
  | 45 => ⟨S4x4096x1024, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S_, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S4x4096x1024, .f32⟩
  | 64 => ⟨S4x4096x1024, .f32⟩
  | 65 => ⟨S1024x1024, .f32⟩
  | 66 => ⟨S4x4096x1024, .f32⟩
  | 67 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_13 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_14 : Ref sig .tc := ⟨.hbm, 146, rfl⟩
abbrev main_v121 : Ref sig .tc := ⟨.hbm, 147, rfl⟩
abbrev main_v122 : Ref sig .tc := ⟨.hbm, 148, rfl⟩
abbrev main_cst_15 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_16 : Ref sig .tc := ⟨.hbm, 158, rfl⟩
abbrev main_call0_v0 : Ref sig .tc := ⟨.hbm, 159, rfl⟩
abbrev main_call0_v1 : Ref sig .tc := ⟨.hbm, 160, rfl⟩
abbrev main_call0_v2 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_17 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_18 : Ref sig .tc := ⟨.hbm, 184, rfl⟩
abbrev main_v152 : Ref sig .tc := ⟨.hbm, 185, rfl⟩
abbrev main_v153 : Ref sig .tc := ⟨.hbm, 186, rfl⟩
abbrev main_cst_19 : Ref sig .tc := ⟨.hbm, 187, rfl⟩
abbrev main_v154 : Ref sig .tc := ⟨.hbm, 188, rfl⟩
abbrev main_v155 : Ref sig .tc := ⟨.hbm, 189, rfl⟩
abbrev main_cst_20 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_call1_v0 : Ref sig .tc := ⟨.hbm, 200, rfl⟩
abbrev main_call1_v1 : Ref sig .tc := ⟨.hbm, 201, rfl⟩
abbrev main_call1_cst : Ref sig .tc := ⟨.hbm, 202, rfl⟩
abbrev main_call1_v2 : Ref sig .tc := ⟨.hbm, 203, rfl⟩
abbrev main_call1_v3 : Ref sig .tc := ⟨.hbm, 204, rfl⟩
abbrev main_call1_cst_0 : Ref sig .tc := ⟨.hbm, 205, rfl⟩
abbrev main_call1_v4 : Ref sig .tc := ⟨.hbm, 206, rfl⟩
abbrev main_call1_v5 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_21 : Ref sig .tc := ⟨.hbm, 215, rfl⟩
abbrev main_v172 : Ref sig .tc := ⟨.hbm, 216, rfl⟩
abbrev main_v173 : Ref sig .tc := ⟨.hbm, 217, rfl⟩
abbrev main_cst_22 : Ref sig .tc := ⟨.hbm, 218, rfl⟩
abbrev main_v174 : Ref sig .tc := ⟨.hbm, 219, rfl⟩
abbrev main_v175 : Ref sig .tc := ⟨.hbm, 220, rfl⟩
abbrev main_cst_23 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_24 : Ref sig .tc := ⟨.hbm, 231, rfl⟩
abbrev main_v185 : Ref sig .tc := ⟨.hbm, 232, rfl⟩
abbrev main_v186 : Ref sig .tc := ⟨.hbm, 233, rfl⟩
abbrev main_cst_25 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_26 : Ref sig .tc := ⟨.hbm, 238, rfl⟩
abbrev main_v190 : Ref sig .tc := ⟨.hbm, 239, rfl⟩
abbrev main_v191 : Ref sig .tc := ⟨.hbm, 240, rfl⟩
abbrev main_cst_27 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_cst_28 : Ref sig .tc := ⟨.hbm, 274, rfl⟩
abbrev main_v224 : Ref sig .tc := ⟨.hbm, 275, rfl⟩
abbrev main_v225 : Ref sig .tc := ⟨.hbm, 276, rfl⟩
abbrev main_cst_29 : Ref sig .tc := ⟨.hbm, 277, rfl⟩
abbrev main_v226 : Ref sig .tc := ⟨.hbm, 278, rfl⟩
abbrev main_v227 : Ref sig .tc := ⟨.hbm, 279, rfl⟩
abbrev main_cst_30 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_31 : Ref sig .tc := ⟨.hbm, 290, rfl⟩
abbrev main_v237 : Ref sig .tc := ⟨.hbm, 291, rfl⟩
abbrev main_v238 : Ref sig .tc := ⟨.hbm, 292, rfl⟩
abbrev main_cst_32 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_cst_33 : Ref sig .tc := ⟨.hbm, 297, rfl⟩
abbrev main_v242 : Ref sig .tc := ⟨.hbm, 298, rfl⟩
abbrev main_v243 : Ref sig .tc := ⟨.hbm, 299, rfl⟩
abbrev main_cst_34 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_c : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_c_35 : Ref sig .tc := ⟨.hbm, 345, rfl⟩
abbrev main_v287 : Ref sig .tc := ⟨.hbm, 346, rfl⟩
abbrev main_v288 : Ref sig .tc := ⟨.hbm, 347, rfl⟩
abbrev main_c_36 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_c_37 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_c_38 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_cst_39 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_cst_40 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_cst_41 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_cst_42 : Ref sig .tc := ⟨.hbm, 392, rfl⟩
abbrev main_call2_v0 : Ref sig .tc := ⟨.hbm, 393, rfl⟩
abbrev main_call2_v1 : Ref sig .tc := ⟨.hbm, 394, rfl⟩
abbrev main_call2_v2 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_cst_43 : Ref sig .tc := ⟨.hbm, 400, rfl⟩
abbrev main_v331 : Ref sig .tc := ⟨.hbm, 401, rfl⟩
abbrev main_cst_44 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_cst_45 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_call3_v0 : Ref sig .tc := ⟨.hbm, 418, rfl⟩
abbrev main_call3_v1 : Ref sig .tc := ⟨.hbm, 419, rfl⟩
abbrev main_call3_cst : Ref sig .tc := ⟨.hbm, 420, rfl⟩
abbrev main_call3_v2 : Ref sig .tc := ⟨.hbm, 421, rfl⟩
abbrev main_call3_v3 : Ref sig .tc := ⟨.hbm, 422, rfl⟩
abbrev main_call3_cst_0 : Ref sig .tc := ⟨.hbm, 423, rfl⟩
abbrev main_call3_v4 : Ref sig .tc := ⟨.hbm, 424, rfl⟩
abbrev main_call3_v5 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_cst_46 : Ref sig .tc := ⟨.hbm, 432, rfl⟩
abbrev main_v352 : Ref sig .tc := ⟨.hbm, 433, rfl⟩
abbrev main_v353 : Ref sig .tc := ⟨.hbm, 434, rfl⟩
abbrev main_cst_47 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_cst_48 : Ref sig .tc := ⟨.hbm, 441, rfl⟩
abbrev main_v359 : Ref sig .tc := ⟨.hbm, 442, rfl⟩
abbrev main_v360 : Ref sig .tc := ⟨.hbm, 443, rfl⟩
abbrev main_cst_49 : Ref sig .tc := ⟨.hbm, 444, rfl⟩
abbrev main_v361 : Ref sig .tc := ⟨.hbm, 445, rfl⟩
abbrev main_v362 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩

abbrev nD : Nat := 1
abbrev τ : Topo := Topo.v7x

variable {F : FTy → Type} [FloatOps F]
-- ==== Proof.Spec.lean ====
/-
  The layer's plain mathematics over extended reals, on functions of an index: what both programs are compared with.
-/
module

public import Idealize.ShloMosaic.PureOps.Ideal
public import Idealize.ShloMosaic.Lib.Pointwise

@[expose] public section

set_option maxRecDepth 16384
noncomputable section
open Idealize.ShloMosaic
namespace Cert.Spec

/-- The prompt's tokens, the norm's gains and the input projection's weights, as functions of an index. -/
abbrev XArr := (⟨3, ![4, 4096, 1024]⟩ : Shape).Idx → EReal
abbrev GArr := (⟨2, ![1, 1024]⟩ : Shape).Idx → EReal
abbrev WArr := (⟨3, ![1, 1024, 7680]⟩ : Shape).Idx → EReal

/-- A token after the first norm: divided by the root of its mean square, times the gain. -/
def hN (X : XArr) (G : GArr) (b : Fin 4) (t : Fin 4096) (k : Fin 1024) : EReal :=
  X (ix3 b t k) * Ideal.rsqrt (Ideal.div (∑ j : Fin 1024, X (ix3 b t j) * X (ix3 b t j)) (Ideal.ofBits .f32 0x44800000#32)
    + Ideal.ofBits .f32 0x358637BD#32) * G (ix2 0 k)

/-- Column `e` of the input projection of a token. -/
def pj (X : XArr) (G : GArr) (W : WArr) (b : Fin 4) (t : Fin 4096) (e : Fin 7680) : EReal :=
  ∑ k : Fin 1024, hN X G b t k * W (ix3 0 k e)

/-- The angle by which position `t` turns the pair `i`. -/
def ang (t i : ℕ) : EReal :=
  (((BitVec.ofNat 32 t).toInt : ℝ) : EReal) *
    Ideal.pow (Ideal.ofBits .f32 0x461C4000#32)
      (Ideal.div (-(Ideal.ofBits .f32 0x40000000#32 * (((BitVec.ofNat 32 i).toInt : ℝ) : EReal))) (Ideal.ofBits .f32 0x43000000#32))

/-- The rotation's cosine and signed sine of a position, over the 128 columns of a head. -/
def cosE (t : Fin 4096) (d : Fin 128) : EReal :=
  if h : d.val < 64 then Ideal.cos (ang t d) else Ideal.cos (ang t (d - 64))
def sinE (t : Fin 4096) (d : Fin 128) : EReal :=
  if h : d.val < 64 then -Ideal.sin (ang t d) else Ideal.sin (ang t (d - 64))

/-- The logarithm of a head's decay per token. -/
def lgE (h : ℕ) : EReal :=
  Ideal.log (1 - Ideal.pow (Ideal.ofBits .f32 0x40000000#32) (Ideal.ofBits .f32 0xC0A00000#32 - (((BitVec.ofNat 32 h).toInt : ℝ) : EReal)))

/-- The decay of row `r` of a tile of 256 up to the tile's end. -/
def kdecE (h : Fin 4) (r : Fin 256) : EReal :=
  Ideal.exp ((Ideal.ofBits .f32 0x437F0000#32 - (((BitVec.ofNat 32 r.val).toInt : ℝ) : EReal)) * lgE h)

/-- The decay of token `t` up to the prompt's end. -/
def tdecE (h : Fin 4) (t : Fin 4096) : EReal :=
  Ideal.exp ((Ideal.ofBits .f32 0x457FF000#32 - (((BitVec.ofNat 32 t.val).toInt : ℝ) : EReal)) * lgE h)

/-- A head's key, turned by its position and scaled. -/
def kr (X : XArr) (G : GArr) (W : WArr) (b : Fin 4) (t : Fin 4096) (h : Fin 4) (d : Fin 128) : EReal :=
  (if h1 : d.val < 64 then
      pj X G W b t ⟨512 + (h.val * 128 + d.val), by omega⟩ * Ideal.cos (ang t d) -
        pj X G W b t ⟨512 + (h.val * 128 + (64 + d.val)), by omega⟩ * Ideal.sin (ang t d)
    else
      pj X G W b t ⟨512 + (h.val * 128 + (64 + (d.val - 64))), by omega⟩ * Ideal.cos (ang t (d - 64)) +
        pj X G W b t ⟨512 + (h.val * 128 + (d.val - 64)), by omega⟩ * Ideal.sin (ang t (d - 64))) *
    Ideal.ofBits .f32 0x3DB504F3#32

/-- A head's value. -/
def vr (X : XArr) (G : GArr) (W : WArr) (b : Fin 4) (t : Fin 4096) (h : Fin 4) (e : Fin 256) : EReal :=
  pj X G W b t ⟨1024 + (h.val * 256 + e.val), by omega⟩

/-- The state after the prompt. -/
def st (X : XArr) (G : GArr) (W : WArr) (b : Fin 4) (h : Fin 4) (d : Fin 128) (e : Fin 256) : EReal :=
  ∑ t : Fin 4096, kr X G W b t h d * tdecE h t * vr X G W b t h e

end Cert.Spec

end

end
-- ==== Proof.Consts.lean ====
/-
  The constants' patterns as real numbers.
-/
module

public import Idealize.ShloMosaic.PureOps.Ideal
public import Mathlib.Tactic.NormNum

@[expose] public section

open Idealize.ShloMosaic
namespace Cert.Spec

theorem two_eq : Ideal.ofBits .f32 0x40000000#32 = ((2 : ℝ) : EReal) := by
  simp [Ideal.ofBits, Ideal.ieee, -EReal.coe_mul]; norm_num
theorem negFive_eq : Ideal.ofBits .f32 0xC0A00000#32 = ((-5 : ℝ) : EReal) := by
  simp [Ideal.ofBits, Ideal.ieee, -EReal.coe_mul]; norm_num
theorem c255_eq : Ideal.ofBits .f32 0x437F0000#32 = ((255 : ℝ) : EReal) := by
  simp [Ideal.ofBits, Ideal.ieee, -EReal.coe_mul]; norm_num

theorem c4095_eq : Ideal.ofBits .f32 0x457FF000#32 = ((4095 : ℝ) : EReal) := by
  simp [Ideal.ofBits, Ideal.ieee, -EReal.coe_mul]; norm_num
theorem c64_eq : Ideal.ofBits .f32 0x42800000#32 = ((64 : ℝ) : EReal) := by
  simp [Ideal.ofBits, Ideal.ieee, -EReal.coe_mul]; norm_num
theorem c128_eq : Ideal.ofBits .f32 0x43000000#32 = ((128 : ℝ) : EReal) := by
  simp [Ideal.ofBits, Ideal.ieee, -EReal.coe_mul]; norm_num
theorem c256_eq : Ideal.ofBits .f32 0x43800000#32 = ((256 : ℝ) : EReal) := by
  simp [Ideal.ofBits, Ideal.ieee, -EReal.coe_mul]; norm_num
theorem c1024_eq : Ideal.ofBits .f32 0x44800000#32 = ((1024 : ℝ) : EReal) := by
  simp [Ideal.ofBits, Ideal.ieee, -EReal.coe_mul]; norm_num
theorem inv64_eq : Ideal.ofBits .f32 0x3C800000#32 = ((64⁻¹ : ℝ) : EReal) := by
  simp [Ideal.ofBits, Ideal.ieee, -EReal.coe_mul]; norm_num
theorem eighth_eq : Ideal.ofBits .f32 0x3E000000#32 = ((8⁻¹ : ℝ) : EReal) := by
  simp [Ideal.ofBits, Ideal.ieee, -EReal.coe_mul]; norm_num
theorem tenk_eq : Ideal.ofBits .f32 0x461C4000#32 = ((10000 : ℝ) : EReal) := by
  simp [Ideal.ofBits, Ideal.ieee, -EReal.coe_mul]; norm_num
/-- The norm's epsilon is a positive real number. -/
theorem eps_eq : ∃ r : ℝ, 0 < r ∧ Ideal.ofBits .f32 0x358637BD#32 = ((r : ℝ) : EReal) := by
  refine ⟨8796093 / 2 ^ 43, by norm_num, ?_⟩
  simp [Ideal.ofBits, Ideal.ieee, -EReal.coe_mul]; norm_num
/-- The keys' scale is a real number. -/
theorem scale_eq : ∃ r : ℝ, Ideal.ofBits .f32 0x3DB504F3#32 = ((r : ℝ) : EReal) := by
  refine ⟨11863283 / 2 ^ 27, ?_⟩
  simp [Ideal.ofBits, Ideal.ieee, -EReal.coe_mul]; norm_num

end Cert.Spec

end
-- ==== Proof.Decay.lean ====
/-
  The decays as real exponentials, and the state tile by tile: a state multiplied by a tile's decay plus the tile's own
  products is the sum over all tokens so far.
-/
module

public import proofs.«01_k».proof.Proof.Spec
public import proofs.«01_k».proof.Proof.Consts
public import Mathlib.Analysis.SpecialFunctions.Pow.Real
public import Mathlib.Analysis.SpecialFunctions.Log.Basic

@[expose] public section

set_option maxRecDepth 16384
noncomputable section
open Idealize.ShloMosaic
namespace Cert.Spec

/-- The logarithm of a head's decay per token, a real number. -/
def lgR (h : ℕ) : ℝ := Real.log (1 - 2⁻¹ ^ (5 + h))

theorem base_pos (h : ℕ) : (0 : ℝ) < 1 - 2⁻¹ ^ (5 + h) := by
  have : ((2 : ℝ)⁻¹) ^ (5 + h) < 1 := pow_lt_one₀ (by norm_num) (by norm_num) (by omega)
  linarith

theorem lgE_eq (h : Fin 4) : lgE h.val = ((lgR h.val : ℝ) : EReal) := by
  have e : (BitVec.ofNat 32 h.val).toInt = (h.val : ℤ) := by fin_cases h <;> rfl
  unfold lgE
  rw [two_eq, negFive_eq, e, ← EReal.coe_sub]
  show Ideal.log ((1 : ℝ) - ((Real.rpow 2 (-5 - ((h.val : ℤ) : ℝ)) : ℝ) : EReal)) = _
  have e' : Real.rpow 2 (-5 - ((h.val : ℤ) : ℝ)) = 2⁻¹ ^ (5 + h.val) := by
    rw [Real.rpow_eq_pow, show -5 - ((h.val : ℤ) : ℝ) = -((5 + h.val : ℕ) : ℝ) by push_cast; ring, Real.rpow_neg (by norm_num), Real.rpow_natCast, inv_pow]
  rw [e', ← EReal.coe_sub]
  show (if _ then _ else _) = _
  rw [if_neg (not_le.mpr (base_pos _))]
  rfl

theorem exp_tile (h : ℕ) : Real.exp (256 * lgR h) = (1 - 2⁻¹ ^ (5 + h)) ^ 256 := by
  have := Real.exp_nat_mul (lgR h) 256
  rw [Nat.cast_ofNat] at this
  rw [this, lgR, Real.exp_log (base_pos h)]

theorem kdecE_eq (h : Fin 4) (r : Fin 256) : kdecE h r = ((Real.exp ((255 - (r.val : ℝ)) * lgR h.val) : ℝ) : EReal) := by
  have e : (BitVec.ofNat 32 r.val).toInt = (r.val : ℤ) := (by decide +kernel : ∀ r : Fin 256, (BitVec.ofNat 32 r.val).toInt = (r.val : ℤ)) r
  unfold kdecE
  rw [lgE_eq, c255_eq, e, ← EReal.coe_sub, ← EReal.coe_mul]
  rfl

theorem tdecE_eq (h : Fin 4) (t : Fin 4096) : tdecE h t = ((Real.exp ((4095 - (t.val : ℝ)) * lgR h.val) : ℝ) : EReal) := by
  have e : (BitVec.ofNat 32 t.val).toInt = (t.val : ℤ) :=
    (by decide +kernel : ∀ t : Fin 4096, (BitVec.ofNat 32 t.val).toInt = (t.val : ℤ)) t
  unfold tdecE
  rw [lgE_eq, c4095_eq, e, ← EReal.coe_sub, ← EReal.coe_mul]
  rfl

theorem mul_sum_pos {ι : Type} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The state after `n` tiles. -/
def tiles (L : ℝ) (k v : ℕ → EReal) (n : ℕ) : EReal :=
  ∑ t ∈ Finset.range (256 * n), k t * ((Real.exp ((256 * n - 1 - t) * L) : ℝ) : EReal) * v t

theorem tiles_zero (L : ℝ) (k v : ℕ → EReal) : tiles L k v 0 = 0 := by simp [tiles]

theorem tiles_succ (L : ℝ) (k v : ℕ → EReal) (n : ℕ) :
    tiles L k v (n + 1) = ((Real.exp (256 * L) : ℝ) : EReal) * tiles L k v n +
      ∑ r : Fin 256, k (256 * n + r) * ((Real.exp ((255 - (r.val : ℝ)) * L) : ℝ) : EReal) * v (256 * n + r) := by
  unfold tiles
  rw [mul_sum_pos _ _ (by exact_mod_cast (Real.exp_pos _).le) (EReal.coe_ne_top _), show 256 * (n + 1) = 256 * n + 256 by ring,
    Finset.sum_range_add, Finset.sum_range (fun r => _) (n := 256)]
  congr 1
  · refine Finset.sum_congr rfl fun t _ => ?_
    have : Real.exp ((256 * ((n + 1 : ℕ) : ℝ) - 1 - t) * L) = Real.exp (256 * L) * Real.exp ((256 * n - 1 - t) * L) := by
      rw [← Real.exp_add]; congr 1; push_cast; ring
    rw [this, EReal.coe_mul]
    simp only [mul_assoc, mul_left_comm]
  · refine Finset.sum_congr rfl fun r _ => ?_
    congr 4
    push_cast; ring

end Cert.Spec

end

end
-- ==== Proof.Layer.lean ====
/-
  The rest of the layer's mathematics: the retention's outputs, the windowed attention with sinks and their merge.
-/
module

public import proofs.«01_k».proof.Proof.Decay

@[expose] public section

set_option maxRecDepth 16384
noncomputable section
open Idealize.ShloMosaic
namespace Cert.Spec

/-- The angle by which position `t` turns the pair `i` of a head of 64 columns. -/
def ang64 (t i : ℕ) : EReal :=
  (((BitVec.ofNat 32 t).toInt : ℝ) : EReal) *
    Ideal.pow (Ideal.ofBits .f32 0x461C4000#32)
      (Ideal.div (-(Ideal.ofBits .f32 0x40000000#32 * (((BitVec.ofNat 32 i).toInt : ℝ) : EReal))) (Ideal.ofBits .f32 0x42800000#32))

/-- The rotation's cosine and signed sine of a position, over the 64 columns of a head. -/
def cos64 (t : Fin 4096) (d : Fin 64) : EReal :=
  if h : d.val < 32 then Ideal.cos (ang64 t d) else Ideal.cos (ang64 t (d - 32))
def sin64 (t : Fin 4096) (d : Fin 64) : EReal :=
  if h : d.val < 32 then -Ideal.sin (ang64 t d) else Ideal.sin (ang64 t (d - 32))

/-- The decay between two positions, none backwards; and the decay from a tile's start to one of its rows. -/
def dcE (h n m : ℕ) : EReal :=
  if 0 ≤ (((BitVec.ofNat 32 n).toInt : ℝ) : EReal) - (((BitVec.ofNat 32 m).toInt : ℝ) : EReal) then
    Ideal.exp (max ((((BitVec.ofNat 32 n).toInt : ℝ) : EReal) - (((BitVec.ofNat 32 m).toInt : ℝ) : EReal)) 0 * lgE h) else 0
def crossE (h : Fin 4) (r : Fin 256) : EReal :=
  Ideal.exp (((((BitVec.ofNat 32 r.val).toInt : ℝ) : EReal) + 1) * lgE h)

/-- A head's 64 columns divided by the root of their mean square, times the gains. -/
def nrm (p g : Fin 64 → EReal) (e : Fin 64) : EReal :=
  p e * Ideal.rsqrt (Ideal.div (∑ i : Fin 64, p i * p i) (Ideal.ofBits .f32 0x42800000#32) + Ideal.ofBits .f32 0x358637BD#32) * g e

/-- A head's 64 columns turned by the position. -/
def turn (t : Fin 4096) (x : Fin 64 → EReal) (e : Fin 64) : EReal :=
  if h : e.val < 32 then x e * Ideal.cos (ang64 t e) - x ⟨32 + e, by omega⟩ * Ideal.sin (ang64 t e)
  else x ⟨32 + (e - 32), by omega⟩ * Ideal.cos (ang64 t (e - 32)) + x ⟨e - 32, by omega⟩ * Ideal.sin (ang64 t (e - 32))

abbrev HArr := (⟨2, ![1, 64]⟩ : Shape).Idx → EReal

/-- The window's queries and keys: normed and turned. -/
def sq (X : XArr) (G : GArr) (W : WArr) (g : HArr) (b : Fin 4) (t : Fin 4096) (h : Fin 16) (e : Fin 64) : EReal :=
  turn t (nrm (fun i => pj X G W b t ⟨3072 + (h.val * 64 + i.val), by omega⟩) (fun i => g (ix2 0 i))) e
def sk (X : XArr) (G : GArr) (W : WArr) (g : HArr) (b : Fin 4) (t : Fin 4096) (h : Fin 4) (e : Fin 64) : EReal :=
  turn t (nrm (fun i => pj X G W b t ⟨4096 + (h.val * 64 + i.val), by omega⟩) (fun i => g (ix2 0 i))) e

abbrev RArr := (⟨3, ![1, 4, 256]⟩ : Shape).Idx → EReal
abbrev SArr := (⟨2, ![1, 16]⟩ : Shape).Idx → EReal
abbrev OArr := (⟨3, ![1, 1024, 1024]⟩ : Shape).Idx → EReal

/-- A head's query, turned by its position. -/
def qr (X : XArr) (G : GArr) (W : WArr) (b : Fin 4) (t : Fin 4096) (h : Fin 4) (d : Fin 128) : EReal :=
  if h1 : d.val < 64 then
      pj X G W b t ⟨h.val * 128 + d.val, by omega⟩ * Ideal.cos (ang t d) -
        pj X G W b t ⟨h.val * 128 + (64 + d.val), by omega⟩ * Ideal.sin (ang t d)
    else
      pj X G W b t ⟨h.val * 128 + (64 + (d.val - 64)), by omega⟩ * Ideal.cos (ang t (d - 64)) +
        pj X G W b t ⟨h.val * 128 + (d.val - 64), by omega⟩ * Ideal.sin (ang t (d - 64))

/-- The retention's output: every earlier token's value, by its score and the decay since. -/
def ret (X : XArr) (G : GArr) (W : WArr) (b : Fin 4) (t : Fin 4096) (h : Fin 4) (e : Fin 256) : EReal :=
  ∑ m : Fin 4096, vr X G W b m h e * ((∑ d : Fin 128, qr X G W b t h d * kr X G W b m h d) * dcE h t m)

/-- A head's 256 columns divided by the root of their mean square, times the gains. -/
def nrm256 (p g : Fin 256 → EReal) (e : Fin 256) : EReal :=
  p e * Ideal.rsqrt (Ideal.div (∑ i : Fin 256, p i * p i) (Ideal.ofBits .f32 0x43800000#32) + Ideal.ofBits .f32 0x358637BD#32) * g e

/-- The logistic function. -/
def sig (x : EReal) : EReal := Ideal.div 1 (1 + Ideal.exp (-x))

/-- The retention's normed and gated output, and its branch. -/
def rgate (X : XArr) (G : GArr) (W : WArr) (R : RArr) (b : Fin 4) (t : Fin 4096) (k : Fin 1024) : EReal :=
  nrm256 (fun e => ret X G W b t ⟨k / 256, by omega⟩ e) (fun e => R (ix3 0 ⟨k / 256, by omega⟩ e)) ⟨k % 256, by omega⟩ *
    (pj X G W b t ⟨2048 + k, by omega⟩ * sig (pj X G W b t ⟨2048 + k, by omega⟩))
def brR (X : XArr) (G : GArr) (W : WArr) (R : RArr) (A : OArr) (b : Fin 4) (t : Fin 4096) (n : Fin 1024) : EReal :=
  ∑ k : Fin 1024, rgate X G W R b t k * A (ix3 0 k n)

/-- Row `j` of the two blocks of 128 rows that block `q` attends to: the block before, absent before the first, then its own. -/
def win (f : Fin 4096 → EReal) (q : Fin 32) (j : Fin 256) : EReal :=
  if h : j.val < 128 then (if h' : q.val < 1 then 0 else f ⟨(q.val - 1) * 128 + j.val, by omega⟩) else f ⟨q.val * 128 + (j.val - 128), by omega⟩

/-- Which of these rows row `i` of the block attends to: the last 128 up to its own. -/
def okE (q : Fin 32) (i : Fin 128) (j : Fin 256) : Prop := i.val + 1 ≤ j.val ∧ j.val ≤ i.val + 128 ∧ (0 < q.val ∨ 128 ≤ j.val)
instance (q : Fin 32) (i : Fin 128) (j : Fin 256) : Decidable (okE q i j) := by unfold okE; infer_instance

/-- The scores, the sink among them, their softmax and the values' mean by it. -/
def withSink (s : Fin 256 → EReal) (sink : EReal) (j : Fin 257) : EReal := if h : j.val < 256 then s ⟨j, h⟩ else sink
def att (s : Fin 256 → EReal) (sink : EReal) (v : Fin 256 → EReal) : EReal :=
  ∑ j : Fin 256, v j * Ideal.div
    (Ideal.exp (withSink s sink ⟨j, by omega⟩ - max (Ideal.ofBits .f32 0xFF800000#32) (Finset.univ.fold max (Ideal.ofBits .f32 0xFF800000#32) (withSink s sink))))
    (∑ k : Fin 257, Ideal.exp (withSink s sink k - max (Ideal.ofBits .f32 0xFF800000#32) (Finset.univ.fold max (Ideal.ofBits .f32 0xFF800000#32) (withSink s sink))))

section window
variable (X : XArr) (G : GArr) (W : WArr) (gq gk : HArr) (S : SArr) (b : Fin 4)

def sc (q : Fin 32) (i : Fin 128) (h : Fin 16) (j : Fin 256) : EReal :=
  if okE q i j then
    (∑ e : Fin 64, sq X G W gq b ⟨q * 128 + i, by omega⟩ h e * win (fun t => sk X G W gk b t ⟨h / 4, by omega⟩ e) q j) * Ideal.ofBits .f32 0x3E000000#32
  else Ideal.ofBits .f32 0xFF800000#32

/-- The windowed attention's output, gated, and its branch. -/
def so (q : Fin 32) (i : Fin 128) (h : Fin 16) (e : Fin 64) : EReal :=
  att (sc X G W gq gk b q i h) (S (ix2 0 h)) (win (fun t => pj X G W b t ⟨4352 + (h / 4 * 64 + e), by omega⟩) q)
def sgate (t : Fin 4096) (k : Fin 1024) : EReal :=
  so X G W gq gk S b ⟨t / 128, by omega⟩ ⟨t % 128, by omega⟩ ⟨k / 64, by omega⟩ ⟨k % 64, by omega⟩ *
    (pj X G W b t ⟨4608 + k, by omega⟩ * sig (pj X G W b t ⟨4608 + k, by omega⟩))
def brS (B : OArr) (t : Fin 4096) (n : Fin 1024) : EReal := ∑ k : Fin 1024, sgate X G W gq gk S b t k * B (ix3 0 k n)

/-- The layer's output. -/
def yE (R : RArr) (A B O : OArr) (t : Fin 4096) (n : Fin 1024) : EReal :=
  X (ix3 b t n) + ∑ k : Fin 1024,
    (sig (pj X G W b t ⟨5632 + k, by omega⟩) * brR X G W R A b t k + sig (pj X G W b t ⟨6656 + k, by omega⟩) * brS X G W gq gk S b B t k) * O (ix3 0 k n)
end window

end Cert.Spec

end

end
-- ==== Proof.Ref.lean ====
module

public import proofs.«01_k».proof.Proof.Gen.ReferenceIdeal.Read
public import proofs.«01_k».proof.Proof.Layer
public import Idealize.ShloMosaic.Lib.Pointwise

@[expose] public section

set_option maxRecDepth 16384
noncomputable section
open Idealize.ShloMosaic
namespace Cert.ReferenceIdeal.Ref
open Cert.ReferenceIdeal Cert.ReferenceIdeal.Read Cert.Spec

theorem h_at (X : XArr) (G : GArr) (b : Fin 4) (t : Fin 4096) (k : Fin 1024) :
    val_main_v22 (F := Ideal) X G (ix3 b t k) = hN X G b t k := by
  pointwise [val_main_v22, val_main_v21, val_main_v20, val_main_v19, val_main_v18, val_main_v17, val_main_v16, val_main_v15, val_main_v14, val_main_v13, val_main_v12, val_main_v11, val_main_v10, val_main_v9, val_main_cst_2, val_main_cst_3, val_main_cst_4, hN]

theorem p_at (X : XArr) (G : GArr) (W : WArr) (b : Fin 4) (t : Fin 4096) (e : Fin 7680) :
    val_main_v24 (F := Ideal) X G W (ix3 b t e) = pj X G W b t e := by
  pointwise [val_main_v24, val_main_v23]
  simp only [h_at, pj]

theorem v_at (X : XArr) (G : GArr) (W : WArr) (b : Fin 4) (r : Fin 128) (e : Fin 256) :
    val_main_v275 (F := Ideal) X G W (ix3 b r e) = pj X G W b ⟨3968 + r, by omega⟩ ⟨4352 + e, by omega⟩ := by
  pointwise [val_main_v275, val_main_v31]
  simp only [p_at]

theorem cosq_at (t : Fin 4096) (i : Fin 64) : val_main_v52 (F := Ideal) (ix2 t i) = Ideal.cos (ang t i) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem sinq_at (t : Fin 4096) (i : Fin 64) : val_main_v54 (F := Ideal) (ix2 t i) = Ideal.sin (ang t i) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem cos_at (t : Fin 4096) (i : Fin 64) : val_main_v90 (F := Ideal) (ix2 t i) = Ideal.cos (ang t i) := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem sin_at (t : Fin 4096) (i : Fin 64) : val_main_v92 (F := Ideal) (ix2 t i) = Ideal.sin (ang t i) := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem q_at (X : XArr) (G : GArr) (W : WArr) (b : Fin 4) (t : Fin 4096) (h : Fin 4) (d : Fin 128) :
    val_main_v72 (F := Ideal) X G W (ix4 b t h d) = qr X G W b t h d := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v53, val_main_v35, val_main_v25, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [p_at, cosq_at, sinq_at]
  rfl

theorem k_at (X : XArr) (G : GArr) (W : WArr) (b : Fin 4) (t : Fin 4096) (h : Fin 4) (d : Fin 128) :
    val_main_v112 (F := Ideal) X G W (ix4 b t h d) = kr X G W b t h d := by
  pointwise [val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v91, val_main_v73, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [p_at, cos_at, sin_at]
  rfl

theorem rv_at (X : XArr) (G : GArr) (W : WArr) (b : Fin 4) (t : Fin 4096) (h : Fin 4) (e : Fin 256) :
    val_main_v113 (F := Ideal) X G W (ix4 b t h e) = vr X G W b t h e := by
  pointwise [val_main_v113, val_main_v27]
  simp only [p_at]
  rfl

theorem s_at (X : XArr) (G : GArr) (W : WArr) (b : Fin 4) (h : Fin 4) (d : Fin 128) (e : Fin 256) :
    val_main_v149 (F := Ideal) X G W (ix4 b h d e) = st X G W b h d e := by
  pointwise [val_main_v149, val_main_v148, val_main_v147, val_main_v146, val_main_v145, val_main_v144, val_main_v143, val_main_v142, val_main_v141, val_main_v140, val_main_v139, val_main_v138, val_main_v114, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [rv_at, k_at]
  rfl

theorem dec_at (h : Fin 4) (n m : Fin 4096) : val_main_v131 (F := Ideal) (ix3 h n m) = dcE h n m := by
  pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v7, val_main_v6, val_main_v5, val_main_v4, val_main_v3, val_main_v2, val_main_v1, val_main_v0, val_main_call0_v0, val_main_call0_v1, val_main_call0_v2, id, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem ret_at (X : XArr) (G : GArr) (W : WArr) (b : Fin 4) (t : Fin 4096) (h : Fin 4) (e : Fin 256) :
    val_main_v137 (F := Ideal) X G W (ix4 b t h e) = ret X G W b t h e := by
  pointwise [val_main_v137, val_main_v136, val_main_v135, val_main_v134, val_main_v133, val_main_v132, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [rv_at, k_at, q_at, dec_at]
  rfl

theorem rgate_at (X : XArr) (G : GArr) (W : WArr) (R : RArr) (b : Fin 4) (t : Fin 4096) (k : Fin 1024) :
    val_main_v166 (F := Ideal) X G W R (ix3 b t k) = rgate X G W R b t k := by
  pointwise [val_main_v166, val_main_v165, val_main_v164, val_main_v163, val_main_v162, val_main_v161, val_main_v160, val_main_v159, val_main_v158, val_main_v157, val_main_v156, val_main_v155, val_main_v154, val_main_v153, val_main_v152, val_main_v151, val_main_v150, val_main_v28, val_main_call1_v0, val_main_call1_v1, val_main_call1_v2, val_main_call1_v3, val_main_call1_v4, val_main_call1_v5, val_main_call1_cst, val_main_call1_cst_0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [p_at, ret_at]
  rfl

theorem brR_at (X : XArr) (G : GArr) (W : WArr) (R : RArr) (A : OArr) (b : Fin 4) (t : Fin 4096) (n : Fin 1024) :
    val_main_v168 (F := Ideal) X G W R A (ix3 b t n) = brR X G W R A b t n := by
  pointwise [val_main_v168, val_main_v167]
  simp only [rgate_at]
  rfl

theorem cosa_at (t : Fin 4096) (i : Fin 32) : val_main_v200 (F := Ideal) (ix2 t i) = Ideal.cos (ang64 t i) := by
  pointwise [val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem sina_at (t : Fin 4096) (i : Fin 32) : val_main_v202 (F := Ideal) (ix2 t i) = Ideal.sin (ang64 t i) := by
  pointwise [val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem cosb_at (t : Fin 4096) (i : Fin 32) : val_main_v252 (F := Ideal) (ix2 t i) = Ideal.cos (ang64 t i) := by
  pointwise [val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem sinb_at (t : Fin 4096) (i : Fin 32) : val_main_v254 (F := Ideal) (ix2 t i) = Ideal.sin (ang64 t i) := by
  pointwise [val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  rfl

theorem nq_at (X : XArr) (G : GArr) (W : WArr) (g : HArr) (b : Fin 4) (t : Fin 4096) (h : Fin 16) (e : Fin 64) :
    val_main_v183 (F := Ideal) X G W g (ix4 b t h e) = nrm (fun i => pj X G W b t ⟨3072 + (h.val * 64 + i.val), by omega⟩) (fun i => g (ix2 0 i)) e := by
  pointwise [val_main_v183, val_main_v182, val_main_v181, val_main_v180, val_main_v179, val_main_v178, val_main_v177, val_main_v176, val_main_v175, val_main_v174, val_main_v173, val_main_v172, val_main_v171, val_main_v170, val_main_v169, val_main_v29, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [p_at]
  rfl

theorem nk_at (X : XArr) (G : GArr) (W : WArr) (g : HArr) (b : Fin 4) (t : Fin 4096) (h : Fin 4) (e : Fin 64) :
    val_main_v235 (F := Ideal) X G W g (ix4 b t h e) = nrm (fun i => pj X G W b t ⟨4096 + (h.val * 64 + i.val), by omega⟩) (fun i => g (ix2 0 i)) e := by
  pointwise [val_main_v235, val_main_v234, val_main_v233, val_main_v232, val_main_v231, val_main_v230, val_main_v229, val_main_v228, val_main_v227, val_main_v226, val_main_v225, val_main_v224, val_main_v223, val_main_v222, val_main_v221, val_main_v30, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [p_at]
  rfl

theorem sq_at (X : XArr) (G : GArr) (W : WArr) (g : HArr) (b : Fin 4) (t : Fin 4096) (h : Fin 16) (e : Fin 64) :
    val_main_v220 (F := Ideal) X G W g (ix4 b t h e) = sq X G W g b t h e := by
  pointwise [val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v201, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [nq_at, cosa_at, sina_at]
  rfl

theorem sk_at (X : XArr) (G : GArr) (W : WArr) (g : HArr) (b : Fin 4) (t : Fin 4096) (h : Fin 4) (e : Fin 64) :
    val_main_v272 (F := Ideal) X G W g (ix4 b t h e) = sk X G W g b t h e := by
  pointwise [val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v253, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_39, val_main_cst_40, val_main_cst_41, val_main_cst_42, val_main_cst_43, val_main_cst_44, val_main_cst_45, val_main_cst_46, val_main_cst_47, val_main_cst_48, val_main_cst_49]
  simp only [nk_at, cosb_at, sinb_at]
  rfl

theorem kb_at (X : XArr) (G : GArr) (W : WArr) (g : HArr) (b : Fin 4) (r : Fin 128) (e : Fin 256) :
    val_main_v274 (F := Ideal) X G W g (ix3 b r e) = sk X G W g b ⟨3968 + r, by omega⟩ ⟨e / 64, by omega⟩ ⟨e % 64, by omega⟩ := by
  pointwise [val_main_v274, val_main_v273]
  simp only [sk_at]

end Cert.ReferenceIdeal.Ref

end

end
-- ==== Proof.Ref2.lean ====
/-
  The reference's windowed attention, its branch and the layer's output, read at an index.
-/
module

public import proofs.«01_k».proof.Proof.Ref

@[expose] public section

set_option maxRecDepth 16384
noncomputable section
open Idealize.ShloMosaic
namespace Cert.ReferenceIdeal.Ref
open Cert.ReferenceIdeal Cert.ReferenceIdeal.Read Cert.Spec

theorem band_at (i : Fin 128) (j : Fin 256) : IntOp.andi
    (IntOp.cmpi .sge (IntOp.subi (IntOp.addi (BitVec.ofNat 32 i.val) 128#32) (BitVec.ofNat 32 j.val)) 0#32)
    (IntOp.cmpi .slt (IntOp.subi (IntOp.addi (BitVec.ofNat 32 i.val) 128#32) (BitVec.ofNat 32 j.val)) 128#32) =
      if i.val + 1 ≤ j.val ∧ j.val ≤ i.val + 128 then 1#1 else 0#1 := by
  revert i j
  decide +kernel

theorem first_at (q : Fin 32) : IntOp.cmpi .sgt (BitVec.ofNat 32 q.val) 0#32 = if 0 < q.val then 1#1 else 0#1 := by
  revert q
  decide +kernel

theorem own_at (j : Fin 256) : IntOp.cmpi .sge (BitVec.ofNat 32 j.val) 128#32 = if 128 ≤ j.val then 1#1 else 0#1 := by
  revert j
  decide +kernel

theorem ok_at (q : Fin 32) (i : Fin 128) (j : Fin 256) : val_main_v305 (F := Ideal) (ix3 q i j) = if okE q i j then 1#1 else 0#1 := by
  pointwise [val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_c, val_main_c_35, val_main_c_36, val_main_c_37, val_main_c_38]
  refine (congrArg₂ IntOp.andi (band_at i j) (congrArg₂ IntOp.ori (first_at q) (own_at j))).trans ?_
  by_cases h1 : i.val + 1 ≤ j.val ∧ j.val ≤ i.val + 128 <;> by_cases h2 : 0 < q.val <;> by_cases h3 : 128 ≤ j.val <;>
    simp only [okE, h1, h2, h3, ← and_assoc, if_true, if_false, true_or, or_true, or_false, and_true, and_false, true_and] <;> rfl

/-- Positions regrouped into blocks of 128. -/
theorem blocks (f : FVec Ideal S4x4096x16x64 .f32) (hc : S4x4096x16x64.ShapeCasts S4x32x128x16x64) (b : Fin 4) (q : Fin 32) (i : Fin 128) (h : Fin 16) (e : Fin 64) :
    shapeCast S4x32x128x16x64 f hc (ix5 b q i h e) = f (ix4 b ⟨q * 128 + i, by omega⟩ h e) :=
  shapeCast_apply f hc _ _ (by
    rewrite [Shape.rowMajor_val_four, Shape.rowMajor_val_five]
    show ((b.val * 4096 + (q.val * 128 + i.val)) * 16 + h.val) * 64 + e.val = (((b.val * 32 + q.val) * 128 + i.val) * 16 + h.val) * 64 + e.val
    omega)

/-- Four query heads to a key head. -/
theorem groups (f : FVec Ideal S4x4096x4x4x64 .f32) (hc : S4x4096x4x4x64.ShapeCasts S4x4096x16x64) (b : Fin 4) (t : Fin 4096) (h : Fin 16) (e : Fin 64) :
    shapeCast S4x4096x16x64 f hc (ix4 b t h e) = f (ix5 b t (⟨h / 4, by omega⟩ : Fin 4) (⟨h % 4, by omega⟩ : Fin 4) e) :=
  shapeCast_apply f hc _ _ (by
    rewrite [Shape.rowMajor_val_five, Shape.rowMajor_val_four]
    show (((b.val * 4096 + t.val) * 4 + h.val / 4) * 4 + h.val % 4) * 64 + e.val = ((b.val * 4096 + t.val) * 16 + h.val) * 64 + e.val
    omega)

/-- The blocks laid out as positions again, the heads side by side. -/
theorem flat (f : FVec Ideal S4x32x128x16x64 .f32) (hc : S4x32x128x16x64.ShapeCasts S4x4096x1024) (b : Fin 4) (t : Fin 4096) (k : Fin 1024) :
    shapeCast S4x4096x1024 f hc (ix3 b t k) =
      f (ix5 b (⟨t / 128, by omega⟩ : Fin 32) (⟨t % 128, by omega⟩ : Fin 128) (⟨k / 64, by omega⟩ : Fin 16) (⟨k % 64, by omega⟩ : Fin 64)) :=
  shapeCast_apply f hc _ _ (by
    rewrite [Shape.rowMajor_val_five, Shape.rowMajor_val_three]
    show (((b.val * 32 + t.val / 128) * 128 + t.val % 128) * 16 + k.val / 64) * 64 + k.val % 64 = (b.val * 4096 + t.val) * 1024 + k.val
    omega)

theorem rep_at (X : XArr) (G : GArr) (W : WArr) (g : HArr) (b : Fin 4) (t : Fin 4096) (h : Fin 4) (r : Fin 4) (e : Fin 64) :
    val_main_v307 (F := Ideal) X G W g (ix5 b t h r e) = sk X G W g b t h e := by
  unfold val_main_v307
  have hf := sk_at X G W g b t h e
  generalize val_main_v272 (F := Ideal) X G W g = f at hf ⊢
  rw [← hf]
  pointwise

theorem kblk_at (X : XArr) (G : GArr) (W : WArr) (g : HArr) (b : Fin 4) (q : Fin 32) (i : Fin 128) (h : Fin 16) (e : Fin 64) :
    val_main_v309 (F := Ideal) X G W g (ix5 b q i h e) = sk X G W g b ⟨q * 128 + i, by omega⟩ ⟨h / 4, by omega⟩ e := by
  unfold val_main_v309 val_main_v308
  have hf := rep_at X G W g
  generalize val_main_v307 (F := Ideal) X G W g = f at hf ⊢
  exact (blocks _ _ b q i h e).trans ((groups _ _ b _ h e).trans (hf _ _ _ _ _))

theorem catBlocks_left (x y : FVec Ideal S4x32x128x16x64 .f32) (hc : Shape.Concatenates [S4x32x128x16x64, S4x32x128x16x64] S4x32x256x16x64 2)
    (b : Fin 4) (q : Fin 32) (j : Fin 256) (h : Fin 16) (e : Fin 64) (hj : j.val < 128) :
    concatenate S4x32x256x16x64 2 [⟨S4x32x128x16x64, x⟩, ⟨S4x32x128x16x64, y⟩] hc (ix5 b q j h e) = x (ix5 b q (⟨j, hj⟩ : Fin 128) h e) :=
  concatenate_pair_apply_left 2 x y hc _ rfl _ (fun a => by fin_cases a <;> rfl)

theorem catBlocks_right (x y : FVec Ideal S4x32x128x16x64 .f32) (hc : Shape.Concatenates [S4x32x128x16x64, S4x32x128x16x64] S4x32x256x16x64 2)
    (b : Fin 4) (q : Fin 32) (j : Fin 256) (h : Fin 16) (e : Fin 64) (hj : ¬ j.val < 128) :
    concatenate S4x32x256x16x64 2 [⟨S4x32x128x16x64, x⟩, ⟨S4x32x128x16x64, y⟩] hc (ix5 b q j h e) = y (ix5 b q (⟨j - 128, by omega⟩ : Fin 128) h e) :=
  concatenate_pair_apply_right 2 x y hc _ rfl rfl _ (fun a ha => by fin_cases a <;> first | rfl | exact absurd rfl ha)
    (by show (j.val - 128) + 128 = j.val; omega)

theorem catFirst_left (x : FVec Ideal S4x1x128x16x64 .f32) (y : FVec Ideal S4x31x128x16x64 .f32)
    (hc : Shape.Concatenates [S4x1x128x16x64, S4x31x128x16x64] S4x32x128x16x64 1)
    (b : Fin 4) (q : Fin 32) (j : Fin 128) (h : Fin 16) (e : Fin 64) (hq : q.val < 1) :
    concatenate S4x32x128x16x64 1 [⟨S4x1x128x16x64, x⟩, ⟨S4x31x128x16x64, y⟩] hc (ix5 b q j h e) = x (ix5 b (⟨q, hq⟩ : Fin 1) j h e) :=
  concatenate_pair_apply_left 1 x y hc _ rfl _ (fun a => by fin_cases a <;> rfl)

theorem catFirst_right (x : FVec Ideal S4x1x128x16x64 .f32) (y : FVec Ideal S4x31x128x16x64 .f32)
    (hc : Shape.Concatenates [S4x1x128x16x64, S4x31x128x16x64] S4x32x128x16x64 1)
    (b : Fin 4) (q : Fin 32) (j : Fin 128) (h : Fin 16) (e : Fin 64) (hq : ¬ q.val < 1) :
    concatenate S4x32x128x16x64 1 [⟨S4x1x128x16x64, x⟩, ⟨S4x31x128x16x64, y⟩] hc (ix5 b q j h e) = y (ix5 b (⟨q - 1, by omega⟩ : Fin 31) j h e) :=
  concatenate_pair_apply_right 1 x y hc _ rfl rfl _ (fun a ha => by fin_cases a <;> first | rfl | exact absurd rfl ha)
    (by show (q.val - 1) + 1 = q.val; omega)

theorem cut_at (f : FVec Ideal S4x32x128x16x64 .f32) (hs : S4x32x128x16x64.Slices ![0, 0, 0, 0, 0] S4x31x128x16x64)
    (b : Fin 4) (q : Fin 31) (j : Fin 128) (h : Fin 16) (e : Fin 64) :
    extractStridedSlice S4x31x128x16x64 ![0, 0, 0, 0, 0] f hs (ix5 b q j h e) = f (ix5 b (⟨q, by omega⟩ : Fin 32) j h e) :=
  extractStridedSlice_apply _ f hs _ _ (fun a => by fin_cases a <;> exact (Nat.zero_add _).symm)

/-- The window's first block holds the constant. -/
theorem none_at (i : S4x1x128x16x64.Idx) : val_main_v311 (F := Ideal) i = 0 := by
  rw [val_main_v311_apply]
  pointwise [val_main_cst_39]

theorem kw_at (X : XArr) (G : GArr) (W : WArr) (g : HArr) (b : Fin 4) (q : Fin 32) (j : Fin 256) (h : Fin 16) (e : Fin 64) :
    val_main_v314 (F := Ideal) X G W g (ix5 b q j h e) = win (fun t => sk X G W g b t ⟨h / 4, by omega⟩ e) q j := by
  unfold val_main_v314 val_main_v313 val_main_v312
  have hf := kblk_at X G W g
  have hz := none_at
  generalize val_main_v309 (F := Ideal) X G W g = f at hf ⊢
  generalize val_main_v311 (F := Ideal) = z at hz ⊢
  by_cases hj : j.val < 128
  · rw [catBlocks_left _ _ _ b q j h e hj]
    by_cases hq : q.val < 1
    · rw [catFirst_left _ _ _ b q _ h e hq, hz, win, dif_pos hj, dif_pos hq]
    · rw [catFirst_right _ _ _ b q _ h e hq, cut_at, hf, win, dif_pos hj, dif_neg hq]
  · rw [catBlocks_right _ _ _ b q j h e hj, hf, win, dif_neg hj]

theorem vw_at (X : XArr) (G : GArr) (W : WArr) (b : Fin 4) (q : Fin 32) (j : Fin 256) (h : Fin 16) (e : Fin 64) :
    val_main_v322 (F := Ideal) X G W (ix5 b q j h e) = win (fun t => pj X G W b t ⟨4352 + (h / 4 * 64 + e), by omega⟩) q j := by
  unfold val_main_v322 val_main_v321 val_main_v320 val_main_v319 val_main_v317 val_main_v316 val_main_v315 val_main_v276 val_main_v31
  have hf : ∀ b t e, val_main_v24 (F := Ideal) X G W (ix3 b t e) = pj X G W b t e := p_at X G W
  generalize val_main_v24 (F := Ideal) X G W = f at hf ⊢
  generalize pj X G W = s at hf ⊢
  pointwise [val_main_cst_39, val_main_cst_40, val_main_cst_41, val_main_cst_42, val_main_cst_43, val_main_cst_44, val_main_cst_45]
  simp only [hf]
  rfl

theorem qblk_at (X : XArr) (G : GArr) (W : WArr) (g : HArr) (b : Fin 4) (q : Fin 32) (i : Fin 128) (h : Fin 16) (e : Fin 64) :
    val_main_v306 (F := Ideal) X G W g (ix5 b q i h e) = Spec.sq X G W g b ⟨q * 128 + i, by omega⟩ h e := by
  unfold val_main_v306
  have hf := sq_at X G W g
  generalize val_main_v220 (F := Ideal) X G W g = f at hf ⊢
  exact (blocks _ _ b q i h e).trans (hf _ _ _ _)

/-- A block's queries against its window of keys. -/
theorem qk_at (X : XArr) (G : GArr) (W : WArr) (gq gk : HArr) (b : Fin 4) (q : Fin 32) (h : Fin 16) (i : Fin 128) (j : Fin 256) :
    val_main_v323 (F := Ideal) X G W gq gk (ix5 b q h i j) =
      ∑ e : Fin 64, Spec.sq X G W gq b ⟨q * 128 + i, by omega⟩ h e * win (fun t => sk X G W gk b t ⟨h / 4, by omega⟩ e) q j := by
  unfold val_main_v323
  have hf := qblk_at X G W gq
  have hk := kw_at X G W gk
  generalize val_main_v306 (F := Ideal) X G W gq = f at hf ⊢
  generalize val_main_v314 (F := Ideal) X G W gk = w at hk ⊢
  simp only [← hf, ← hk]
  pointwise

theorem okAll_at (b : Fin 4) (q : Fin 32) (h : Fin 16) (i : Fin 128) (j : Fin 256) :
    val_main_call2_v1 (F := Ideal) (ix5 b q h i j) = if okE q i j then 1#1 else 0#1 := by
  rw [val_main_call2_v1_apply, val_main_v326_apply]
  have ho := ok_at q i j
  generalize val_main_v305 (F := Ideal) = o at ho ⊢
  rw [← ho]
  exact congrArg o (funext fun a => by fin_cases a <;> rfl)

theorem masked_at (i : S4x32x16x128x256.Idx) : val_main_call2_v2 (F := Ideal) i = Ideal.ofBits .f32 0xFF800000#32 := by
  rw [val_main_call2_v2_apply]
  rfl

theorem scale_at (i : S4x32x16x128x256.Idx) : val_main_v324 (F := Ideal) i = Ideal.ofBits .f32 0x3E000000#32 := by
  rw [val_main_v324_apply]
  rfl

theorem sc_at (X : XArr) (G : GArr) (W : WArr) (gq gk : HArr) (b : Fin 4) (q : Fin 32) (h : Fin 16) (i : Fin 128) (j : Fin 256) :
    val_main_v327 (F := Ideal) X G W gq gk (ix5 b q h i j) = sc X G W gq gk b q i h j := by
  rw [val_main_v327_apply, val_main_v325_apply, okAll_at, masked_at, scale_at, qk_at, sc]
  generalize (∑ e : Fin 64, _ : EReal) = v
  split <;> rfl

theorem ws_at (X : XArr) (G : GArr) (W : WArr) (gq gk : HArr) (S : SArr) (b : Fin 4) (q : Fin 32) (h : Fin 16) (i : Fin 128) (j : Fin 257) :
    val_main_v330 (F := Ideal) X G W gq gk S (ix5 b q h i j) = withSink (sc X G W gq gk b q i h) (S (ix2 0 h)) j := by
  unfold val_main_v330 val_main_v329 val_main_v328 val_main_v277 withSink
  have hf : ∀ b q h i j, val_main_v327 (F := Ideal) X G W gq gk (ix5 b q h i j) = sc X G W gq gk b q i h j := sc_at X G W gq gk
  generalize val_main_v327 (F := Ideal) X G W gq gk = f at hf ⊢
  generalize sc X G W gq gk = s at hf ⊢
  pointwise [val_main_cst_39, val_main_cst_40, val_main_cst_41, val_main_cst_42, val_main_cst_43, val_main_cst_44, val_main_cst_45]
  simp only [hf]

/-- A row's largest, from the constant. -/
theorem row_max (red : S4x32x16x128x257.ReducesTo [4] S4x32x16x128) (hu : 0 < S_.numel) (g : FVec Ideal S4x32x16x128x257 .f32) (c : FVec Ideal S_ .f32)
    (b : Fin 4) (q : Fin 32) (h : Fin 16) (i : Fin 128) :
    Host.reduce FloatOps.maximumf g c red hu (ix4 b q h i) = Finset.univ.fold max (c (Shape.Idx.first hu)) (fun k : Fin 257 => g (ix5 b q h i k)) := by
  simp only [pointwise]

/-- The largest of a row's scores and its sink. -/
theorem mx_at (X : XArr) (G : GArr) (W : WArr) (gq gk : HArr) (S : SArr) (b : Fin 4) (q : Fin 32) (h : Fin 16) (i : Fin 128) :
    val_main_v333 (F := Ideal) X G W gq gk S (ix4 b q h i) =
      max (Ideal.ofBits .f32 0xFF800000#32) (Finset.univ.fold max (Ideal.ofBits .f32 0xFF800000#32) (withSink (sc X G W gq gk b q i h) (S (ix2 0 h)))) := by
  have c43 : ∀ i, val_main_cst_43 (F := Ideal) i = Ideal.ofBits .f32 0xFF800000#32 := fun _ => rfl
  have c44 : ∀ i, val_main_cst_44 (F := Ideal) i = Ideal.ofBits .f32 0xFF800000#32 := fun _ => rfl
  have hf : (fun k : Fin 257 => val_main_v330 (F := Ideal) X G W gq gk S (ix5 b q h i k)) = withSink (sc X G W gq gk b q i h) (S (ix2 0 h)) :=
    funext fun j => ws_at X G W gq gk S b q h i j
  rw [val_main_v333_apply, val_main_v332_apply, c44]
  unfold val_main_v331
  rw [row_max, c43, hf]
  generalize withSink (sc X G W gq gk b q i h) (S (ix2 0 h)) = w
  exact Ideal.maximumf_def _ _

theorem ex_at (X : XArr) (G : GArr) (W : WArr) (gq gk : HArr) (S : SArr) (b : Fin 4) (q : Fin 32) (h : Fin 16) (i : Fin 128) (j : Fin 257) :
    val_main_v337 (F := Ideal) X G W gq gk S (ix5 b q h i j) =
      Ideal.exp (withSink (sc X G W gq gk b q i h) (S (ix2 0 h)) j - val_main_v333 (F := Ideal) X G W gq gk S (ix4 b q h i)) := by
  unfold val_main_v337 val_main_v336 val_main_v335 val_main_v334
  have hf : ∀ b q h i j, val_main_v330 (F := Ideal) X G W gq gk S (ix5 b q h i j) = withSink (sc X G W gq gk b q i h) (S (ix2 0 h)) j := ws_at X G W gq gk S
  generalize val_main_v330 (F := Ideal) X G W gq gk S = f at hf ⊢
  generalize val_main_v333 (F := Ideal) X G W gq gk S = g
  pointwise
  simp only [hf]

theorem sm_at (X : XArr) (G : GArr) (W : WArr) (gq gk : HArr) (S : SArr) (b : Fin 4) (q : Fin 32) (h : Fin 16) (i : Fin 128) (j : Fin 257) :
    val_main_v341 (F := Ideal) X G W gq gk S (ix5 b q h i j) =
      Ideal.div (val_main_v337 (F := Ideal) X G W gq gk S (ix5 b q h i j)) (∑ k : Fin 257, val_main_v337 (F := Ideal) X G W gq gk S (ix5 b q h i k)) := by
  unfold val_main_v341 val_main_v340 val_main_v339 val_main_v338
  generalize val_main_v337 (F := Ideal) X G W gq gk S = g
  pointwise [val_main_cst_45]

theorem so_at (X : XArr) (G : GArr) (W : WArr) (gq gk : HArr) (S : SArr) (b : Fin 4) (q : Fin 32) (i : Fin 128) (h : Fin 16) (e : Fin 64) :
    val_main_v344 (F := Ideal) X G W gq gk S (ix5 b q i h e) = so X G W gq gk S b q i h e := by
  unfold val_main_v344 val_main_v343 val_main_v342
  have hw : ∀ b q j h e, val_main_v322 (F := Ideal) X G W (ix5 b q j h e) = win (fun t => pj X G W b t ⟨4352 + (h / 4 * 64 + e), by omega⟩) q j := vw_at X G W
  have hf := sm_at X G W gq gk S
  simp only [ex_at X G W gq gk S, mx_at X G W gq gk S] at hf
  have hs : so X G W gq gk S b q i h e = ∑ j : Fin 256, val_main_v322 (F := Ideal) X G W (ix5 b q j h e) * val_main_v341 (F := Ideal) X G W gq gk S (ix5 b q h i ⟨j, by omega⟩) := by
    unfold so att
    simp only [hw, hf]
  rw [hs]
  clear hs hf hw
  generalize val_main_v341 (F := Ideal) X G W gq gk S = f
  generalize val_main_v322 (F := Ideal) X G W = w
  pointwise

theorem silu_at (X : XArr) (G : GArr) (W : WArr) (b : Fin 4) (t : Fin 4096) (k : Fin 1024) :
    val_main_v346 (F := Ideal) X G W (ix3 b t k) = pj X G W b t ⟨4608 + k, by omega⟩ * Spec.sig (pj X G W b t ⟨4608 + k, by omega⟩) := by
  unfold val_main_v346 val_main_call3_v5 val_main_call3_v4 val_main_call3_v3 val_main_call3_v2 val_main_call3_v1 val_main_call3_v0 val_main_v32
  have hp := p_at X G W b t ⟨4608 + k, by omega⟩
  generalize val_main_v24 (F := Ideal) X G W = p at hp ⊢
  rw [← hp]
  pointwise [val_main_call3_cst, val_main_call3_cst_0]
  rfl

theorem sgate_at (X : XArr) (G : GArr) (W : WArr) (gq gk : HArr) (S : SArr) (b : Fin 4) (t : Fin 4096) (k : Fin 1024) :
    val_main_v347 (F := Ideal) X G W gq gk S (ix3 b t k) = sgate X G W gq gk S b t k := by
  have hv : val_main_v345 (F := Ideal) X G W gq gk S (ix3 b t k) =
      so X G W gq gk S b (⟨t / 128, by omega⟩ : Fin 32) (⟨t % 128, by omega⟩ : Fin 128) (⟨k / 64, by omega⟩ : Fin 16) (⟨k % 64, by omega⟩ : Fin 64) := by
    rw [← so_at]
    unfold val_main_v345
    generalize val_main_v344 (F := Ideal) X G W gq gk S = f
    exact flat f _ b t k
  rw [val_main_v347_apply, hv, silu_at, sgate]
  generalize so X G W gq gk S b _ _ _ _ = u
  generalize pj X G W b t _ = v
  rfl

theorem brS_at (X : XArr) (G : GArr) (W : WArr) (gq gk : HArr) (S : SArr) (B : OArr) (b : Fin 4) (t : Fin 4096) (n : Fin 1024) :
    val_main_v349 (F := Ideal) X G W gq gk S B (ix3 b t n) = brS X G W gq gk S b B t n := by
  unfold val_main_v349 val_main_v348 brS
  have hf : ∀ b t k, val_main_v347 (F := Ideal) X G W gq gk S (ix3 b t k) = sgate X G W gq gk S b t k := sgate_at X G W gq gk S
  generalize val_main_v347 (F := Ideal) X G W gq gk S = f at hf ⊢
  generalize sgate X G W gq gk S = s at hf ⊢
  pointwise
  simp only [hf]

theorem y_at (X : XArr) (G : GArr) (W : WArr) (R : RArr) (gq gk : HArr) (S : SArr) (A B O : OArr) (b : Fin 4) (t : Fin 4096) (n : Fin 1024) :
    val_main_v367 (F := Ideal) X G W R gq gk S A B O (ix3 b t n) = yE X G W gq gk S b R A B O t n := by
  unfold val_main_v367 val_main_v366 val_main_v365 val_main_v364 val_main_v363 val_main_v362 val_main_v361 val_main_v360 val_main_v359 val_main_v358 val_main_v357 val_main_v356 val_main_v355 val_main_v354 val_main_v353 val_main_v352 val_main_v351 val_main_v350 val_main_v33 val_main_v34 yE
  have hr : ∀ b t n, val_main_v168 (F := Ideal) X G W R A (ix3 b t n) = brR X G W R A b t n := brR_at X G W R A
  have hs : ∀ b t n, val_main_v349 (F := Ideal) X G W gq gk S B (ix3 b t n) = brS X G W gq gk S b B t n := brS_at X G W gq gk S B
  have hp : ∀ b t e, val_main_v24 (F := Ideal) X G W (ix3 b t e) = pj X G W b t e := p_at X G W
  generalize val_main_v168 (F := Ideal) X G W R A = f at hr ⊢
  generalize val_main_v349 (F := Ideal) X G W gq gk S B = f' at hs ⊢
  generalize val_main_v24 (F := Ideal) X G W = p at hp ⊢
  generalize brR X G W R A = r at hr ⊢
  generalize pj X G W = p' at hp ⊢
  pointwise [val_main_cst_46, val_main_cst_47, val_main_cst_48, val_main_cst_49]
  simp only [hr, hs, hp]
  rfl

end Cert.ReferenceIdeal.Ref

end

end
-- ==== Proof.Host.lean ====
module

public import proofs.«01_k».proof.Proof.Gen.KernelIdeal.Frame.Runs
public import proofs.«01_k».proof.Proof.Layer
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
namespace Cert.KernelIdeal.Host
open Cert.KernelIdeal Cert.KernelIdeal.Gen Cert.Spec
variable (m : (ℓ : Loc nD τ sig) → Buf (Elt Ideal) ℓ)

theorem ng_at (c : Dev nD) (k : Fin 1024) : V m c main_v1 (ix2 0 k) = m ((c : Thread nD τ).loc main_arg1) (ix2 0 k) := by
  unfold V
  simp only [List.flatten_cons, List.flatten_nil, List.append_nil, List.cons_append, List.nil_append, hostOps0, hostOps0_1, hostOps0_2, hostOps0_3, hostOps0_4, hostOps0_5, hostOps0_6]
  entry_read
  pointwise

theorem win_at (c : Dev nD) (k : Fin 1024) (e : Fin 7680) : V m c main_v3 (ix2 k e) = m ((c : Thread nD τ).loc main_arg2) (ix3 0 k e) := by
  unfold V
  simp only [List.flatten_cons, List.flatten_nil, List.append_nil, List.cons_append, List.nil_append, hostOps0, hostOps0_1, hostOps0_2, hostOps0_3, hostOps0_4, hostOps0_5, hostOps0_6]
  entry_read
  pointwise

theorem kdec_at (c : Dev nD) (h : Fin 4) (r : Fin 256) (d : Fin 128) : V m c main_v68 (ix3 h r d) = kdecE h r := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

theorem rcos_at (c : Dev nD) (r : Fin 4096) (d : Fin 128) : V m c main_v91 (ix2 r d) = cosE r d := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

theorem rsin_at (c : Dev nD) (r : Fin 4096) (d : Fin 128) : V m c main_v96 (ix2 r d) = sinE r d := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

theorem rng_at (c : Dev nD) (k : Fin 1024) : V m c main_v5 (ix2 0 k) = m ((c : Thread nD τ).loc main_arg3) (ix3 0 ⟨k / 256, by omega⟩ ⟨k % 256, by omega⟩) := by
  unfold V
  simp only [List.flatten_cons, List.flatten_nil, List.append_nil, List.cons_append, List.nil_append, hostOps0, hostOps0_1, hostOps0_2, hostOps0_3, hostOps0_4, hostOps0_5, hostOps0_6]
  entry_read
  pointwise

theorem qg_at (c : Dev nD) (k : Fin 256) : V m c main_v10 (ix2 0 k) = m ((c : Thread nD τ).loc main_arg4) (ix2 0 ⟨k % 64, by omega⟩) := by
  unfold V
  simp only [List.flatten_cons, List.flatten_nil, List.append_nil, List.cons_append, List.nil_append, hostOps0, hostOps0_1, hostOps0_2, hostOps0_3, hostOps0_4, hostOps0_5, hostOps0_6]
  entry_read
  pointwise

theorem kg_at (c : Dev nD) (k : Fin 256) : V m c main_v15 (ix2 0 k) = m ((c : Thread nD τ).loc main_arg5) (ix2 0 ⟨k % 64, by omega⟩) := by
  unfold V
  simp only [List.flatten_cons, List.flatten_nil, List.append_nil, List.cons_append, List.nil_append, hostOps0, hostOps0_1, hostOps0_2, hostOps0_3, hostOps0_4, hostOps0_5, hostOps0_6]
  entry_read
  pointwise

theorem sink_at (c : Dev nD) (k : Fin 16) : V m c main_v16 (ix1 k) = m ((c : Thread nD τ).loc main_arg6) (ix2 0 k) := by
  unfold V
  simp only [List.flatten_cons, List.flatten_nil, List.append_nil, List.cons_append, List.nil_append, hostOps0, hostOps0_1, hostOps0_2, hostOps0_3, hostOps0_4, hostOps0_5, hostOps0_6]
  entry_read
  pointwise

theorem wbr_at (c : Dev nD) (k e : Fin 1024) : V m c main_v18 (ix2 k e) = m ((c : Thread nD τ).loc main_arg7) (ix3 0 k e) := by
  unfold V
  simp only [List.flatten_cons, List.flatten_nil, List.append_nil, List.cons_append, List.nil_append, hostOps0, hostOps0_1, hostOps0_2, hostOps0_3, hostOps0_4, hostOps0_5, hostOps0_6]
  entry_read
  pointwise

theorem wbs_at (c : Dev nD) (k e : Fin 1024) : V m c main_v20 (ix2 k e) = m ((c : Thread nD τ).loc main_arg8) (ix3 0 k e) := by
  unfold V
  simp only [List.flatten_cons, List.flatten_nil, List.append_nil, List.cons_append, List.nil_append, hostOps0, hostOps0_1, hostOps0_2, hostOps0_3, hostOps0_4, hostOps0_5, hostOps0_6]
  entry_read
  pointwise

theorem wo_at (c : Dev nD) (k e : Fin 1024) : V m c main_v22 (ix2 k e) = m ((c : Thread nD τ).loc main_arg9) (ix3 0 k e) := by
  unfold V
  simp only [List.flatten_cons, List.flatten_nil, List.append_nil, List.cons_append, List.nil_append, hostOps0, hostOps0_1, hostOps0_2, hostOps0_3, hostOps0_4, hostOps0_5, hostOps0_6]
  entry_read
  pointwise

theorem scos_at (c : Dev nD) (r : Fin 4096) (d : Fin 128) : V m c main_v118 (ix2 r d) = cos64 r ⟨d % 64, by omega⟩ := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

theorem ssin_at (c : Dev nD) (r : Fin 4096) (d : Fin 128) : V m c main_v123 (ix2 r d) = sin64 r ⟨d % 64, by omega⟩ := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

theorem dmask_at (c : Dev nD) (h : Fin 4) (r s : Fin 256) : V m c main_v48 (ix3 h r s) = dcE h.val r.val s.val := by
  unfold V
  simp only [List.flatten_cons, List.flatten_nil, List.append_nil, List.cons_append, List.nil_append, hostOps0, hostOps0_1, hostOps0_2, hostOps0_3, hostOps0_4, hostOps0_5, hostOps0_6]
  entry_read
  simp -implicitDefEqProofs only [StableHlo.TRef.toBuf, StableHlo.TRef.ofBuf, cast_cast, cast_eq]
  pointwise
  rfl

theorem cross_at (c : Dev nD) (h : Fin 4) (r : Fin 256) (d : Fin 128) : V m c main_v58 (ix3 h r d) = crossE h r := by
  unfold V
  simp only [List.flatten_cons, List.flatten_nil, List.append_nil, List.cons_append, List.nil_append, hostOps0, hostOps0_1, hostOps0_2, hostOps0_3, hostOps0_4, hostOps0_5, hostOps0_6]
  entry_read
  pointwise
  rfl

/-- A column's group of 64, as the host divides. -/
theorem grp_at (k : Fin 256) : Scalar.select
    (IntOp.andi
      (IntOp.cmpi .ne (if BitVec.ofNat 32 k.val = 0 then (0 : BitVec 32) else if (BitVec.ofNat 32 k.val).msb = true then -1 else 1)
        (if 64#32 = 0 then 0 else if (64#32).msb = true then -1 else 1))
      (IntOp.cmpi .ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32) = BitVec.ofNat 32 (k.val / 64) := by
  revert k
  decide +kernel

theorem eq_at (a b : Fin 4) : IntOp.cmpi .eq (BitVec.ofNat 32 a.val) (BitVec.ofNat 32 b.val) = if a.val = b.val then 1#1 else 0#1 := by
  revert a b
  decide +kernel

theorem gmat_at (c : Dev nD) (k e : Fin 256) : V m c main_v134 (ix2 k e) = if k.val / 64 = e.val / 64 then Ideal.ofBits .f32 0x3C800000#32 else 0 := by
  unfold V
  simp only [List.flatten_cons, List.flatten_nil, List.append_nil, List.cons_append, List.nil_append, hostOps0, hostOps0_1, hostOps0_2, hostOps0_3, hostOps0_4, hostOps0_5, hostOps0_6]
  entry_read
  simp -implicitDefEqProofs only [StableHlo.TRef.toBuf, StableHlo.TRef.ofBuf, cast_cast, cast_eq]
  pointwise
  refine (congrArg₂ (fun a b => Scalar.select (IntOp.cmpi .eq a b) (Ideal.ofBits .f32 0x3C800000#32) (0 : EReal)) (grp_at k) (grp_at e)).trans ?_
  rw [eq_at ⟨k / 64, by omega⟩ ⟨e / 64, by omega⟩]
  split <;> rfl

end Cert.KernelIdeal.Host

end

end
-- ==== Proof.Blk.lean ====
/-
  What each input window holds at a point: the whole array, or the point's rows of it.
-/
module

public import proofs.«01_k».proof.Proof.Gen.KernelIdeal.Frame
public import proofs.«01_k».proof.Proof.Host

@[expose] public section

set_option maxRecDepth 16384
noncomputable section
open Idealize.ShloMosaic Idealize.ShloMosaic.TcCoe Idealize.SL.Sem
namespace Cert.KernelIdeal.Blk
open Cert.KernelIdeal Cert.KernelIdeal.Gen Cert.Spec
variable (m : (ℓ : Loc nD τ sig) → Buf (Elt Ideal) ℓ)

/-- The blocks' placements: the prompt's by batch and tile, the tables' by tile, all others at the origin. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx10 : ∀ t : Fin cfg0.N, win0_10.index t (0 : Fin 2) = t.val % 16 ∧ win0_10.index t (1 : Fin 2) = 0 :=
  (by decide +kernel : ∀ t : Fin grid0.N, _)
theorem idx11 : ∀ t : Fin cfg0.N, win0_11.index t (0 : Fin 2) = t.val % 16 ∧ win0_11.index t (1 : Fin 2) = 0 :=
  (by decide +kernel : ∀ t : Fin grid0.N, _)
theorem idx12 : ∀ t : Fin cfg0.N, win0_12.index t (0 : Fin 2) = t.val % 16 ∧ win0_12.index t (1 : Fin 2) = 0 :=
  (by decide +kernel : ∀ t : Fin grid0.N, _)
theorem idx13 : ∀ t : Fin cfg0.N, win0_13.index t (0 : Fin 2) = t.val % 16 ∧ win0_13.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)
theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)
theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)

theorem b0 (c : Dev nD) (t : Fin cfg0.N) (b : Fin 4) (j : Fin 16) (ht : t.val = 16 * b.val + j.val) (r : Fin 256) (k : Fin 1024) : iblk m c 0 t (ix3 0 r k) = m ((c : Thread nD τ).loc main_arg0) (ix3 b ⟨256 * j + r, by omega⟩ k) := by
  have hix := idx0 t
  have hb : t.val < 64 := lt_of_lt_of_eq t.isLt N_0
  blk_point [iblk, idx0 t]

theorem b10 (c : Dev nD) (t : Fin cfg0.N) (b : Fin 4) (j : Fin 16) (ht : t.val = 16 * b.val + j.val) (r : Fin 256) (k : Fin 128) : iblk m c 10 t (ix2 r k) = V m c main_v91 (ix2 ⟨256 * j + r, by omega⟩ k) := by
  have hix := idx10 t
  have hb : t.val < 64 := lt_of_lt_of_eq t.isLt N_0
  blk_point [iblk, idx10 t]

theorem b11 (c : Dev nD) (t : Fin cfg0.N) (b : Fin 4) (j : Fin 16) (ht : t.val = 16 * b.val + j.val) (r : Fin 256) (k : Fin 128) : iblk m c 11 t (ix2 r k) = V m c main_v96 (ix2 ⟨256 * j + r, by omega⟩ k) := by
  have hix := idx11 t
  have hb : t.val < 64 := lt_of_lt_of_eq t.isLt N_0
  blk_point [iblk, idx11 t]

theorem b12 (c : Dev nD) (t : Fin cfg0.N) (b : Fin 4) (j : Fin 16) (ht : t.val = 16 * b.val + j.val) (r : Fin 256) (k : Fin 128) : iblk m c 12 t (ix2 r k) = V m c main_v118 (ix2 ⟨256 * j + r, by omega⟩ k) := by
  have hix := idx12 t
  have hb : t.val < 64 := lt_of_lt_of_eq t.isLt N_0
  blk_point [iblk, idx12 t]

theorem b13 (c : Dev nD) (t : Fin cfg0.N) (b : Fin 4) (j : Fin 16) (ht : t.val = 16 * b.val + j.val) (r : Fin 256) (k : Fin 128) : iblk m c 13 t (ix2 r k) = V m c main_v123 (ix2 ⟨256 * j + r, by omega⟩ k) := by
  have hix := idx13 t
  have hb : t.val < 64 := lt_of_lt_of_eq t.isLt N_0
  blk_point [iblk, idx13 t]

theorem b1 (c : Dev nD) (t : Fin cfg0.N) (r : Fin 1) (k : Fin 1024) : iblk m c 1 t (ix2 r k) = V m c main_v1 (ix2 r k) := by
  have hix := idx1 t
  have hb : t.val < 64 := lt_of_lt_of_eq t.isLt N_0
  blk_point [iblk, idx1 t]

theorem b2 (c : Dev nD) (t : Fin cfg0.N) (r : Fin 1024) (k : Fin 7680) : iblk m c 2 t (ix2 r k) = V m c main_v3 (ix2 r k) := by
  have hix := idx2 t
  have hb : t.val < 64 := lt_of_lt_of_eq t.isLt N_0
  blk_point [iblk, idx2 t]

theorem b3 (c : Dev nD) (t : Fin cfg0.N) (r : Fin 1) (k : Fin 1024) : iblk m c 3 t (ix2 r k) = V m c main_v5 (ix2 r k) := by
  have hix := idx3 t
  have hb : t.val < 64 := lt_of_lt_of_eq t.isLt N_0
  blk_point [iblk, idx3 t]

theorem b4 (c : Dev nD) (t : Fin cfg0.N) (r : Fin 1) (k : Fin 256) : iblk m c 4 t (ix2 r k) = V m c main_v10 (ix2 r k) := by
  have hix := idx4 t
  have hb : t.val < 64 := lt_of_lt_of_eq t.isLt N_0
  blk_point [iblk, idx4 t]

theorem b5 (c : Dev nD) (t : Fin cfg0.N) (r : Fin 1) (k : Fin 256) : iblk m c 5 t (ix2 r k) = V m c main_v15 (ix2 r k) := by
  have hix := idx5 t
  have hb : t.val < 64 := lt_of_lt_of_eq t.isLt N_0
  blk_point [iblk, idx5 t]

theorem b7 (c : Dev nD) (t : Fin cfg0.N) (r : Fin 1024) (k : Fin 1024) : iblk m c 7 t (ix2 r k) = V m c main_v18 (ix2 r k) := by
  have hix := idx7 t
  have hb : t.val < 64 := lt_of_lt_of_eq t.isLt N_0
  blk_point [iblk, idx7 t]

theorem b8 (c : Dev nD) (t : Fin cfg0.N) (r : Fin 1024) (k : Fin 1024) : iblk m c 8 t (ix2 r k) = V m c main_v20 (ix2 r k) := by
  have hix := idx8 t
  have hb : t.val < 64 := lt_of_lt_of_eq t.isLt N_0
  blk_point [iblk, idx8 t]

theorem b9 (c : Dev nD) (t : Fin cfg0.N) (r : Fin 1024) (k : Fin 1024) : iblk m c 9 t (ix2 r k) = V m c main_v22 (ix2 r k) := by
  have hix := idx9 t
  have hb : t.val < 64 := lt_of_lt_of_eq t.isLt N_0
  blk_point [iblk, idx9 t]

theorem b17 (c : Dev nD) (t : Fin cfg0.N) (r : Fin 256) (k : Fin 256) : iblk m c 17 t (ix2 r k) = V m c main_v134 (ix2 r k) := by
  have hix := idx17 t
  have hb : t.val < 64 := lt_of_lt_of_eq t.isLt N_0
  blk_point [iblk, idx17 t]

theorem b14 (c : Dev nD) (t : Fin cfg0.N) (h : Fin 4) (r : Fin 256) (k : Fin 256) : iblk m c 14 t (ix3 h r k) = V m c main_v48 (ix3 h r k) := by
  have hix := idx14 t
  have hb : t.val < 64 := lt_of_lt_of_eq t.isLt N_0
  blk_point [iblk, idx14 t]

theorem b15 (c : Dev nD) (t : Fin cfg0.N) (h : Fin 4) (r : Fin 256) (k : Fin 128) : iblk m c 15 t (ix3 h r k) = V m c main_v58 (ix3 h r k) := by
  have hix := idx15 t
  have hb : t.val < 64 := lt_of_lt_of_eq t.isLt N_0
  blk_point [iblk, idx15 t]

theorem b16 (c : Dev nD) (t : Fin cfg0.N) (h : Fin 4) (r : Fin 256) (k : Fin 128) : iblk m c 16 t (ix3 h r k) = V m c main_v68 (ix3 h r k) := by
  have hix := idx16 t
  have hb : t.val < 64 := lt_of_lt_of_eq t.isLt N_0
  blk_point [iblk, idx16 t]

end Cert.KernelIdeal.Blk

end

end
-- ==== Proof.Pay.lean ====
/-
  What the body computes from a point's blocks: the normed rows, the projections and the turned keys.
-/
module

public import proofs.«01_k».proof.Proof.Blk

@[expose] public section

set_option maxRecDepth 16384
noncomputable section
open Idealize.ShloMosaic Idealize.ShloMosaic.TcCoe Idealize.SL.Sem
namespace Cert.KernelIdeal.Pay
open Cert.KernelIdeal Cert.KernelIdeal.Gen Cert.Spec Cert.KernelIdeal.Blk Cert.KernelIdeal.Host
variable (m : (ℓ : Loc nD τ sig) → Buf (Elt Ideal) ℓ)

/-- The tokens, the norm's gains and the projection's weights. -/
abbrev XA (c : Dev nD) : XArr := m ((c : Thread nD τ).loc main_arg0)
abbrev GA (c : Dev nD) : GArr := m ((c : Thread nD τ).loc main_arg1)
abbrev WA (c : Dev nD) : WArr := m ((c : Thread nD τ).loc main_arg2)

/-- Row `r` of tile `j`. -/
abbrev tok (j : Fin 16) (r : Fin 256) : Fin 4096 := ⟨256 * j + r, by omega⟩

theorem pay19_at (v : FVec Ideal S256x1024 .bf16) (w : Vec Ideal S1024x512 .bf16) (r : Fin 256) (d : Fin 512) :
    k0_pay19 v w (ix2 r d) = ∑ k : Fin 1024, v (ix2 r k) * w (ix2 k d) := by
  pointwise [k0_pay19]

theorem pay20_at (v : FVec Ideal S256x1024 .bf16) (w : Vec Ideal S1024x1024 .bf16) (r : Fin 256) (d : Fin 1024) :
    k0_pay20 v w (ix2 r d) = ∑ k : Fin 1024, v (ix2 r k) * w (ix2 k d) := by
  pointwise [k0_pay20]

section point
variable (c : Dev nD) (t : Fin cfg0.N) (b : Fin 4) (j : Fin 16) (ht : t.val = 16 * b.val + j.val)
include ht

/-- The normed rows of the point. -/
theorem h_at (r : Fin 256) (k : Fin 1024) :
    k0_pay9 (F := Ideal) (iblk m c 0 t) (iblk m c 1 t) (ix2 r k) = hN (XA m c) (GA m c) b (tok j r) k := by
  pointwise [k0_pay9, k0_pay8]
  simp only [b0 m c t b j ht, b1 m c t]
  rw [ng_at m c k]
  rfl

/-- A block of columns of the projection, as the weights' block is read. -/
theorem w_at (lo n : ℕ) (inb) (k : Fin 1024) (d : Fin n) (hd : lo + d.val < 7680) :
    View.ld (iblk m c 2 t) (Rect.unit (s := S1024x7680) ![0, lo] ![1024, n] inb) (ix2 k d) = WA m c (ix3 0 k ⟨lo + d, hd⟩) := by
  pointwise
  rw [b2 m c t, win_at]

theorem proj_sum (v : FVec Ideal S256x1024 .bf16) (hv : v = k0_pay9 (F := Ideal) (iblk m c 0 t) (iblk m c 1 t))
    (lo n : ℕ) (inb) (r : Fin 256) (d : Fin n) (hd : lo + d.val < 7680) :
    ∑ k : Fin 1024, v (ix2 r k) * View.ld (iblk m c 2 t) (Rect.unit (s := S1024x7680) ![0, lo] ![1024, n] inb) (ix2 k d)
      = pj (XA m c) (GA m c) (WA m c) b (tok j r) ⟨lo + d, hd⟩ := by
  subst hv
  exact Finset.sum_congr rfl fun k _ => by rw [h_at m c t b j ht, w_at m c t b j ht lo n inb k d hd]

theorem rk_at (r : Fin 256) (d : Fin 512) :
    k0_pay19 (k0_pay9 (F := Ideal) (iblk m c 0 t) (iblk m c 1 t)) (View.ld (iblk m c 2 t) (Rect.unit ![0, 512] ![1024, 512] inb_S1024x7680_S1024x512_0_512)) (ix2 r d)
      = pj (XA m c) (GA m c) (WA m c) b (tok j r) ⟨512 + d, by omega⟩ := by
  rw [pay19_at]
  exact proj_sum m c t b j ht _ rfl 512 512 _ r d (by omega)

theorem rv_at (r : Fin 256) (d : Fin 1024) :
    k0_pay20 (k0_pay9 (F := Ideal) (iblk m c 0 t) (iblk m c 1 t)) (View.ld (iblk m c 2 t) (Rect.unit ![0, 1024] ![1024, 1024] inb_S1024x7680_S1024x1024_0_1024)) (ix2 r d)
      = pj (XA m c) (GA m c) (WA m c) b (tok j r) ⟨1024 + d, by omega⟩ := by
  rw [pay20_at]
  exact proj_sum m c t b j ht _ rfl 1024 1024 _ r d (by omega)

/-- The last rows of the window's values. -/
theorem vo_at (r : Fin 128) (e : Fin 256) :
    k0_pay4 (k0_pay69 (k0_pay9 (F := Ideal) (iblk m c 0 t) (iblk m c 1 t))
        (View.ld (iblk m c 2 t) (Rect.unit ![0, 4352] ![1024, 256] inb_S1024x7680_S1024x256_0_4352))) (ix3 0 r e)
      = pj (XA m c) (GA m c) (WA m c) b (tok j ⟨128 + r, by omega⟩) ⟨4352 + e, by omega⟩ := by
  have e1 : ∀ (v : FVec Ideal S256x1024 .bf16) (w : Vec Ideal S1024x256 .bf16),
      k0_pay4 (k0_pay69 v w) (ix3 0 r e) = ∑ k : Fin 1024, v (ix2 ⟨128 + r, by omega⟩ k) * w (ix2 k e) := by
    intro v w
    pointwise [k0_pay4, k0_pay69]
  rw [e1]
  exact proj_sum m c t b j ht _ rfl 4352 256 _ ⟨128 + r, by omega⟩ e (by omega)

theorem tabs (r : Fin 256) (d : Fin 128) : iblk m c 10 t (ix2 r d) = cosE (tok j r) d ∧ iblk m c 11 t (ix2 r d) = sinE (tok j r) d := by
  rw [b10 m c t b j ht, b11 m c t b j ht, rcos_at, rsin_at]
  exact ⟨rfl, rfl⟩
end point

/-- A head's turned and scaled key, from the two columns that the turn mixes. -/
theorem rope_eq (X : XArr) (G : GArr) (W : WArr) (b : Fin 4) (t : Fin 4096) (h : Fin 4) (d : Fin 128) (e1 e2 : Fin 7680)
    (h1 : e1.val = 512 + (h.val * 128 + d.val)) (h2 : e2.val = 512 + (h.val * 128 + (d.val + 128 - 64) % 128)) :
    (pj X G W b t e1 * cosE t d + pj X G W b t e2 * sinE t d) * Ideal.ofBits .f32 0x3DB504F3#32 = kr X G W b t h d := by
  unfold kr cosE sinE
  split
  · rename_i hd
    have ge1 : e1 = ⟨512 + (h.val * 128 + d.val), by omega⟩ := Fin.ext h1
    have ge2 : e2 = ⟨512 + (h.val * 128 + (64 + d.val)), by omega⟩ := Fin.ext (by rw [h2]; dsimp only; omega)
    rw [ge1, ge2, mul_neg, ← sub_eq_add_neg]
  · rename_i hd
    have ge1 : e1 = ⟨512 + (h.val * 128 + (64 + (d.val - 64))), by omega⟩ := Fin.ext (by rw [h1]; dsimp only; omega)
    have ge2 : e2 = ⟨512 + (h.val * 128 + (d.val - 64)), by omega⟩ := Fin.ext (by rw [h2]; dsimp only; omega)
    rw [ge1, ge2]

end Cert.KernelIdeal.Pay

end

end
-- ==== Proof.State.lean ====
/-
  One tile's step of the state, and the state after each tile.
-/
module

public import proofs.«01_k».proof.Proof.Pay
public import proofs.«01_k».proof.Proof.Decay
public import Idealize.ShloMosaic.Lib.Pipeline.ReadBack

@[expose] public section

set_option maxRecDepth 16384
noncomputable section
open Idealize.ShloMosaic Idealize.ShloMosaic.TcCoe Idealize.SL.Sem
namespace Cert.KernelIdeal.State
open Cert.KernelIdeal Cert.KernelIdeal.Gen Cert.Spec Cert.KernelIdeal.Blk Cert.KernelIdeal.Host Cert.KernelIdeal.Pay
variable (m : (ℓ : Loc nD τ sig) → Buf (Elt Ideal) ℓ)

/-- The literals named "decay0" to "decay3" are what a head keeps over a tile. -/
theorem dec0 : (Named.named κ "decay0" 0x399ACCA1#32 : Ideal .f32) = ((Real.exp (256 * lgR 0) : ℝ) : EReal) := by
  refine (IdealRules.named_const.ideal_named_scalar _ _ _ _ rfl).trans ?_
  rw [exp_tile]; norm_num
theorem dec1 : (Named.named κ "decay1" 0x3C9160A5#32 : Ideal .f32) = ((Real.exp (256 * lgR 1) : ℝ) : EReal) := by
  refine (IdealRules.named_const.ideal_named_scalar _ _ _ _ rfl).trans ?_
  rw [exp_tile]; norm_num
theorem dec2 : (Named.named κ "decay2" 0x3E097FCE#32 : Ideal .f32) = ((Real.exp (256 * lgR 2) : ℝ) : EReal) := by
  refine (IdealRules.named_const.ideal_named_scalar _ _ _ _ rfl).trans ?_
  rw [exp_tile]; norm_num
theorem dec3 : (Named.named κ "decay3" 0x3EBBFC5D#32 : Ideal .f32) = ((Real.exp (256 * lgR 3) : ℝ) : EReal) := by
  refine (IdealRules.named_const.ideal_named_scalar _ _ _ _ rfl).trans ?_
  rw [exp_tile]; norm_num

/-- What a tile adds to the state. -/
def addS (c : Dev nD) (b : Fin 4) (j : Fin 16) (h : Fin 4) (d : Fin 128) (e : Fin 256) : EReal :=
  ∑ r : Fin 256, kr (XA m c) (GA m c) (WA m c) b (tok j r) h d * kdecE h r * vr (XA m c) (GA m c) (WA m c) b (tok j r) h e

section point
variable (c : Dev nD) (t : Fin cfg0.N) (b : Fin 4) (j : Fin 16) (ht : t.val = 16 * b.val + j.val)
include ht

theorem kdec_blk (h : Fin 4) (r : Fin 256) (d : Fin 128) : iblk m c 16 t (ix3 h r d) = kdecE h r := by
  rw [b16 m c t, kdec_at]

/-- A token's share of the state, from the two columns that a key's turn mixes. -/
theorem row_eq (r : Fin 256) (h : Fin 4) (d : Fin 128) (e : Fin 256) (e1 e2 e3 : Fin 7680)
    (h1 : e1.val = 512 + (h.val * 128 + d.val)) (h2 : e2.val = 512 + (h.val * 128 + (d.val + 128 - 64) % 128)) (h3 : e3.val = 1024 + (h.val * 256 + e.val)) :
    (pj (XA m c) (GA m c) (WA m c) b (tok j r) e1 * cosE (tok j r) d + pj (XA m c) (GA m c) (WA m c) b (tok j r) e2 * sinE (tok j r) d) *
        Ideal.ofBits .f32 0x3DB504F3#32 * kdecE h r * pj (XA m c) (GA m c) (WA m c) b (tok j r) e3
      = kr (XA m c) (GA m c) (WA m c) b (tok j r) h d * kdecE h r * vr (XA m c) (GA m c) (WA m c) b (tok j r) h e := by
  rw [rope_eq (XA m c) (GA m c) (WA m c) b (tok j r) h d e1 e2 h1 h2]
  unfold vr
  congr 2
  exact Fin.ext h3

/-- What each head's store leaves in the state. -/
theorem piece0 (S : Vec Ideal S1x128x256 .f32) (d : Fin 128) (e : Fin 256) :
    k0_pay29 (k0_pay24 (k0_pay9 (F := Ideal) (iblk m c 0 t) (iblk m c 1 t)) (View.ld (iblk m c 2 t) (Rect.unit ![0, 512] ![1024, 512] inb_S1024x7680_S1024x512_0_512)) (iblk m c 10 t) (iblk m c 11 t)) (k0_pay25 (k0_pay9 (F := Ideal) (iblk m c 0 t) (iblk m c 1 t)) (View.ld (iblk m c 2 t) (Rect.unit ![0, 1024] ![1024, 1024] inb_S1024x7680_S1024x1024_0_1024))) S (View.ld (iblk m c 16 t) (Rect.unit ![0, 0, 0] ![1, 256, 128] inb_S4x256x128_S1x256x128_0_0_0)) (ix3 0 d e) = ((Real.exp (256 * lgR 0) : ℝ) : EReal) * S (ix3 0 d e) + addS m c b j 0 d e := by
  pointwise [k0_pay29, k0_pay24, k0_pay25, k0_pay26, k0_pay21, k0_pay22]
  rw [dec0]
  simp only [rk_at m c t b j ht, rv_at m c t b j ht, fun r d => (tabs m c t b j ht r d).1, fun r d => (tabs m c t b j ht r d).2, kdec_blk m c t b j ht]
  exact congrArg (HAdd.hAdd _) (Finset.sum_congr rfl fun r _ => row_eq m c t b j ht r 0 d e _ _ _ (by simp) (by simp) (by simp))

theorem piece1 (S : Vec Ideal S1x128x256 .f32) (d : Fin 128) (e : Fin 256) :
    k0_pay38 (k0_pay31 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay32 (k0_pay20 (k0_pay9 (F := Ideal) (iblk m c 0 t) (iblk m c 1 t)) (View.ld (iblk m c 2 t) (Rect.unit ![0, 1024] ![1024, 1024] inb_S1024x7680_S1024x1024_0_1024)))) (k0_pay33 S) (View.ld (iblk m c 16 t) (Rect.unit ![1, 0, 0] ![1, 256, 128] inb_S4x256x128_S1x256x128_1_0_0)) (ix3 0 d e) = ((Real.exp (256 * lgR 1) : ℝ) : EReal) * S (ix3 0 d e) + addS m c b j 1 d e := by
  pointwise [k0_pay38, k0_pay31, k0_pay32, k0_pay33, k0_pay21, k0_pay22]
  rw [dec1]
  simp only [rk_at m c t b j ht, rv_at m c t b j ht, fun r d => (tabs m c t b j ht r d).1, fun r d => (tabs m c t b j ht r d).2, kdec_blk m c t b j ht]
  exact congrArg (HAdd.hAdd _) (Finset.sum_congr rfl fun r _ => row_eq m c t b j ht r 1 d e _ _ _ (by simp) (by simp) (by simp))

theorem piece2 (S : Vec Ideal S1x128x256 .f32) (d : Fin 128) (e : Fin 256) :
    k0_pay45 (k0_pay40 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay41 (k0_pay20 (k0_pay9 (F := Ideal) (iblk m c 0 t) (iblk m c 1 t)) (View.ld (iblk m c 2 t) (Rect.unit ![0, 1024] ![1024, 1024] inb_S1024x7680_S1024x1024_0_1024)))) (k0_pay42 S) (View.ld (iblk m c 16 t) (Rect.unit ![2, 0, 0] ![1, 256, 128] inb_S4x256x128_S1x256x128_2_0_0)) (ix3 0 d e) = ((Real.exp (256 * lgR 2) : ℝ) : EReal) * S (ix3 0 d e) + addS m c b j 2 d e := by
  pointwise [k0_pay45, k0_pay40, k0_pay41, k0_pay42, k0_pay21, k0_pay22]
  rw [dec2]
  simp only [rk_at m c t b j ht, rv_at m c t b j ht, fun r d => (tabs m c t b j ht r d).1, fun r d => (tabs m c t b j ht r d).2, kdec_blk m c t b j ht]
  exact congrArg (HAdd.hAdd _) (Finset.sum_congr rfl fun r _ => row_eq m c t b j ht r 2 d e _ _ _ (by simp) (by simp) (by simp))

theorem piece3 (S : Vec Ideal S1x128x256 .f32) (d : Fin 128) (e : Fin 256) :
    k0_pay54 (k0_pay47 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay48 (k0_pay20 (k0_pay9 (F := Ideal) (iblk m c 0 t) (iblk m c 1 t)) (View.ld (iblk m c 2 t) (Rect.unit ![0, 1024] ![1024, 1024] inb_S1024x7680_S1024x1024_0_1024)))) (k0_pay49 S) (View.ld (iblk m c 16 t) (Rect.unit ![3, 0, 0] ![1, 256, 128] inb_S4x256x128_S1x256x128_3_0_0)) (ix3 0 d e) = ((Real.exp (256 * lgR 3) : ℝ) : EReal) * S (ix3 0 d e) + addS m c b j 3 d e := by
  pointwise [k0_pay54, k0_pay47, k0_pay48, k0_pay49, k0_pay21, k0_pay22]
  rw [dec3]
  simp only [rk_at m c t b j ht, rv_at m c t b j ht, fun r d => (tabs m c t b j ht r d).1, fun r d => (tabs m c t b j ht r d).2, kdec_blk m c t b j ht]
  exact congrArg (HAdd.hAdd _) (Finset.sum_congr rfl fun r _ => row_eq m c t b j ht r 3 d e _ _ _ (by simp) (by simp) (by simp))

end point

/-- A list of pieces that holds the index reads there the same with earlier writes behind it. -/
theorem canon_drop {S : Shape} {e : EltTy} (L' : List (View.Piece (Elt Ideal) S e)) (y : S.Idx) :
    ∀ L : List (View.Piece (Elt Ideal) S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_drop L' y L ?_
      obtain ⟨q, hq, hyq⟩ := hc
      rcases List.mem_cons.mp hq with rfl | hq'
      · exact absurd hyq hm
      · exact ⟨q, hq', hyq⟩

theorem s_step (c : Dev nD) (t : Fin cfg0.N) (b : Fin 4) (j : Fin 16) (ht : t.val = 16 * b.val + j.val) (hj0 : j.val ≠ 0) (hd : Fin 4) (d : Fin 128) (e : Fin 256) :
    (outsAt0 m c t.val t.isLt).2.2.2.2.1 (ix3 hd d e) =
      ((Real.exp (256 * lgR hd.val) : ℝ) : EReal) * (outsAt0 m c (t.val - 1) (by omega)).2.2.2.2.1 (ix3 hd d e) + addS m c b j hd d e := by
  have h0 : ¬ t.val % 16 = 0 := by omega
  by_cases h1 : t.val % 16 = 15
  · rw [outsAt0_C m c t h0 h1]
    frame_out
    clear h0 h1
    simp only [read_unread_whole]
    generalize (outsAt0 m c (t.val - 1) _).2.2.2.2.1 = P
    canon_tiles
    · obtain rfl : hd = 3 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece3 m c t b j ht _ d e).trans ?_
      pointwise
    · obtain rfl : hd = 2 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece2 m c t b j ht _ d e).trans ?_
      pointwise
    · obtain rfl : hd = 1 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece1 m c t b j ht _ d e).trans ?_
      pointwise
    · obtain rfl : hd = 0 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece0 m c t b j ht _ d e).trans ?_
      pointwise
  · rw [outsAt0_B m c t h0 h1]
    frame_out
    clear h0 h1
    simp only [read_unread_whole]
    generalize (outsAt0 m c (t.val - 1) _).2.2.2.2.1 = P
    canon_tiles
    · obtain rfl : hd = 3 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece3 m c t b j ht _ d e).trans ?_
      pointwise
    · obtain rfl : hd = 2 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece2 m c t b j ht _ d e).trans ?_
      pointwise
    · obtain rfl : hd = 1 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece1 m c t b j ht _ d e).trans ?_
      pointwise
    · obtain rfl : hd = 0 := Fin.ext (by have := h0; simp at this ⊢; omega)
      obtain rfl : x = ix3 0 d e := by
        idx_vars x
        simp at h0 h1 h2
        obtain rfl : d = _ := Fin.ext h1
        obtain rfl : e = _ := Fin.ext h2
        rw [Subsingleton.elim x0 0]
      refine (piece0 m c t b j ht _ d e).trans ?_
      pointwise

theorem s_first (c : Dev nD) (t : Fin cfg0.N) (b : Fin 4) (j : Fin 16) (ht : t.val = 16 * b.val + j.val) (hj0 : j.val = 0) (hd : Fin 4) (d : Fin 128) (e : Fin 256) :
    (outsAt0 m c t.val t.isLt).2.2.2.2.1 (ix3 hd d e) =
      ((Real.exp (256 * lgR hd.val) : ℝ) : EReal) * 0 + addS m c b j hd d e := by
  have h0 : t.val % 16 = 0 := by omega
  have h1 : ¬ t.val % 16 = 15 := by omega
  rw [outsAt0_A m c t h0 h1]
  frame_out
  clear h0 h1
  simp (config := { decide := true }) only [↓ View.readCov_skip, ↓ View.readCov_fill]
  refine (canon_drop [_] _ [_, _, _, _] (View.cover_of_tiled_head _ _ _ rfl _)).trans ?_
  canon_tiles
  · obtain rfl : hd = 3 := Fin.ext (by have := h0; simp at this ⊢; omega)
    obtain rfl : x = ix3 0 d e := by
      idx_vars x
      simp at h0 h1 h2
      obtain rfl : d = _ := Fin.ext h1
      obtain rfl : e = _ := Fin.ext h2
      rw [Subsingleton.elim x0 0]
    refine (piece3 m c t b j ht _ d e).trans ?_
    pointwise [k0_pay5]
  · obtain rfl : hd = 2 := Fin.ext (by have := h0; simp at this ⊢; omega)
    obtain rfl : x = ix3 0 d e := by
      idx_vars x
      simp at h0 h1 h2
      obtain rfl : d = _ := Fin.ext h1
      obtain rfl : e = _ := Fin.ext h2
      rw [Subsingleton.elim x0 0]
    refine (piece2 m c t b j ht _ d e).trans ?_
    pointwise [k0_pay5]
  · obtain rfl : hd = 1 := Fin.ext (by have := h0; simp at this ⊢; omega)
    obtain rfl : x = ix3 0 d e := by
      idx_vars x
      simp at h0 h1 h2
      obtain rfl : d = _ := Fin.ext h1
      obtain rfl : e = _ := Fin.ext h2
      rw [Subsingleton.elim x0 0]
    refine (piece1 m c t b j ht _ d e).trans ?_
    pointwise [k0_pay5]
  · obtain rfl : hd = 0 := Fin.ext (by have := h0; simp at this ⊢; omega)
    obtain rfl : x = ix3 0 d e := by
      idx_vars x
      simp at h0 h1 h2
      obtain rfl : d = _ := Fin.ext h1
      obtain rfl : e = _ := Fin.ext h2
      rw [Subsingleton.elim x0 0]
    refine (piece0 m c t b j ht _ d e).trans ?_
    pointwise [k0_pay5]
end Cert.KernelIdeal.State

end

end
-- ==== Proof.Fold.lean ====
/-
  The state after each tile, and what the results' arrays hold after the run.
-/
module

public import proofs.«01_k».proof.Proof.State
public import proofs.«01_k».proof.Proof.Gen.KernelIdeal.Value

@[expose] public section

set_option maxRecDepth 16384
noncomputable section
open Idealize.ShloMosaic Idealize.ShloMosaic.TcCoe Idealize.SL.Sem
namespace Cert.KernelIdeal.Fold
open Cert.KernelIdeal Cert.KernelIdeal.Gen Cert.KernelIdeal.Value Cert.Spec Cert.KernelIdeal.Blk Cert.KernelIdeal.Host Cert.KernelIdeal.Pay Cert.KernelIdeal.State
variable (m : (ℓ : Loc nD τ sig) → Buf (Elt Ideal) ℓ)

/-- A head's keys and values by the token's number, zero past the prompt. -/
def kN (c : Dev nD) (b h : Fin 4) (d : Fin 128) (t : ℕ) : EReal :=
  if ht : t < 4096 then kr (XA m c) (GA m c) (WA m c) b ⟨t, ht⟩ h d else 0
def vN (c : Dev nD) (b h : Fin 4) (e : Fin 256) (t : ℕ) : EReal :=
  if ht : t < 4096 then vr (XA m c) (GA m c) (WA m c) b ⟨t, ht⟩ h e else 0

theorem addS_eq (c : Dev nD) (b : Fin 4) (j : Fin 16) (h : Fin 4) (d : Fin 128) (e : Fin 256) :
    addS m c b j h d e = ∑ r : Fin 256, kN m c b h d (256 * j.val + r) * ((Real.exp ((255 - (r.val : ℝ)) * lgR h.val) : ℝ) : EReal) * vN m c b h e (256 * j.val + r) := by
  unfold addS
  refine Finset.sum_congr rfl fun r _ => ?_
  have ht : 256 * j.val + r.val < 4096 := by omega
  rw [kdecE_eq, kN, vN, dif_pos ht, dif_pos ht]

/-- The state after tile `j`. -/
theorem s_fold (c : Dev nD) (b : Fin 4) (h : Fin 4) (d : Fin 128) (e : Fin 256) :
    ∀ (j : ℕ) (hj : j < 16) (t : Fin cfg0.N) (ht : t.val = 16 * b.val + j),
      (outsAt0 m c t.val t.isLt).2.2.2.2.1 (ix3 h d e) = tiles (lgR h.val) (kN m c b h d) (vN m c b h e) (j + 1) := by
  intro j
  induction j with
  | zero =>
    intro hj t ht
    rw [s_first m c t b ⟨0, hj⟩ ht rfl, tiles_succ, tiles_zero, addS_eq]
  | succ j ih =>
    intro hj t ht
    have hp : t.val - 1 < cfg0.N := by have := t.isLt; omega
    rw [s_step m c t b ⟨j + 1, hj⟩ ht (by simp), tiles_succ, addS_eq,
      ih (by omega) ⟨t.val - 1, hp⟩ (by dsimp only; omega)]

/-- The state after the last tile. -/
theorem tiles_last (c : Dev nD) (b : Fin 4) (h : Fin 4) (d : Fin 128) (e : Fin 256) :
    tiles (lgR h.val) (kN m c b h d) (vN m c b h e) 16 = st (XA m c) (GA m c) (WA m c) b h d e := by
  unfold tiles st
  rw [Finset.sum_range]
  refine Finset.sum_congr rfl fun t _ => ?_
  rw [tdecE_eq, kN, vN, dif_pos t.isLt, dif_pos t.isLt]
  norm_num

/-- The last tile's state output is the state it leaves. -/
theorem out_state (c : Dev nD) (t : Fin cfg0.N) (b : Fin 4) (ht : t.val = 16 * b.val + 15) (h : Fin 4) (d : Fin 128) (e : Fin 256) :
    (outsAt0 m c t.val t.isLt).2.1 (ix4 0 h d e) = (outsAt0 m c t.val t.isLt).2.2.2.2.1 (ix3 h d e) := by
  have h0 : ¬ t.val % 16 = 0 := by omega
  have h1 : t.val % 16 = 15 := by omega
  rw [outsAt0_C m c t h0 h1]
  frame_out
  clear h0 h1
  pointwise [k0_pay2]
  rw [View.readCov_eq_canon']
  refine congrArg _ (funext fun a => Fin.ext ?_)
  fin_cases a <;> exact (Rect.idx_unit_val _ _ _ _ _).trans (Nat.zero_add _)

/-- The last tile's value rows. -/
theorem out_v (c : Dev nD) (t : Fin cfg0.N) (b : Fin 4) (ht : t.val = 16 * b.val + 15) (r : Fin 128) (e : Fin 256) :
    (outsAt0 m c t.val t.isLt).2.2.2.1 (ix3 0 r e) = pj (XA m c) (GA m c) (WA m c) b ⟨3968 + r, by omega⟩ ⟨4352 + e, by omega⟩ := by
  have h0 : ¬ t.val % 16 = 0 := by omega
  have h1 : t.val % 16 = 15 := by omega
  rw [outsAt0_C m c t h0 h1]
  frame_out
  clear h0 h1
  refine (vo_at m c t b 15 ht r e).trans ?_
  congr 1
  exact Fin.ext (by dsimp only; show 256 * 15 + (128 + r.val) = _; omega)

theorem G19_at (c : Dev nD) (b h : Fin 4) (d : Fin 128) (e : Fin 256) :
    G19 m c (ix4 b h d e) = st (XA m c) (GA m c) (WA m c) b h d e := by
  have hp : pt19Of (ix4 b h d e) = 16 * b.val + 15 := by
    show 16 * (1 * (b.val / 1 - 0) + 1 * (h.val / 4 - 0) + 1 * (d.val / 128 - 0) + 1 * (e.val / 256 - 0)) + 15 = _
    omega
  have hlt : pt19Of (ix4 b h d e) < cfg0.N := by rw [hp, show cfg0.N = 64 from N_0]; omega
  have hl : loc19Of (ix4 b h d e) = ix4 0 h d e := by
    funext a
    fin_cases a
    · exact Subsingleton.elim (α := Fin 1) _ _
    · exact Fin.ext (Nat.mod_eq_of_lt h.isLt)
    · exact Fin.ext (Nat.mod_eq_of_lt d.isLt)
    · exact Fin.ext (Nat.mod_eq_of_lt e.isLt)
  unfold G19
  rw [dif_pos hlt, ← outsAt0_sweep m c _ hlt, hl, out_state m c ⟨_, hlt⟩ b hp, s_fold m c b h d e 15 (by omega) ⟨_, hlt⟩ hp, tiles_last]

theorem G21_at (c : Dev nD) (b : Fin 4) (r : Fin 128) (e : Fin 256) :
    G21 m c (ix3 b r e) = pj (XA m c) (GA m c) (WA m c) b ⟨3968 + r, by omega⟩ ⟨4352 + e, by omega⟩ := by
  have hp : pt21Of (ix3 b r e) = 16 * b.val + 15 := by
    show 16 * (1 * (b.val / 1 - 0) + 1 * (r.val / 128 - 0) + 1 * (e.val / 256 - 0)) + 15 = _
    omega
  have hlt : pt21Of (ix3 b r e) < cfg0.N := by rw [hp, show cfg0.N = 64 from N_0]; omega
  have hl : loc21Of (ix3 b r e) = ix3 0 r e := by
    funext a
    fin_cases a
    · exact Subsingleton.elim (α := Fin 1) _ _
    · exact Fin.ext (Nat.mod_eq_of_lt r.isLt)
    · exact Fin.ext (Nat.mod_eq_of_lt e.isLt)
  unfold G21
  rw [dif_pos hlt, ← outsAt0_sweep m c _ hlt, hl, out_v m c ⟨_, hlt⟩ b hp]

end Cert.KernelIdeal.Fold

end

end
-- ==== Proof.Finite.lean ====
/-
  Which entries are real numbers when the inputs are, and the sums that this makes equal.
-/
module

public import proofs.«01_k».proof.Proof.Layer

@[expose] public section

set_option maxRecDepth 16384
noncomputable section
open Idealize.ShloMosaic
namespace Cert.Spec

/-- A real number, neither infinity. -/
def IsR (x : EReal) : Prop := ∃ r : ℝ, x = (r : EReal)

theorem IsR.coe (r : ℝ) : IsR ((r : ℝ) : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add _ _).symm⟩
theorem IsR.sub {x y : EReal} (hx : IsR x) (hy : IsR y) : IsR (x - y) := by
  obtain ⟨a, rfl⟩ := hx; obtain ⟨b, rfl⟩ := hy; exact ⟨a - b, (EReal.coe_sub _ _).symm⟩
theorem IsR.mul {x y : EReal} (hx : IsR x) (hy : IsR y) : IsR (x * y) := by
  obtain ⟨a, rfl⟩ := hx; obtain ⟨b, rfl⟩ := hy; exact ⟨a * b, (EReal.coe_mul _ _).symm⟩
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih

/-- Division by a nonzero real number is the product with its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- A mean square plus the epsilon has a real inverse root. -/
theorem msq_real {n : ℕ} (p : Fin n → EReal) (hp : ∀ i, IsR (p i)) (r : ℝ) (hr : 0 < r) :
    IsR (Ideal.rsqrt (Ideal.div (∑ i, p i * p i) (r : EReal) + Ideal.ofBits .f32 0x358637BD#32)) := by
  obtain ⟨ε, hε, e⟩ := eps_eq
  choose q hq using hp
  rw [e, div_real _ _ hr.ne']
  have hs : (∑ i, p i * p i) = (((∑ i, q i * q i : ℝ)) : EReal) := by
    rw [coe_sum]
    exact Finset.sum_congr rfl fun i _ => by rw [hq, EReal.coe_mul]
  rw [hs, ← EReal.coe_mul, ← EReal.coe_add]
  have h0 : 0 < (∑ i, q i * q i) * r⁻¹ + ε := by
    have := Finset.sum_nonneg (s := Finset.univ) fun i _ => mul_self_nonneg (q i)
    positivity
  refine ⟨(Real.sqrt ((∑ i, q i * q i) * r⁻¹ + ε))⁻¹, ?_⟩
  show (if _ then _ else if _ then _ else _) = _
  rw [if_neg (not_lt.mpr h0.le), if_neg h0.ne']

/-- A row times the inverse root of its mean square is real, even where the row is not: an infinite entry makes the root's inverse zero. -/
theorem row_real {n : ℕ} (p : Fin n → EReal) (r : ℝ) (hr : 0 < r) (k : Fin n) :
    IsR (p k * Ideal.rsqrt (Ideal.div (∑ i, p i * p i) (r : EReal) + Ideal.ofBits .f32 0x358637BD#32)) := by
  by_cases hp : ∀ i, IsR (p i)
  · exact (hp k).mul (msq_real p hp r hr)
  · rw [not_forall] at hp
    obtain ⟨j, hj⟩ := hp
    have hsq : ∀ x : EReal, 0 ≤ x * x := fun x => by
      induction x with
      | bot => simp
      | top => simp
      | coe a => rw [← EReal.coe_mul]; exact_mod_cast mul_self_nonneg a
    have ht : p j * p j = ⊤ := by
      induction hx : p j with
      | bot => simp
      | top => simp
      | coe a => exact absurd ⟨a, hx⟩ hj
    have hs : (∑ i, p i * p i) = ⊤ := top_unique (ht ▸ Finset.single_le_sum (f := fun i => p i * p i) (fun i _ => hsq _) (Finset.mem_univ j))
    obtain ⟨ε, hε, e⟩ := eps_eq
    have hz : Ideal.rsqrt (Ideal.div (⊤ : EReal) (r : EReal) + Ideal.ofBits .f32 0x358637BD#32) = 0 := by
      rw [div_real _ _ hr.ne', EReal.top_mul_coe_of_pos (inv_pos.mpr hr), e, EReal.top_add_coe]
      rfl
    rw [hs, hz, mul_zero]
    exact IsR.zero

/-- The projection is real when the gain and the weights are. -/
theorem pj_real (X : XArr) (G : GArr) (W : WArr) (hG : ∀ i, IsR (G i)) (hW : ∀ i, IsR (W i)) (b : Fin 4) (t : Fin 4096) (e : Fin 7680) :
    IsR (pj X G W b t e) := by
  unfold pj hN
  refine IsR.sum _ fun k => IsR.mul (IsR.mul ?_ (hG _)) (hW _)
  rw [c1024_eq]
  exact row_real (fun j => X (ix3 b t j)) _ (by norm_num) k

/-- A sum over columns is a sum over groups of columns. -/
theorem sum_blk (n k : ℕ) (f : Fin (n * k) → EReal) : ∑ i, f i = ∑ a : Fin n, ∑ i : Fin k, f (finProdFinEquiv (a, i)) :=
  (Equiv.sum_comp finProdFinEquiv f).symm.trans (Fintype.sum_prod_type _)

/-- The product with the block-diagonal matrix is a head's mean. -/
theorem gm_sum (x : Fin 256 → EReal) (e : Fin 256) :
    ∑ k : Fin 256, x k * (if k.val / 64 = e.val / 64 then Ideal.ofBits .f32 0x3C800000#32 else 0)
      = Ideal.div (∑ i : Fin 64, x ⟨e / 64 * 64 + i, by omega⟩) (Ideal.ofBits .f32 0x42800000#32) := by
  rw [c64_eq, div_real _ _ (by norm_num), inv64_eq, mul_comm, mul_sum_pos _ _ (by exact_mod_cast (by norm_num : (0:ℝ) ≤ 64⁻¹)) (EReal.coe_ne_top _)]
  refine (sum_blk 4 64 _).trans ?_
  rw [Finset.sum_eq_single ⟨e / 64, by omega⟩]
  · refine Finset.sum_congr rfl fun i _ => ?_
    rw [if_pos (by simp [finProdFinEquiv]; omega), mul_comm]
    congr 2
    exact Fin.ext (by simp [finProdFinEquiv]; omega)
  · intro a _ ha
    refine Finset.sum_eq_zero fun i _ => ?_
    rw [if_neg, mul_zero]
    intro h
    apply ha
    refine Fin.ext ?_
    simp [finProdFinEquiv] at h ⊢
    omega
  · exact fun h => absurd (Finset.mem_univ _) h

/-- Four heads normed at once, with the squares in two parts. -/
theorem norm_blk (p g : Fin 256 → EReal) (hp : ∀ k, IsR (p k)) (gm : Fin 256 → Fin 256 → EReal)
    (hgm : ∀ k e, gm k e = if k.val / 64 = e.val / 64 then Ideal.ofBits .f32 0x3C800000#32 else 0) (e : Fin 256) :
    p e * Ideal.rsqrt (∑ x, p x * p x * gm x e + ∑ x, (p x * p x - p x * p x) * gm x e + Ideal.ofBits .f32 0x358637BD#32) * g e =
      nrm (fun i => p ⟨e / 64 * 64 + i, by omega⟩) (fun i => g ⟨e / 64 * 64 + i, by omega⟩) ⟨e % 64, by omega⟩ := by
  have h0 : ∑ x, (p x * p x - p x * p x) * gm x e = 0 := Finset.sum_eq_zero fun k _ => by
    obtain ⟨r, hr⟩ := (hp k).mul (hp k)
    rw [hr, ← EReal.coe_sub, sub_self, EReal.coe_zero, zero_mul]
  rw [h0, add_zero]
  simp only [hgm]
  rw [gm_sum (fun x => p x * p x) e]
  unfold nrm
  have he : (⟨e / 64 * 64 + e % 64, by omega⟩ : Fin 256) = e := Fin.ext (by dsimp only; omega)
  simp only [he]

/-- The turn of a head's columns, from the two columns it mixes. -/
theorem turn_eq (t : Fin 4096) (x : Fin 64 → EReal) (d : Fin 64) (y : EReal)
    (hy : y = if h : d.val < 32 then x ⟨32 + d, by omega⟩ else x ⟨d - 32, by omega⟩) :
    x d * cos64 t d + y * sin64 t d = turn t x d := by
  subst hy
  unfold turn cos64 sin64
  split
  · rw [mul_neg, ← sub_eq_add_neg]
  · rename_i h
    have hd : (⟨32 + (d.val - 32), by omega⟩ : Fin 64) = d := Fin.ext (by dsimp only; omega)
    rw [hd]

end Cert.Spec

end

end
-- ==== Proof.NormRope.lean ====
/-
  The window's queries and keys as the body computes them: four heads of 64 columns at a time, the mean square of each
  head a product with a block-diagonal matrix, the turn by two rotations of the columns.
-/
module

public import proofs.«01_k».proof.Proof.Pay
public import proofs.«01_k».proof.Proof.Finite

@[expose] public section

set_option maxRecDepth 16384
noncomputable section
open Idealize.ShloMosaic Idealize.ShloMosaic.TcCoe Idealize.SL.Sem
namespace Cert.KernelIdeal.NormRope
open Cert.KernelIdeal Cert.KernelIdeal.Gen Cert.Spec

/-- Which lanes are the first half of their head. -/
theorem mask_at (l : Fin 128) : k0_pay16 64#32 k0_pay13 k0_pay14 k0_pay15 0#32 (ix2 0 l) = if l.val % 64 < 32 then 1#1 else 0#1 := by
  pointwise [k0_pay16, k0_pay13, k0_pay14, k0_pay15]
  revert l
  decide +kernel

/-- A lane and the one it mixes with, turned. -/
theorem lane_turn (t : Fin 4096) (n : Fin 64 → EReal) (l : ℕ) (x a b : EReal) (M : BitVec 1) (hM : M = if l % 64 < 32 then 1#1 else 0#1)
    (hx : x = n ⟨l % 64, by omega⟩) (ha : ∀ h : l % 64 < 32, a = n ⟨32 + l % 64, by omega⟩) (hb : ∀ h : ¬ l % 64 < 32, b = n ⟨l % 64 - 32, by omega⟩) :
    x * cos64 t ⟨l % 64, by omega⟩ + Scalar.select M a b * sin64 t ⟨l % 64, by omega⟩ = turn t n ⟨l % 64, by omega⟩ := by
  rw [hx]
  refine turn_eq t n ⟨l % 64, by omega⟩ _ ?_
  by_cases h : l % 64 < 32
  · rw [dif_pos (show (⟨l % 64, by omega⟩ : Fin 64).val < 32 from h), hM, if_pos h, ← ha h]
    rfl
  · rw [dif_neg (show ¬ (⟨l % 64, by omega⟩ : Fin 64).val < 32 from h), hM, if_neg h, ← hb h]
    rfl

/-- Four heads' columns normed. -/
theorem pay62_at (v19 : FVec Ideal S256x1024 .bf16) (gm : FVec Ideal S256x256 .bf16) (w : Vec Ideal S1024x256 .bf16) (g : Vec Ideal S1x256 .f32)
    (p : Fin 256 → Fin 256 → EReal) (hp : ∀ r e, ∑ k : Fin 1024, v19 (ix2 r k) * w (ix2 k e) = p r e) (hr : ∀ r e, IsR (p r e))
    (hgm : ∀ k e : Fin 256, gm (ix2 k e) = if k.val / 64 = e.val / 64 then Ideal.ofBits .f32 0x3C800000#32 else 0) (r e : Fin 256) :
    k0_pay62 v19 gm w g (ix2 r e) = nrm (fun i => p r ⟨e / 64 * 64 + i, by omega⟩) (fun i => g (ix2 0 ⟨e / 64 * 64 + i, by omega⟩)) ⟨e % 64, by omega⟩ := by
  pointwise [k0_pay62]
  simp only [hp]
  exact norm_blk (p r) (fun k => g (ix2 0 k)) (hr r) (fun k e => gm (ix2 k e)) hgm e

/-- Four heads' columns turned: the first two heads, then the last two. -/
theorem pay65_at (v19 : FVec Ideal S256x1024 .bf16) (gm : FVec Ideal S256x256 .bf16) (c s : FVec Ideal S256x128 .f32) (M : IVec S1x128 1)
    (w : Vec Ideal S1024x256 .bf16) (g : Vec Ideal S1x256 .f32) (T : Fin 256 → Fin 4096) (n : Fin 256 → Fin 4 → Fin 64 → EReal)
    (hn : ∀ r e : Fin 256, k0_pay62 v19 gm w g (ix2 r e) = n r ⟨e / 64, by omega⟩ ⟨e % 64, by omega⟩)
    (hc : ∀ (r : Fin 256) (l : Fin 128), c (ix2 r l) = cos64 (T r) ⟨l % 64, by omega⟩)
    (hs : ∀ (r : Fin 256) (l : Fin 128), s (ix2 r l) = sin64 (T r) ⟨l % 64, by omega⟩)
    (hM : ∀ l : Fin 128, M (ix2 0 l) = if l.val % 64 < 32 then 1#1 else 0#1) (r e : Fin 256) :
    k0_pay65 c s M (k0_pay63 v19 gm c s M w g) (k0_pay64 v19 gm w g) 96#32 (ix2 r e)
      = turn (T r) (n r ⟨e / 64, by omega⟩) ⟨e % 64, by omega⟩ := by
  have h64 : ∀ (r : Fin 256) (l : Fin 128), k0_pay64 v19 gm w g (ix2 r l) = n r ⟨(128 + l) / 64, by omega⟩ ⟨(128 + l) % 64, by omega⟩ := fun r l => by
    unfold k0_pay64
    generalize k0_pay62 v19 gm w g = q at hn ⊢
    pointwise
    exact hn r ⟨128 + l, by omega⟩
  have h63 : ∀ (r : Fin 256) (l : Fin 128), k0_pay63 v19 gm c s M w g (ix2 r l) = turn (T r) (n r ⟨l / 64, by omega⟩) ⟨l % 64, by omega⟩ := fun r l => by
    unfold k0_pay63
    generalize k0_pay62 v19 gm w g = q at hn ⊢
    pointwise
    simp only [hn, hc, hs, hM]
    refine lane_turn (T r) (n r ⟨l / 64, by omega⟩) l _ _ _ _ rfl rfl (fun h => ?_) (fun h => ?_)
    · exact congrArg₂ (n r) (Fin.ext (by dsimp only; omega)) (Fin.ext (by dsimp only; omega))
    · exact congrArg₂ (n r) (Fin.ext (by dsimp only; omega)) (Fin.ext (by dsimp only; omega))
  generalize k0_pay63 v19 gm c s M w g = x at h63 ⊢
  generalize k0_pay64 v19 gm w g = y at h64 ⊢
  pointwise [k0_pay65]
  simp only [h63, h64, hc, hs, hM]
  split
  · rfl
  · refine (lane_turn (T r) (n r ⟨e / 64, by omega⟩) (e - 128) _ _ _ _ rfl ?_ (fun h => ?_) (fun h => ?_)).trans
      (congrArg (turn (T r) (n r ⟨e / 64, by omega⟩)) (Fin.ext (by dsimp only; omega)))
    · exact congrArg₂ (n r) (Fin.ext (by dsimp only; omega)) (Fin.ext (by dsimp only; omega))
    · exact congrArg₂ (n r) (Fin.ext (by dsimp only; omega)) (Fin.ext (by dsimp only; omega))
    · exact congrArg₂ (n r) (Fin.ext (by dsimp only; omega)) (Fin.ext (by dsimp only; omega))

end Cert.KernelIdeal.NormRope

end

end
-- ==== Proof.Keys.lean ====
/-
  The key rows: what the body computes for a tile's window keys, and what the result's array holds after the run.
-/
module

public import proofs.«01_k».proof.Proof.NormRope
public import proofs.«01_k».proof.Proof.Fold

@[expose] public section

set_option maxRecDepth 16384
noncomputable section
open Idealize.ShloMosaic Idealize.ShloMosaic.TcCoe Idealize.SL.Sem
namespace Cert.KernelIdeal.Keys
open Cert.KernelIdeal Cert.KernelIdeal.Gen Cert.KernelIdeal.Value Cert.Spec Cert.KernelIdeal.Blk Cert.KernelIdeal.Host Cert.KernelIdeal.Pay Cert.KernelIdeal.NormRope
variable (m : (ℓ : Loc nD τ sig) → Buf (Elt Ideal) ℓ)

/-- The window keys' gains. -/
abbrev KA (c : Dev nD) : HArr := m ((c : Thread nD τ).loc main_arg5)

/-- A tile's window keys. -/
theorem keys_at (c : Dev nD) (t : Fin cfg0.N) (b : Fin 4) (j : Fin 16) (ht : t.val = 16 * b.val + j.val)
    (hG : ∀ i, IsR (GA m c i)) (hW : ∀ i, IsR (WA m c i)) (M : IVec S1x128 1)
    (hM : ∀ l : Fin 128, M (ix2 0 l) = if l.val % 64 < 32 then 1#1 else 0#1)
    (v19 : FVec Ideal S256x1024 .bf16) (hv : v19 = k0_pay9 (F := Ideal) (iblk m c 0 t) (iblk m c 1 t)) (gm : FVec Ideal S256x256 .bf16)
    (hg : ∀ k e, gm (ix2 k e) = iblk m c 17 t (ix2 k e)) (C S : FVec Ideal S256x128 .f32) (hC : ∀ r l, C (ix2 r l) = iblk m c 12 t (ix2 r l))
    (hS : ∀ r l, S (ix2 r l) = iblk m c 13 t (ix2 r l)) (g : Vec Ideal S1x256 .f32) (hk : ∀ e, g (ix2 0 e) = iblk m c 5 t (ix2 0 e)) (inb) (r e : Fin 256) :
    k0_pay65 C S M
        (k0_pay63 v19 gm C S M (View.ld (iblk m c 2 t) (Rect.unit (s := S1024x7680) ![0, 4096] ![1024, 256] inb)) g)
        (k0_pay64 v19 gm (View.ld (iblk m c 2 t) (Rect.unit (s := S1024x7680) ![0, 4096] ![1024, 256] inb)) g) 96#32 (ix2 r e)
      = sk (XA m c) (GA m c) (WA m c) (KA m c) b (tok j r) ⟨e / 64, by omega⟩ ⟨e % 64, by omega⟩ := by
  refine pay65_at v19 gm C S M _ g (tok j)
    (fun r h => nrm (fun i => pj (XA m c) (GA m c) (WA m c) b (tok j r) ⟨4096 + (h.val * 64 + i.val), by omega⟩) (fun i => KA m c (ix2 0 i)))
    (fun r e => ?_) (fun r l => ?_) (fun r l => ?_) hM r e
  · refine (pay62_at v19 gm _ g (fun r e => pj (XA m c) (GA m c) (WA m c) b (tok j r) ⟨4096 + e, by omega⟩)
      (fun r e => proj_sum m c t b j ht _ hv 4096 256 _ r e (by omega)) (fun r e => pj_real _ _ _ hG hW _ _ _)
      (fun k e => (hg k e).trans ((b17 m c t k e).trans (gmat_at m c k e))) r e).trans ?_
    congr 1
    funext i
    refine (hk _).trans ((b5 m c t 0 _).trans ((kg_at m c _).trans ?_))
    exact congrArg (fun i => KA m c (ix2 0 i)) (Fin.ext (by dsimp only; omega))
  · rw [hC, b12 m c t b j ht, scos_at]
  · rw [hS, b13 m c t b j ht, ssin_at]

/-- The last tile's key rows. -/
theorem out_k (c : Dev nD) (hG : ∀ i, IsR (GA m c i)) (hW : ∀ i, IsR (WA m c i)) (t : Fin cfg0.N) (b : Fin 4) (ht : t.val = 16 * b.val + 15) (r : Fin 128) (e : Fin 256) :
    (outsAt0 m c t.val t.isLt).2.2.1 (ix3 0 r e)
      = sk (XA m c) (GA m c) (WA m c) (KA m c) b ⟨3968 + r, by omega⟩ ⟨e / 64, by omega⟩ ⟨e % 64, by omega⟩ := by
  have h0 : ¬ t.val % 16 = 0 := by omega
  have h1 : t.val % 16 = 15 := by omega
  have e1 : ∀ (v : FVec Ideal S256x256 .f32), k0_pay3 v (ix3 0 r e) = v (ix2 ⟨128 + r, by omega⟩ e) := by
    intro v
    pointwise [k0_pay3]
  rw [outsAt0_C m c t h0 h1]
  frame_out
  clear h0 h1
  rw [e1]
  refine (keys_at m c t b 15 ht hG hW _ mask_at _ rfl _ ?_ _ _ ?_ ?_ _ ?_ _ _ _).trans ?_
  · intro k e
    pointwise [k0_pay10]
  · intro r l
    pointwise [k0_pay11]
  · intro r l
    pointwise [k0_pay12]
  · intro e
    rfl
  · congr 1
    exact Fin.ext (by dsimp only; show 256 * 15 + (128 + r.val) = _; omega)

theorem G20_at (c : Dev nD) (hG : ∀ i, IsR (GA m c i)) (hW : ∀ i, IsR (WA m c i)) (b : Fin 4) (r : Fin 128) (e : Fin 256) :
    G20 m c (ix3 b r e) = sk (XA m c) (GA m c) (WA m c) (KA m c) b ⟨3968 + r, by omega⟩ ⟨e / 64, by omega⟩ ⟨e % 64, by omega⟩ := by
  have hp : pt20Of (ix3 b r e) = 16 * b.val + 15 := by
    show 16 * (1 * (b.val / 1 - 0) + 1 * (r.val / 128 - 0) + 1 * (e.val / 256 - 0)) + 15 = _
    omega
  have hlt : pt20Of (ix3 b r e) < cfg0.N := by rw [hp, show cfg0.N = 64 from N_0]; omega
  have hl : loc20Of (ix3 b r e) = ix3 0 r e := by
    funext a
    fin_cases a
    · exact Subsingleton.elim (α := Fin 1) _ _
    · exact Fin.ext (Nat.mod_eq_of_lt r.isLt)
    · exact Fin.ext (Nat.mod_eq_of_lt e.isLt)
  unfold G20
  rw [dif_pos hlt, ← outsAt0_sweep m c _ hlt, hl, out_k m c hG hW ⟨_, hlt⟩ b hp]

end Cert.KernelIdeal.Keys

end

end
-- ==== Proof.Retain.lean ====
/-
  Which of the layer's entries are real numbers, and the retention's output tile by tile: a tile's own tokens by their
  scores, and every earlier token through the state that the tile starts from.
-/
module

public import proofs.«01_k».proof.Proof.Finite

@[expose] public section

set_option maxRecDepth 16384
noncomputable section
open Idealize.ShloMosaic
namespace Cert.Spec

theorem IsR.neg {x : EReal} (hx : IsR x) : IsR (-x) := by
  obtain ⟨a, rfl⟩ := hx; exact ⟨-a, (EReal.coe_neg _).symm⟩
theorem IsR.cos {x : EReal} (hx : IsR x) : IsR (Ideal.cos x) := by
  obtain ⟨a, rfl⟩ := hx; exact ⟨Real.cos a, rfl⟩
theorem IsR.sin {x : EReal} (hx : IsR x) : IsR (Ideal.sin x) := by
  obtain ⟨a, rfl⟩ := hx; exact ⟨Real.sin a, rfl⟩

theorem pow_real (x y : EReal) (hx : IsR x) (hy : IsR y) : IsR (Ideal.pow x y) := by
  obtain ⟨a, rfl⟩ := hx; obtain ⟨b, rfl⟩ := hy; exact ⟨Real.rpow a b, rfl⟩

theorem ang_real (t i : ℕ) : IsR (ang t i) := by
  unfold ang
  rw [tenk_eq, two_eq, c128_eq, div_real _ _ (by norm_num)]
  exact (IsR.coe _).mul (pow_real _ _ (IsR.coe _) ((((IsR.coe _).mul (IsR.coe _)).neg).mul (IsR.coe _)))

theorem ang64_real (t i : ℕ) : IsR (ang64 t i) := by
  unfold ang64
  rw [tenk_eq, two_eq, c64_eq, div_real _ _ (by norm_num)]
  exact (IsR.coe _).mul (pow_real _ _ (IsR.coe _) ((((IsR.coe _).mul (IsR.coe _)).neg).mul (IsR.coe _)))

theorem nrm_real (p g : Fin 64 → EReal) (hp : ∀ i, IsR (p i)) (hg : ∀ i, IsR (g i)) (e : Fin 64) : IsR (nrm p g e) := by
  unfold nrm
  rw [c64_eq]
  exact ((hp e).mul (msq_real p hp _ (by norm_num))).mul (hg e)

theorem turn_real (t : Fin 4096) (x : Fin 64 → EReal) (hx : ∀ i, IsR (x i)) (e : Fin 64) : IsR (turn t x e) := by
  unfold turn
  split
  · exact ((hx _).mul (ang64_real _ _).cos).sub ((hx _).mul (ang64_real _ _).sin)
  · exact ((hx _).mul (ang64_real _ _).cos).add ((hx _).mul (ang64_real _ _).sin)

section real
variable (X : XArr) (G : GArr) (W : WArr) (hG : ∀ i, IsR (G i)) (hW : ∀ i, IsR (W i)) (b : Fin 4)
include hG hW

theorem sq_real (g : HArr) (hg : ∀ i, IsR (g i)) (t : Fin 4096) (h : Fin 16) (e : Fin 64) : IsR (sq X G W g b t h e) :=
  turn_real _ _ (fun _ => nrm_real _ _ (fun _ => pj_real X G W hG hW _ _ _) (fun _ => hg _) _) _
theorem sk_real (g : HArr) (hg : ∀ i, IsR (g i)) (t : Fin 4096) (h : Fin 4) (e : Fin 64) : IsR (sk X G W g b t h e) :=
  turn_real _ _ (fun _ => nrm_real _ _ (fun _ => pj_real X G W hG hW _ _ _) (fun _ => hg _) _) _
theorem qr_real (t : Fin 4096) (h : Fin 4) (d : Fin 128) : IsR (qr X G W b t h d) := by
  unfold qr
  split
  · exact ((pj_real X G W hG hW _ _ _).mul (ang_real _ _).cos).sub ((pj_real X G W hG hW _ _ _).mul (ang_real _ _).sin)
  · exact ((pj_real X G W hG hW _ _ _).mul (ang_real _ _).cos).add ((pj_real X G W hG hW _ _ _).mul (ang_real _ _).sin)
theorem kr_real (t : Fin 4096) (h : Fin 4) (d : Fin 128) : IsR (kr X G W b t h d) := by
  unfold kr
  obtain ⟨c, hc⟩ := scale_eq
  rw [hc]
  refine IsR.mul ?_ (IsR.coe _)
  split
  · exact ((pj_real X G W hG hW _ _ _).mul (ang_real _ _).cos).sub ((pj_real X G W hG hW _ _ _).mul (ang_real _ _).sin)
  · exact ((pj_real X G W hG hW _ _ _).mul (ang_real _ _).cos).add ((pj_real X G W hG hW _ _ _).mul (ang_real _ _).sin)
theorem vr_real (t : Fin 4096) (h : Fin 4) (e : Fin 256) : IsR (vr X G W b t h e) := pj_real X G W hG hW _ _ _
end real

/-- The decays between two positions, and from a tile's start, as real exponentials. -/
theorem dcE_eq (h : Fin 4) (n m : ℕ) (hn : n < 4096) (hm : m < 4096) :
    dcE h.val n m = (((if m ≤ n then Real.exp (((n : ℝ) - m) * lgR h.val) else 0) : ℝ) : EReal) := by
  have e : ∀ t < 4096, (BitVec.ofNat 32 t).toInt = (t : ℤ) := fun t ht =>
    (by decide +kernel : ∀ t : Fin 4096, (BitVec.ofNat 32 t.val).toInt = (t.val : ℤ)) ⟨t, ht⟩
  unfold dcE
  rw [lgE_eq, e n hn, e m hm, ← EReal.coe_sub]
  by_cases hc : m ≤ n
  · have h0 : (0 : ℝ) ≤ ((n : ℤ) : ℝ) - ((m : ℤ) : ℝ) := by push_cast; exact sub_nonneg.mpr (by exact_mod_cast hc)
    rw [if_pos (by exact_mod_cast h0), if_pos hc, max_eq_left (by exact_mod_cast h0), ← EReal.coe_mul]
    rfl
  · have h0 : ¬ (0 : ℝ) ≤ ((n : ℤ) : ℝ) - ((m : ℤ) : ℝ) := by
      push_cast
      rw [sub_nonneg]
      exact_mod_cast hc
    rw [if_neg (by exact_mod_cast h0), if_neg hc]
    rfl

theorem crossE_eq (h : Fin 4) (r : Fin 256) : crossE h r = ((Real.exp (((r.val : ℝ) + 1) * lgR h.val) : ℝ) : EReal) := by
  have e : (BitVec.ofNat 32 r.val).toInt = (r.val : ℤ) := (by decide +kernel : ∀ r : Fin 256, (BitVec.ofNat 32 r.val).toInt = (r.val : ℤ)) r
  unfold crossE
  rw [lgE_eq, e, ← EReal.coe_one, ← EReal.coe_add, ← EReal.coe_mul]
  rfl

/-- The sum over all earlier tokens, split at the tile's start. -/
theorem split_real (L : ℝ) (q : Fin 128 → ℝ) (k : Fin 128 → ℕ → ℝ) (v : ℕ → ℝ) (j r : ℕ) (hj : j < 16) (hr : r < 256) :
    ∑ m ∈ Finset.range 4096, v m * ((∑ d, q d * k d m) * (if m ≤ 256 * j + r then Real.exp ((((256 * j + r : ℕ) : ℝ) - m) * L) else 0)) =
      ∑ s ∈ Finset.range 256, ((∑ d, q d * k d (256 * j + s)) * (if s ≤ r then Real.exp (((r : ℝ) - s) * L) else 0)) * v (256 * j + s)
        + ∑ d, (q d * Real.exp (((r : ℝ) + 1) * L)) * ∑ m ∈ Finset.range (256 * j), k d m * Real.exp ((256 * j - 1 - m) * L) * v m := by
  rw [show 4096 = 256 * j + 256 + (4096 - (256 * j + 256)) by omega, Finset.sum_range_add, Finset.sum_range_add,
    Finset.sum_eq_zero (s := Finset.range (4096 - (256 * j + 256))) (fun m _ => by rw [if_neg (by omega), mul_zero, mul_zero]), add_zero, add_comm]
  congr 1
  · refine Finset.sum_congr rfl fun s _ => ?_
    rw [mul_comm]
    congr 2
    by_cases h : s ≤ r
    · rw [if_pos h, if_pos (by omega)]
      congr 1
      push_cast; ring
    · rw [if_neg h, if_neg (by omega)]
  · simp only [Finset.mul_sum, Finset.sum_mul]
    rw [Finset.sum_comm]
    refine Finset.sum_congr rfl fun d _ => Finset.sum_congr rfl fun m hm => ?_
    have hm' := Finset.mem_range.mp hm
    rw [if_pos (by omega)]
    have : Real.exp ((((256 * j + r : ℕ) : ℝ) - m) * L) = Real.exp (((r : ℝ) + 1) * L) * Real.exp ((256 * j - 1 - m) * L) := by
      rw [← Real.exp_add]; congr 1; push_cast; ring
    rw [this]
    ring

theorem split_tiles (L : ℝ) (q : Fin 128 → EReal) (k : Fin 128 → ℕ → EReal) (v : ℕ → EReal) (hq : ∀ d, IsR (q d)) (hk : ∀ d t, IsR (k d t))
    (hv : ∀ t, IsR (v t)) (j : Fin 16) (r : Fin 256) :
    ∑ m : Fin 4096, v m * ((∑ d, q d * k d m) * (((if m.val ≤ 256 * j.val + r.val then Real.exp ((((256 * j.val + r.val : ℕ) : ℝ) - (m.val : ℝ)) * L) else 0) : ℝ) : EReal)) =
      ∑ s : Fin 256, ((∑ d, q d * k d (256 * j + s)) * (((if s.val ≤ r.val then Real.exp (((r.val : ℝ) - (s.val : ℝ)) * L) else 0) : ℝ) : EReal)) * v (256 * j + s)
        + ∑ d, (q d * ((Real.exp (((r.val : ℝ) + 1) * L) : ℝ) : EReal)) * tiles L (k d) v j := by
  choose q' hq' using hq
  choose k' hk' using hk
  choose v' hv' using hv
  have h := split_real L q' k' v' j r j.isLt r.isLt
  rw [Finset.sum_range, Finset.sum_range (n := 256)] at h
  unfold tiles
  simp only [hq', hk', hv', ← EReal.coe_mul, ← coe_sum, ← EReal.coe_add]
  exact congrArg _ h

/-- The retention's output of a tile's row. -/
theorem ret_tile (X : XArr) (G : GArr) (W : WArr) (hG : ∀ i, IsR (G i)) (hW : ∀ i, IsR (W i)) (b : Fin 4) (j : Fin 16) (r : Fin 256) (h : Fin 4) (e : Fin 256)
    (kN : Fin 128 → ℕ → EReal) (vN : ℕ → EReal) (hk : ∀ d t, kN d t = if ht : t < 4096 then kr X G W b ⟨t, ht⟩ h d else 0)
    (hv : ∀ t, vN t = if ht : t < 4096 then vr X G W b ⟨t, ht⟩ h e else 0) :
    ∑ s : Fin 256, ((∑ d : Fin 128, qr X G W b ⟨256 * j + r, by omega⟩ h d * kr X G W b ⟨256 * j + s, by omega⟩ h d) * dcE h r s) * vr X G W b ⟨256 * j + s, by omega⟩ h e
        + ∑ d : Fin 128, (qr X G W b ⟨256 * j + r, by omega⟩ h d * crossE h r) * tiles (lgR h) (kN d) vN j
      = ret X G W b ⟨256 * j + r, by omega⟩ h e := by
  have hk' : ∀ d t, IsR (kN d t) := fun d t => by
    rw [hk]; split
    · exact kr_real X G W hG hW _ _ _ _
    · exact IsR.zero
  have hv' : ∀ t, IsR (vN t) := fun t => by
    rw [hv]; split
    · exact vr_real X G W hG hW _ _ _ _
    · exact IsR.zero
  have hs := split_tiles (lgR h) (fun d => qr X G W b ⟨256 * j + r, by omega⟩ h d) kN vN (fun d => qr_real X G W hG hW _ _ _ _) hk' hv' j r
  unfold ret
  rw [crossE_eq]
  refine Eq.trans ?_ (hs.symm.trans (Finset.sum_congr rfl fun m _ => ?_))
  · refine congrArg₂ (· + ·) (Finset.sum_congr rfl fun s _ => ?_) rfl
    have hlt : 256 * j.val + s.val < 4096 := by omega
    rw [dcE_eq h r s (by omega) (by omega), hv, dif_pos hlt]
    simp only [hk, dif_pos hlt]
  · rw [dcE_eq h _ _ (by dsimp only; omega) m.isLt, hv, dif_pos m.isLt]
    simp only [hk, dif_pos m.isLt]

end Cert.Spec

end

end
-- ==== Proof.Heads.lean ====
/-
  The retention's heads as the body computes them: every head's output is one function of its queries, keys, values and
  of the state that the tile starts from.
-/
module

public import proofs.«01_k».proof.Proof.Pay
public import proofs.«01_k».proof.Proof.Retain

@[expose] public section

set_option maxRecDepth 16384
noncomputable section
open Idealize.ShloMosaic Idealize.ShloMosaic.TcCoe Idealize.SL.Sem
namespace Cert.KernelIdeal.Heads
open Cert.KernelIdeal Cert.KernelIdeal.Gen Cert.Spec Cert.KernelIdeal.Blk Cert.KernelIdeal.Host Cert.KernelIdeal.Pay
variable (m : (ℓ : Loc nD τ sig) → Buf (Elt Ideal) ℓ)

/-- A head's output from its queries `q`, keys `k`, values `v` and the state `S`. -/
def retP (q k : FVec Ideal S256x128 .f32) (v : FVec Ideal S256x256 .bf16) (S : Vec Ideal S1x128x256 .f32) (cr : Vec Ideal S1x256x128 .f32)
    (D : Vec Ideal S1x256x256 .f32) (g : FVec Ideal S256x256 .f32) (R : Vec Ideal S1x256 .f32) : FVec Ideal S256x256 .bf16 :=
  k0_pay66 v (k0_pay27 q k) (k0_pay28 q S cr) g D R

section
variable (rq rk : FVec Ideal S256x512 .f32) (c s : FVec Ideal S256x128 .f32) (v : FVec Ideal S256x1024 .f32) (v19 : FVec Ideal S256x1024 .bf16)
  (S : Vec Ideal S1x128x256 .f32) (cr : Vec Ideal S1x256x128 .f32) (D : Vec Ideal S1x256x256 .f32) (g : FVec Ideal S256x256 .f32) (R : Vec Ideal S1x256 .f32)

theorem head1 (vb : FVec Ideal S256x256 .bf16) : k0_pay70 vb (k0_pay36 (k0_pay34 rq c s) (k0_pay35 rk c s) (constant S256x256 .f32 0x00000000#32)) (k0_pay37 (k0_pay30 rq c s) (k0_pay33 S) cr) g D R =
    retP (k0_pay30 rq c s) (k0_pay31 rk c s) vb S cr D g R := rfl
theorem head2 (vb : FVec Ideal S256x256 .bf16) : k0_pay74 g (k0_pay73 vb (k0_pay43 rq rk c s) (k0_pay44 (k0_pay39 rq c s) (k0_pay42 S) cr) D) R =
    retP (k0_pay39 rq c s) (k0_pay40 rk c s) vb S cr D g R := rfl
theorem head3 (vb : FVec Ideal S256x256 .bf16) : k0_pay86 g (k0_pay82 vb (k0_pay50 rq rk c s) (k0_pay53 (k0_pay51 rq c s cr) (k0_pay52 S) (constant S256x256 .f32 0x00000000#32)) D) (k0_pay83 R)
      (k0_pay84 vb (k0_pay50 rq rk c s) (k0_pay53 (k0_pay51 rq c s cr) (k0_pay52 S) (constant S256x256 .f32 0x00000000#32)) D) (k0_pay85 (F := Ideal)) =
    retP (k0_pay46 rq c s) (k0_pay47 rk c s) vb S cr D g R := rfl
end

/-- A head's output, entry by entry. -/
theorem ret_at (q k : FVec Ideal S256x128 .f32) (v : FVec Ideal S256x256 .bf16) (S : Vec Ideal S1x128x256 .f32) (cr : Vec Ideal S1x256x128 .f32)
    (D : Vec Ideal S1x256x256 .f32) (g : FVec Ideal S256x256 .f32) (R : Vec Ideal S1x256 .f32) (r e : Fin 256) (o : Fin 256 → EReal)
    (ho : ∀ e : Fin 256, ∑ s : Fin 256, ((∑ d : Fin 128, q (ix2 r d) * k (ix2 s d)) * D (ix3 0 r s)) * v (ix2 s e) + ∑ d : Fin 128, (q (ix2 r d) * cr (ix3 0 r d)) * S (ix3 0 d e) = o e) :
    retP q k v S cr D g R (ix2 r e) = nrm256 o (fun e => R (ix2 0 e)) e * (g (ix2 r e) * Cert.Spec.sig (g (ix2 r e))) := by
  have h1 : ∀ (r s : Fin 256), k0_pay27 q k (ix2 r s) = ∑ d : Fin 128, q (ix2 r d) * k (ix2 s d) := fun r s => by pointwise [k0_pay27]
  have h2 : ∀ (r e : Fin 256), k0_pay28 q S cr (ix2 r e) = ∑ d : Fin 128, (q (ix2 r d) * cr (ix3 0 r d)) * S (ix3 0 d e) := fun r e => by
    pointwise [k0_pay28, k0_pay26]
  unfold retP
  generalize k0_pay27 q k = a at h1 ⊢
  generalize k0_pay28 q S cr = b at h2 ⊢
  pointwise [k0_pay66]
  simp only [h1, h2, ho]
  unfold nrm256 Cert.Spec.sig
  rw [zero_sub]

/-- A head's turned query, from the two columns that the turn mixes. -/
theorem ropeq_eq (X : XArr) (G : GArr) (W : WArr) (b : Fin 4) (t : Fin 4096) (h : Fin 4) (d : Fin 128) (e1 e2 : Fin 7680)
    (h1 : e1.val = h.val * 128 + d.val) (h2 : e2.val = h.val * 128 + (d.val + 128 - 64) % 128) :
    pj X G W b t e1 * cosE t d + pj X G W b t e2 * sinE t d = qr X G W b t h d := by
  unfold qr cosE sinE
  split
  · rename_i hd
    have ge1 : e1 = ⟨h.val * 128 + d.val, by omega⟩ := Fin.ext h1
    have ge2 : e2 = ⟨h.val * 128 + (64 + d.val), by omega⟩ := Fin.ext (by rw [h2]; dsimp only; omega)
    rw [ge1, ge2, mul_neg, ← sub_eq_add_neg]
  · rename_i hd
    have ge1 : e1 = ⟨h.val * 128 + (64 + (d.val - 64)), by omega⟩ := Fin.ext (by rw [h1]; dsimp only; omega)
    have ge2 : e2 = ⟨h.val * 128 + (d.val - 64), by omega⟩ := Fin.ext (by rw [h2]; dsimp only; omega)
    rw [ge1, ge2]

section point
variable (c : Dev nD) (t : Fin cfg0.N) (b : Fin 4) (j : Fin 16) (ht : t.val = 16 * b.val + j.val)
include ht

theorem rq_at (r : Fin 256) (d : Fin 512) :
    k0_pay18 (k0_pay9 (F := Ideal) (iblk m c 0 t) (iblk m c 1 t)) (View.ld (iblk m c 2 t) (Rect.unit ![0, 0] ![1024, 512] inb_S1024x7680_S1024x512_0_0)) (ix2 r d)
      = pj (XA m c) (GA m c) (WA m c) b (tok j r) ⟨d, by omega⟩ := by
  have e1 : ∀ (v : FVec Ideal S256x1024 .bf16) (w : Vec Ideal S1024x512 .bf16), k0_pay18 v w (ix2 r d) = ∑ k : Fin 1024, v (ix2 r k) * w (ix2 k d) := by
    intro v w
    pointwise [k0_pay18]
  rw [e1]
  refine (proj_sum m c t b j ht _ rfl 0 512 _ r d (by omega)).trans (congrArg _ (Fin.ext ?_))
  simp
end point

section turns
variable (X : XArr) (G : GArr) (W : WArr) (b : Fin 4) (T : Fin 256 → Fin 4096) (rq rk : FVec Ideal S256x512 .f32) (c s : FVec Ideal S256x128 .f32)
  (hq : ∀ (r : Fin 256) (d : Fin 512), rq (ix2 r d) = pj X G W b (T r) ⟨d, by omega⟩)
  (hk : ∀ (r : Fin 256) (d : Fin 512), rk (ix2 r d) = pj X G W b (T r) ⟨512 + d, by omega⟩)
  (hc : ∀ (r : Fin 256) (d : Fin 128), c (ix2 r d) = cosE (T r) d) (hs : ∀ (r : Fin 256) (d : Fin 128), s (ix2 r d) = sinE (T r) d)

include hc hs

section
include hq
theorem q1_at (r : Fin 256) (d : Fin 128) : k0_pay30 rq c s (ix2 r d) = qr X G W b (T r) 1 d := by
  pointwise [k0_pay30]
  simp only [hq, hc, hs]
  exact ropeq_eq X G W b (T r) 1 d _ _ (by simp) (by simp)
theorem q2_at (r : Fin 256) (d : Fin 128) : k0_pay39 rq c s (ix2 r d) = qr X G W b (T r) 2 d := by
  pointwise [k0_pay39]
  simp only [hq, hc, hs]
  exact ropeq_eq X G W b (T r) 2 d _ _ (by simp) (by simp)
theorem q3_at (r : Fin 256) (d : Fin 128) : k0_pay46 rq c s (ix2 r d) = qr X G W b (T r) 3 d := by
  pointwise [k0_pay46]
  simp only [hq, hc, hs]
  exact ropeq_eq X G W b (T r) 3 d _ _ (by simp) (by simp)
end

section
include hk
theorem k1_at (r : Fin 256) (d : Fin 128) : k0_pay31 rk c s (ix2 r d) = kr X G W b (T r) 1 d := by
  pointwise [k0_pay31]
  simp only [hk, hc, hs]
  exact rope_eq X G W b (T r) 1 d _ _ (by simp) (by simp)
theorem k2_at (r : Fin 256) (d : Fin 128) : k0_pay40 rk c s (ix2 r d) = kr X G W b (T r) 2 d := by
  pointwise [k0_pay40]
  simp only [hk, hc, hs]
  exact rope_eq X G W b (T r) 2 d _ _ (by simp) (by simp)
theorem k3_at (r : Fin 256) (d : Fin 128) : k0_pay47 rk c s (ix2 r d) = kr X G W b (T r) 3 d := by
  pointwise [k0_pay47]
  simp only [hk, hc, hs]
  exact rope_eq X G W b (T r) 3 d _ _ (by simp) (by simp)
end
end turns

section tile
variable (c : Dev nD) (t : Fin cfg0.N) (b : Fin 4) (j : Fin 16) (ht : t.val = 16 * b.val + j.val)
include ht

theorem cos_tile (r : Fin 256) (d : Fin 128) : k0_pay21 (F := Ideal) (iblk m c 10 t) (ix2 r d) = cosE (tok j r) d := by
  pointwise [k0_pay21]
  exact (tabs m c t b j ht r d).1
theorem sin_tile (r : Fin 256) (d : Fin 128) : k0_pay22 (F := Ideal) (iblk m c 11 t) (ix2 r d) = sinE (tok j r) d := by
  pointwise [k0_pay22]
  exact (tabs m c t b j ht r d).2
theorem q1_tile (r : Fin 256) (d : Fin 128) :
    k0_pay30 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t)) (ix2 r d)
      = qr (XA m c) (GA m c) (WA m c) b (tok j r) 1 d :=
  q1_at _ _ _ b (tok j) _ _ _ (rq_at m c t b j ht) (cos_tile m c t b j ht) (sin_tile m c t b j ht) r d
theorem k1_tile (r : Fin 256) (d : Fin 128) :
    k0_pay31 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t)) (ix2 r d)
      = kr (XA m c) (GA m c) (WA m c) b (tok j r) 1 d :=
  k1_at _ _ _ b (tok j) _ _ _ (rk_at m c t b j ht) (cos_tile m c t b j ht) (sin_tile m c t b j ht) r d
theorem q2_tile (r : Fin 256) (d : Fin 128) :
    k0_pay39 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t)) (ix2 r d)
      = qr (XA m c) (GA m c) (WA m c) b (tok j r) 2 d :=
  q2_at _ _ _ b (tok j) _ _ _ (rq_at m c t b j ht) (cos_tile m c t b j ht) (sin_tile m c t b j ht) r d
theorem k2_tile (r : Fin 256) (d : Fin 128) :
    k0_pay40 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t)) (ix2 r d)
      = kr (XA m c) (GA m c) (WA m c) b (tok j r) 2 d :=
  k2_at _ _ _ b (tok j) _ _ _ (rk_at m c t b j ht) (cos_tile m c t b j ht) (sin_tile m c t b j ht) r d
theorem q3_tile (r : Fin 256) (d : Fin 128) :
    k0_pay46 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t)) (ix2 r d)
      = qr (XA m c) (GA m c) (WA m c) b (tok j r) 3 d :=
  q3_at _ _ _ b (tok j) _ _ _ (rq_at m c t b j ht) (cos_tile m c t b j ht) (sin_tile m c t b j ht) r d
theorem k3_tile (r : Fin 256) (d : Fin 128) :
    k0_pay47 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t)) (ix2 r d)
      = kr (XA m c) (GA m c) (WA m c) b (tok j r) 3 d :=
  k3_at _ _ _ b (tok j) _ _ _ (rk_at m c t b j ht) (cos_tile m c t b j ht) (sin_tile m c t b j ht) r d
end tile

end Cert.KernelIdeal.Heads

end

end
-- ==== Proof.RetRows.lean ====
/-
  A tile's retention: every head's block of the gated output, and the whole tile's rows.
-/
module

public import proofs.«01_k».proof.Proof.Heads
public import proofs.«01_k».proof.Proof.Fold

@[expose] public section

set_option maxRecDepth 16384
noncomputable section
open Idealize.ShloMosaic Idealize.ShloMosaic.TcCoe Idealize.SL.Sem
namespace Cert.KernelIdeal.Heads
open Cert.KernelIdeal Cert.KernelIdeal.Gen Cert.Spec Cert.KernelIdeal.Blk Cert.KernelIdeal.Host Cert.KernelIdeal.Pay Cert.KernelIdeal.State Cert.KernelIdeal.Fold
variable (m : (ℓ : Loc nD τ sig) → Buf (Elt Ideal) ℓ)

/-- The retention norm's gains. -/
abbrev NA (c : Dev nD) : RArr := m ((c : Thread nD τ).loc main_arg3)

theorem head0 (v19 : FVec Ideal S256x1024 .bf16) (wq : Vec Ideal S1024x512 .bf16) (wk : Vec Ideal S1024x512 .bf16) (c s : Vec Ideal S256x128 .f32) (S : Vec Ideal S1x128x256 .f32)
    (cr : Vec Ideal S1x256x128 .f32) (D : Vec Ideal S1x256x256 .f32) (g : FVec Ideal S256x256 .f32) (R : Vec Ideal S1x256 .f32) (vb : FVec Ideal S256x256 .bf16) :
    k0_pay66 vb (k0_pay27 (k0_pay23 v19 wq c s) (k0_pay24 v19 wk c s)) (k0_pay28 (k0_pay23 v19 wq c s) S cr) g D R =
      retP (k0_pay23 v19 wq c s) (k0_pay24 v19 wk c s) vb S cr D g R := rfl

/-- A matrix product of the normed tokens with 256 of the projection's columns. -/
theorem mm_at (v : FVec Ideal S256x1024 .bf16) (w : Vec Ideal S1024x256 .bf16) (r e : Fin 256) : k0_pay99 v w (ix2 r e) = ∑ k : Fin 1024, v (ix2 r k) * w (ix2 k e) := by
  pointwise [k0_pay99]

section point
variable (c : Dev nD) (t : Fin cfg0.N) (b : Fin 4) (j : Fin 16) (ht : t.val = 16 * b.val + j.val)
include ht

theorem q0_at (r : Fin 256) (d : Fin 128) :
    k0_pay23 (k0_pay9 (F := Ideal) (iblk m c 0 t) (iblk m c 1 t)) (View.ld (iblk m c 2 t) (Rect.unit ![0, 0] ![1024, 512] inb_S1024x7680_S1024x512_0_0)) (iblk m c 10 t) (iblk m c 11 t) (ix2 r d)
      = qr (XA m c) (GA m c) (WA m c) b (tok j r) 0 d := by
  pointwise [k0_pay23, k0_pay21, k0_pay22]
  simp only [rq_at m c t b j ht, fun r d => (tabs m c t b j ht r d).1, fun r d => (tabs m c t b j ht r d).2]
  exact ropeq_eq _ _ _ b _ 0 d _ _ (by simp) (by simp)
theorem k0_at (r : Fin 256) (d : Fin 128) :
    k0_pay24 (k0_pay9 (F := Ideal) (iblk m c 0 t) (iblk m c 1 t)) (View.ld (iblk m c 2 t) (Rect.unit ![0, 512] ![1024, 512] inb_S1024x7680_S1024x512_0_512)) (iblk m c 10 t) (iblk m c 11 t) (ix2 r d)
      = kr (XA m c) (GA m c) (WA m c) b (tok j r) 0 d := by
  pointwise [k0_pay24, k0_pay21, k0_pay22]
  simp only [rk_at m c t b j ht, fun r d => (tabs m c t b j ht r d).1, fun r d => (tabs m c t b j ht r d).2]
  exact rope_eq _ _ _ b _ 0 d _ _ (by simp) (by simp)

theorem v0_at (r e : Fin 256) :
    k0_pay25 (k0_pay9 (F := Ideal) (iblk m c 0 t) (iblk m c 1 t)) (View.ld (iblk m c 2 t) (Rect.unit ![0, 1024] ![1024, 1024] inb_S1024x7680_S1024x1024_0_1024)) (ix2 r e)
      = vr (XA m c) (GA m c) (WA m c) b (tok j r) 0 e := by
  pointwise [k0_pay25]
  rw [rv_at m c t b j ht]
  exact congrArg (pj _ _ _ b _) (Fin.ext (by simp))
theorem v1_at (r e : Fin 256) :
    k0_pay32 (k0_pay20 (k0_pay9 (F := Ideal) (iblk m c 0 t) (iblk m c 1 t)) (View.ld (iblk m c 2 t) (Rect.unit ![0, 1024] ![1024, 1024] inb_S1024x7680_S1024x1024_0_1024))) (ix2 r e)
      = vr (XA m c) (GA m c) (WA m c) b (tok j r) 1 e := by
  pointwise [k0_pay32]
  rw [rv_at m c t b j ht]
  exact congrArg (pj _ _ _ b _) (Fin.ext (by simp))
theorem v2_at (r e : Fin 256) :
    k0_pay41 (k0_pay20 (k0_pay9 (F := Ideal) (iblk m c 0 t) (iblk m c 1 t)) (View.ld (iblk m c 2 t) (Rect.unit ![0, 1024] ![1024, 1024] inb_S1024x7680_S1024x1024_0_1024))) (ix2 r e)
      = vr (XA m c) (GA m c) (WA m c) b (tok j r) 2 e := by
  pointwise [k0_pay41]
  rw [rv_at m c t b j ht]
  exact congrArg (pj _ _ _ b _) (Fin.ext (by simp))
theorem v3_at (r e : Fin 256) :
    k0_pay48 (k0_pay20 (k0_pay9 (F := Ideal) (iblk m c 0 t) (iblk m c 1 t)) (View.ld (iblk m c 2 t) (Rect.unit ![0, 1024] ![1024, 1024] inb_S1024x7680_S1024x1024_0_1024))) (ix2 r e)
      = vr (XA m c) (GA m c) (WA m c) b (tok j r) 3 e := by
  pointwise [k0_pay48]
  rw [rv_at m c t b j ht]
  exact congrArg (pj _ _ _ b _) (Fin.ext (by simp))

theorem proj_at (lo : ℕ) (hlo : lo + 256 ≤ 7680) (inb) (r e : Fin 256) :
    k0_pay99 (k0_pay9 (F := Ideal) (iblk m c 0 t) (iblk m c 1 t)) (View.ld (iblk m c 2 t) (Rect.unit (s := S1024x7680) ![0, lo] ![1024, 256] inb)) (ix2 r e)
      = pj (XA m c) (GA m c) (WA m c) b (tok j r) ⟨lo + e, by omega⟩ :=
  (mm_at _ _ r e).trans (proj_sum m c t b j ht _ rfl lo 256 _ r e (by omega))

theorem rn_at (lo : ℕ) (h : Fin 4) (hlo : lo = 256 * h.val) (inb) (e : Fin 256) :
    View.ld (iblk m c 3 t) (Rect.unit (s := S1x1024) ![0, lo] ![1, 256] inb) (ix2 0 e) = NA m c (ix3 0 h e) := by
  pointwise
  rw [b3 m c t, rng_at]
  exact congrArg₂ (fun h e => NA m c (ix3 0 h e)) (Fin.ext (by simp; omega)) (Fin.ext (by simp; omega))
theorem dm_at (o : ℕ) (h : Fin 4) (ho : o = h.val) (inb) (r s : Fin 256) :
    View.ld (iblk m c 14 t) (Rect.unit (s := S4x256x256) ![o, 0, 0] ![1, 256, 256] inb) (ix3 0 r s) = dcE h r s := by
  subst ho
  pointwise
  rw [b14 m c t, dmask_at]
theorem cr_at (o : ℕ) (h : Fin 4) (ho : o = h.val) (inb) (r : Fin 256) (d : Fin 128) :
    View.ld (iblk m c 15 t) (Rect.unit (s := S4x256x128) ![o, 0, 0] ![1, 256, 128] inb) (ix3 0 r d) = crossE h r := by
  subst ho
  pointwise
  rw [b15 m c t, cross_at]

/-- A head's block of the gated output. -/
theorem rp_at (hG : ∀ i, IsR (GA m c i)) (hW : ∀ i, IsR (WA m c i)) (h : Fin 4) (q k : FVec Ideal S256x128 .f32) (v : FVec Ideal S256x256 .bf16) (S : Vec Ideal S1x128x256 .f32)
    (cr : Vec Ideal S1x256x128 .f32) (D : Vec Ideal S1x256x256 .f32) (g : FVec Ideal S256x256 .f32) (R : Vec Ideal S1x256 .f32)
    (hq : ∀ r d, q (ix2 r d) = qr (XA m c) (GA m c) (WA m c) b (tok j r) h d) (hk : ∀ r d, k (ix2 r d) = kr (XA m c) (GA m c) (WA m c) b (tok j r) h d)
    (hv : ∀ r e, v (ix2 r e) = vr (XA m c) (GA m c) (WA m c) b (tok j r) h e)
    (hS : ∀ d e, S (ix3 0 d e) = tiles (lgR h.val) (kN m c b h d) (vN m c b h e) j)
    (hc : ∀ r d, cr (ix3 0 r d) = crossE h r) (hD : ∀ r s, D (ix3 0 r s) = dcE h r s)
    (hg : ∀ r e, g (ix2 r e) = pj (XA m c) (GA m c) (WA m c) b (tok j r) ⟨2048 + 256 * h + e, by omega⟩) (hR : ∀ e, R (ix2 0 e) = NA m c (ix3 0 h e)) (r e : Fin 256) :
    retP q k v S cr D g R (ix2 r e) = rgate (XA m c) (GA m c) (WA m c) (NA m c) b (tok j r) ⟨256 * h + e, by omega⟩ := by
  refine (ret_at q k v S cr D g R r e (fun e => ret (XA m c) (GA m c) (WA m c) b (tok j r) h e) (fun e => ?_)).trans ?_
  · simp only [hq, hk, hv, hS, hc, hD]
    exact ret_tile (XA m c) (GA m c) (WA m c) hG hW b j r h e (kN m c b h) (vN m c b h e) (fun d t => rfl) (fun t => rfl)
  · unfold rgate
    have a1 : (⟨(256 * h + e) / 256, by omega⟩ : Fin 4) = h := Fin.ext (by dsimp only; omega)
    have a2 : (⟨(256 * h + e) % 256, by omega⟩ : Fin 256) = e := Fin.ext (by dsimp only; omega)
    have a3 : (⟨2048 + (256 * h + e), by omega⟩ : Fin 7680) = ⟨2048 + 256 * h + e, by omega⟩ := Fin.ext (by dsimp only; omega)
    simp only [hg, hR, a1, a2, a3]
end point

/-- The four blocks that a tile stores, the last first. -/
def orL (o0 o1 o2 o3 : FVec Ideal S256x256 .bf16) : List (View.Piece (Elt Ideal) S256x1024 .bf16) :=
  [⟨Rect.unit ![0, 768] ![256, 256] inb_S256x1024_S256x256_0_768, o3⟩, ⟨Rect.unit ![0, 512] ![256, 256] inb_S256x1024_S256x256_0_512, o2⟩,
    ⟨Rect.unit ![0, 256] ![256, 256] inb_S256x1024_S256x256_0_256, o1⟩, ⟨Rect.unit ![0, 0] ![256, 256] inb_S256x1024_S256x256_0_0, o0⟩]

theorem orL_at (o0 o1 o2 o3 : FVec Ideal S256x256 .bf16) (f : Fin 256 → Fin 1024 → EReal)
    (h0 : ∀ r e, o0 (ix2 r e) = f r ⟨256 * (0 : Fin 4) + e, by omega⟩) (h1 : ∀ r e, o1 (ix2 r e) = f r ⟨256 * (1 : Fin 4) + e, by omega⟩)
    (h2 : ∀ r e, o2 (ix2 r e) = f r ⟨256 * (2 : Fin 4) + e, by omega⟩) (h3 : ∀ r e, o3 (ix2 r e) = f r ⟨256 * (3 : Fin 4) + e, by omega⟩)
    (r : Fin 256) (k : Fin 1024) : View.canon (orL o0 o1 o2 o3) (ix2 r k) = f r k := by
  have g0 := h0
  have g1 := h1
  have g2 := h2
  have g3 := h3
  clear h0 h1 h2 h3
  unfold orL
  canon_tiles
  · obtain ⟨i, l, rfl⟩ : ∃ i l, x = ix2 i l := ⟨x 0, x 1, by funext a; fin_cases a <;> rfl⟩
    simp at h0 h1
    refine (g3 i l).trans ?_
    exact congrArg₂ f (Fin.ext (by omega)) (Fin.ext (by simp; omega))
  · obtain ⟨i, l, rfl⟩ : ∃ i l, x = ix2 i l := ⟨x 0, x 1, by funext a; fin_cases a <;> rfl⟩
    simp at h0 h1
    refine (g2 i l).trans ?_
    exact congrArg₂ f (Fin.ext (by omega)) (Fin.ext (by simp; omega))
  · obtain ⟨i, l, rfl⟩ : ∃ i l, x = ix2 i l := ⟨x 0, x 1, by funext a; fin_cases a <;> rfl⟩
    simp at h0 h1
    refine (g1 i l).trans ?_
    exact congrArg₂ f (Fin.ext (by omega)) (Fin.ext (by simp; omega))
  · obtain ⟨i, l, rfl⟩ : ∃ i l, x = ix2 i l := ⟨x 0, x 1, by funext a; fin_cases a <;> rfl⟩
    simp at h0 h1
    refine (g0 i l).trans ?_
    exact congrArg₂ f (Fin.ext (by omega)) (Fin.ext (by simp; omega))

end Cert.KernelIdeal.Heads

end

end
-- ==== Proof.Mix.lean ====
/-
  The tile's end: the branches' products, the gates that mix them and the output's product, and the masks of the window.
-/
module

public import proofs.«01_k».proof.Proof.RetRows

@[expose] public section

set_option maxRecDepth 16384
noncomputable section
open Idealize.ShloMosaic Idealize.ShloMosaic.TcCoe Idealize.SL.Sem
namespace Cert.KernelIdeal.Mix
open Cert.KernelIdeal Cert.KernelIdeal.Gen Cert.Spec Cert.KernelIdeal.Blk Cert.KernelIdeal.Host Cert.KernelIdeal.Pay Cert.KernelIdeal.Heads
variable (m : (ℓ : Loc nD τ sig) → Buf (Elt Ideal) ℓ)

/-- The lanes of a pair's first head. -/
theorem low_at (l : Fin 128) : k0_pay17 (iota Kind.tc S1x128 32 [1] iota_S1x128_d1_w32) (ix2 0 l) = if l.val < 64 then 1#1 else 0#1 := by
  pointwise [k0_pay17]
  revert l
  decide +kernel

/-- Small numbers' words compare as the numbers do. -/
theorem int_n (a : ℕ) (ha : a < 1024) : (BitVec.ofNat 32 a).toInt = a := by
  rw [BitVec.toInt_eq_toNat_of_lt (by rw [BitVec.toNat_ofNat]; omega), BitVec.toNat_ofNat]
  omega
theorem sle_n (a b : ℕ) (ha : a < 1024) (hb : b < 1024) : IntOp.cmpi .sle (BitVec.ofNat 32 a) (BitVec.ofNat 32 b) = if a ≤ b then 1#1 else 0#1 := by
  simp only [IntOp.cmpi, BitVec.sle, int_n a ha, int_n b hb, Nat.cast_le]
  by_cases h : a ≤ b <;> simp [h]
theorem sge_n (a b : ℕ) (ha : a < 1024) (hb : b < 1024) : IntOp.cmpi .sge (BitVec.ofNat 32 a) (BitVec.ofNat 32 b) = if b ≤ a then 1#1 else 0#1 := by
  simp only [IntOp.cmpi, BitVec.sle, int_n a ha, int_n b hb, Nat.cast_le]
  by_cases h : b ≤ a <;> simp [h]
theorem max_n (a b : ℕ) (ha : a < 1024) (hb : b < 1024) : IntOp.maxsi (BitVec.ofNat 32 a) (BitVec.ofNat 32 b) = BitVec.ofNat 32 (max a b) := by
  simp only [IntOp.maxsi, BitVec.slt, int_n a ha, int_n b hb, Nat.cast_lt, decide_eq_true_eq]
  split
  · rw [max_eq_left (by omega)]
  · rw [max_eq_right (by omega)]
theorem add_n (a b : ℕ) : IntOp.addi (BitVec.ofNat 32 a) (BitVec.ofNat 32 b) = BitVec.ofNat 32 (a + b) := (BitVec.ofNat_add a b).symm
theorem and_n (p q : Prop) [Decidable p] [Decidable q] : IntOp.andi (if p then 1#1 else 0#1) (if q then 1#1 else 0#1) = if p ∧ q then 1#1 else 0#1 := by
  by_cases hp : p <;> by_cases hq : q <;> simp [hp, hq, IntOp.andi]

/-- The first block's mask and the second's. -/
theorem first_at (j : Fin 16) (i : Fin 128) (k : Fin 256) :
    k0_pay87 (BitVec.ofNat 32 j.val) (ix2 i k) = if okE ⟨2 * j, by omega⟩ i k then 1#1 else 0#1 := by
  have hd : ∀ j : Fin 16, Scalar.select (Scalar.cmpi .eq (BitVec.ofNat 32 j.val) 0#32) 128#32 0#32 = BitVec.ofNat 32 (if j.val = 0 then 128 else 0) := by decide +kernel
  pointwise [k0_pay87]
  have hs : (if j.val = 0 then 128 else 0) < 1024 := by split <;> omega
  rw [hd, add_n, add_n, max_n _ _ (by omega) hs, sge_n _ _ (by omega) (by omega), sle_n _ _ (by omega) (by omega), and_n]
  refine if_congr ?_ rfl rfl
  unfold okE
  dsimp only
  split <;> omega
theorem second_at (j : Fin 16) (i : Fin 128) (k : Fin 256) :
    k0_pay88 (ix2 i k) = if okE ⟨2 * j + 1, by omega⟩ i k then 1#1 else 0#1 := by
  pointwise [k0_pay88]
  rw [add_n, add_n, sge_n _ _ (by omega) (by omega), sle_n _ _ (by omega) (by omega), and_n]
  refine if_congr ?_ rfl rfl
  unfold okE
  dsimp only
  omega

/-- A mixing gate. -/
theorem gate_at (v : FVec Ideal S256x1024 .bf16) (w : Vec Ideal S1024x256 .bf16) (r e : Fin 256) :
    k0_pay124 v w (ix2 r e) = Cert.Spec.sig (∑ k : Fin 1024, v (ix2 r k) * w (ix2 k e)) := by
  pointwise [k0_pay124]
  unfold Cert.Spec.sig
  rw [zero_sub]
theorem g110 (v : FVec Ideal S256x1024 .bf16) (w : Vec Ideal S1024x256 .bf16) : k0_pay111 (k0_pay110 v w) = k0_pay124 v w := rfl
theorem g154 (v : FVec Ideal S256x1024 .bf16) (w : Vec Ideal S1024x256 .bf16) : k0_pay154 v w = k0_pay124 v w := rfl
theorem g161 (v : FVec Ideal S256x1024 .bf16) (w : Vec Ideal S1024x256 .bf16) : k0_pay161 v w = k0_pay124 v w := rfl
theorem g197 (v : FVec Ideal S256x1024 .bf16) (w : Vec Ideal S1024x256 .bf16) : k0_pay197 v w = k0_pay124 v w := rfl
theorem g207 (v : FVec Ideal S256x1024 .bf16) (w : Vec Ideal S1024x256 .bf16) : k0_pay207 (k0_pay206 v w) = k0_pay124 v w := rfl
theorem g250 (v : FVec Ideal S256x1024 .bf16) (w : Vec Ideal S1024x256 .bf16) : k0_pay250 v (k0_pay249 w) = k0_pay124 v w := rfl
theorem g263 (v : FVec Ideal S256x1024 .bf16) (w : Vec Ideal S1024x256 .bf16) : k0_pay263 v w = k0_pay124 v w := rfl

/-- The mixed branches' product with the output's weights, added to the tokens. -/
theorem mix_at (x : FVec Ideal S256x1024 .f32) (a0 s0 p0 a1 s1 p1 a2 s2 p2 a3 s3 p3 : FVec Ideal S256x256 .f32) (o : Vec Ideal S256x1024 .bf16)
    (w0 w1 w2 w3 : Vec Ideal S1024x256 .bf16) (wo : Vec Ideal S1024x1024 .bf16) (r : Fin 256) (n : Fin 1024) (f : Fin 1024 → EReal)
    (h0 : ∀ e : Fin 256, a0 (ix2 r e) * p0 (ix2 r e) + s0 (ix2 r e) * (∑ k : Fin 1024, o (ix2 r k) * w0 (ix2 k e)) = f ⟨256 * (0 : Fin 4) + e, by omega⟩)
    (h1 : ∀ e : Fin 256, a1 (ix2 r e) * p1 (ix2 r e) + s1 (ix2 r e) * (∑ k : Fin 1024, o (ix2 r k) * w1 (ix2 k e)) = f ⟨256 * (1 : Fin 4) + e, by omega⟩)
    (h2 : ∀ e : Fin 256, a2 (ix2 r e) * p2 (ix2 r e) + s2 (ix2 r e) * (∑ k : Fin 1024, o (ix2 r k) * w2 (ix2 k e)) = f ⟨256 * (2 : Fin 4) + e, by omega⟩)
    (h3 : ∀ e : Fin 256, a3 (ix2 r e) * p3 (ix2 r e) + s3 (ix2 r e) * (∑ k : Fin 1024, o (ix2 r k) * w3 (ix2 k e)) = f ⟨256 * (3 : Fin 4) + e, by omega⟩) :
    k0_pay1 (k0_pay281 x a0 s0 p0 a1 s1 p1 a2 s2 p2 a3 s3 p3 o w0 o w1 o w2 o w3 wo) (ix3 0 r n) = x (ix2 r n) + ∑ k : Fin 1024, f k * wo (ix2 k n) := by
  pointwise [k0_pay1, k0_pay281]
  refine congrArg _ (Finset.sum_congr rfl fun k _ => congrArg (· * _) ?_)
  split
  · rw [h0]
    exact congrArg f (Fin.ext (by simp))
  · split
    · rw [h1]
      exact congrArg f (Fin.ext (by simp; omega))
    · split
      · rw [h2]
        exact congrArg f (Fin.ext (by simp; omega))
      · refine (h3 ⟨k - 256 - 256 - 256, by omega⟩).trans ?_
        exact congrArg f (Fin.ext (by simp; omega))

theorem idx6 : ∀ t : Fin cfg0.N, win0_6.index t (0 : Fin 1) = 0 := (by decide +kernel : ∀ t : Fin grid0.N, _)
theorem b6 (c : Dev nD) (t : Fin cfg0.N) (k : Fin 16) : iblk m c 6 t (ix1 k) = V m c main_v16 (ix1 k) := by
  have hix := idx6 t
  have hb : t.val < 64 := lt_of_lt_of_eq t.isLt N_0
  blk_point [iblk, idx6 t]

end Cert.KernelIdeal.Mix

end

end
-- ==== Proof.Soft.lean ====
/-
  The softmax with a sink, with the division by its sum before or after the mean of the values.
-/
module

public import proofs.«01_k».proof.Proof.Finite

@[expose] public section

set_option maxRecDepth 16384
noncomputable section
open Idealize.ShloMosaic
namespace Cert.Spec

theorem negInf_eq : Ideal.ofBits .f32 0xFF800000#32 = (⊥ : EReal) := by
  simp [Ideal.ofBits, Ideal.ieee]

/-- The greatest of the scores and the sink. -/
theorem top_withSink (s : Fin 256 → EReal) (sink : EReal) :
    Finset.univ.fold max (⊥ : EReal) (withSink s sink) = max (Finset.univ.fold max (⊥ : EReal) s) sink := by
  show Finset.univ.sup (withSink s sink) = Finset.univ.sup s ⊔ sink
  refine le_antisymm (Finset.sup_le fun j _ => ?_) (sup_le (Finset.sup_le fun j _ => ?_) ?_)
  · unfold withSink
    split
    · exact le_sup_of_le_left (Finset.le_sup (f := s) (Finset.mem_univ _))
    · exact le_sup_right
  · refine le_trans (le_of_eq ?_) (Finset.le_sup (f := withSink s sink) (Finset.mem_univ ⟨j.val, by omega⟩))
    unfold withSink
    rw [dif_pos (show (⟨j.val, by omega⟩ : Fin 257).val < 256 from j.isLt)]
  · refine le_trans (le_of_eq ?_) (Finset.le_sup (f := withSink s sink) (Finset.mem_univ (Fin.last 256)))
    unfold withSink
    rw [dif_neg (by simp)]

/-- With every score real or absent and the sink real, the softmax divides by a positive real number. -/
theorem att_eq (s : Fin 256 → EReal) (sink : EReal) (v : Fin 256 → EReal) (hs : ∀ j, s j = ⊥ ∨ IsR (s j)) (hk : IsR sink) (M : EReal)
    (hM : M = max (Finset.univ.fold max (⊥ : EReal) s) sink) :
    (∑ j, Ideal.exp (s j - M) * v j) * Ideal.div 1 (∑ j, Ideal.exp (s j - M) + Ideal.exp (sink - M)) = att s sink v := by
  have hm : IsR M := by
    obtain ⟨k, rfl⟩ := hk
    have h1 : M ≠ ⊥ := by
      rw [hM]; exact ne_of_gt (lt_of_lt_of_le (EReal.bot_lt_coe k) (le_max_right _ _))
    have h2 : M ≠ ⊤ := by
      rw [hM]
      refine ne_of_lt (max_lt ?_ (EReal.coe_lt_top k))
      show Finset.univ.sup s < ⊤
      rw [Finset.sup_lt_iff (by exact bot_lt_top)]
      intro j _
      rcases hs j with h | ⟨r, h⟩ <;> rw [h]
      · exact bot_lt_top
      · exact EReal.coe_lt_top r
    exact ⟨M.toReal, (EReal.coe_toReal h2 h1).symm⟩
  have he : ∀ j, ∃ r : ℝ, 0 ≤ r ∧ Ideal.exp (s j - M) = (r : EReal) := fun j => by
    obtain ⟨a, ha⟩ := hm
    rcases hs j with h | ⟨r, h⟩ <;> rw [h, ha]
    · exact ⟨0, le_refl _, by rw [EReal.bot_sub]; rfl⟩
    · exact ⟨Real.exp (r - a), (Real.exp_pos _).le, by rw [← EReal.coe_sub]; rfl⟩
  have hz : ∃ z : ℝ, 0 < z ∧ ∑ j, Ideal.exp (s j - M) + Ideal.exp (sink - M) = (z : EReal) := by
    choose r h0 hr using he
    obtain ⟨a, ha⟩ := hm
    obtain ⟨k, hk⟩ := hk
    refine ⟨∑ j, r j + Real.exp (k - a), add_pos_of_nonneg_of_pos (Finset.sum_nonneg fun j _ => h0 j) (Real.exp_pos _), ?_⟩
    rw [EReal.coe_add, coe_sum]
    refine congrArg₂ (· + ·) (Finset.sum_congr rfl fun j _ => hr j) ?_
    rw [hk, ha, ← EReal.coe_sub]; rfl
  have hsum : ∑ k : Fin 257, Ideal.exp (withSink s sink k - M) = ∑ j, Ideal.exp (s j - M) + Ideal.exp (sink - M) := by
    rw [Fin.sum_univ_castSucc]
    refine congrArg₂ (· + ·) (Finset.sum_congr rfl fun j _ => ?_) ?_
    · unfold withSink
      rw [dif_pos (show j.castSucc.val < 256 from j.isLt)]
      rfl
    · unfold withSink
      rw [dif_neg (by simp)]
  unfold att
  rw [negInf_eq, max_eq_right bot_le, top_withSink, ← hM, hsum]
  obtain ⟨z, h0, hz⟩ := hz
  rw [hz, div_real _ _ h0.ne', one_mul, mul_comm, mul_sum_pos _ _ (by exact_mod_cast (inv_pos.mpr h0).le) (EReal.coe_ne_top _)]
  refine Finset.sum_congr rfl fun j _ => ?_
  have hj : withSink s sink ⟨j.val, by omega⟩ = s j := by
    unfold withSink
    rw [dif_pos (show (⟨j.val, by omega⟩ : Fin 257).val < 256 from j.isLt)]
  rw [hj, div_real _ _ h0.ne', ← mul_assoc, mul_comm _ (Ideal.exp (s j - M)), mul_comm (v j)]

end Cert.Spec

end

end
-- ==== Proof.Att.lean ====
/-
  The windowed attention of a pair of heads as the body computes it: both heads' keys and values in one block-diagonal
  matrix, their softmax with a sink, the gate. Every pair's output is one function of its block of queries.
-/
module

public import proofs.«01_k».proof.Proof.Pay
public import proofs.«01_k».proof.Proof.Soft

@[expose] public section

set_option maxRecDepth 16384
noncomputable section
open Idealize.ShloMosaic Idealize.ShloMosaic.TcCoe Idealize.SL.Sem
namespace Cert.KernelIdeal.Att
open Cert.KernelIdeal Cert.KernelIdeal.Gen Cert.Spec

/-- The block before and a tile's first block; a tile's two blocks. -/
def catP (P : Vec Ideal S128x256 .f32) (X : FVec Ideal S256x256 .f32) : FVec Ideal S256x256 .f32 :=
  concatenate S256x256 0 [⟨S128x256, P⟩, ⟨S128x256, extractStridedSlice S128x256 ![0, 0] X slices_S256x256_o0_0_S128x256⟩] concatenates_S128x256_S128x256_S256x256_d0
def catC (X : FVec Ideal S256x256 .f32) : FVec Ideal S256x256 .f32 :=
  concatenate S256x256 0 [⟨S128x256, extractStridedSlice S128x256 ![0, 0] X slices_S256x256_o0_0_S128x256⟩,
    ⟨S128x256, extractStridedSlice S128x256 ![128, 0] X slices_S256x256_o128_0_S128x256⟩] concatenates_S128x256_S128x256_S256x256_d0

/-- The columns of a head's pair and their rotation by a head; a head's block-diagonal matrix, by the head. -/
def lo (Y : FVec Ideal S256x256 .f32) : FVec Ideal S256x128 .f32 := extractStridedSlice S256x128 ![0, 0] Y slices_S256x256_o0_0_S256x128
def hi (Y : FVec Ideal S256x256 .f32) : FVec Ideal S256x128 .f32 := extractStridedSlice S256x128 ![0, 128] Y slices_S256x256_o0_128_S256x128
def rot (a : FVec Ideal S256x128 .f32) : FVec Ideal S256x128 .f32 := dynamicRotate 1 64#32 none a rotates_S256x128_d1
def kv0 (M : IVec S1x128 1) (Y : FVec Ideal S256x256 .f32) : FVec Ideal S512x128 .bf16 := k0_pay91 M (lo Y) (rot (lo Y))
def kv1 (M : IVec S1x128 1) (Y : FVec Ideal S256x256 .f32) : FVec Ideal S512x128 .bf16 := k0_pay91 M (rot (lo Y)) (lo Y)
def kv2 (M : IVec S1x128 1) (Y : FVec Ideal S256x256 .f32) : FVec Ideal S512x128 .bf16 := k0_pay91 M (hi Y) (rot (hi Y))
def kv3 (M : IVec S1x128 1) (Y : FVec Ideal S256x256 .f32) : FVec Ideal S512x128 .bf16 := k0_pay91 M (rot (hi Y)) (hi Y)

/-- The scores of a pair of heads. -/
def scP (q : FVec Ideal S128x128 .f32) (kb : FVec Ideal S512x128 .bf16) : FVec Ideal S128x512 .f32 :=
  matmul dot_S128x128_S512x128_S128x512_1_1_0_0_n_n none (truncf .bf16 q bitsLt_bf16_f32) kb (constant S128x512 .f32 0x00000000#32)

/-- A head's greatest score or sink, its exponentials and one over their sum. -/
def top (x : FVec Ideal S128x256 .f32) (k : Elt Ideal .f32) : FVec Ideal S128x1 .f32 :=
  maximumf (shapeCast S128x1 (multiReduction .maximumf [1] S128 x 0xFF800000#32 reduces_S128x256_S128 (.inl rfl) rfl) shapeCasts_S128_S128x1) (broadcast S128x1 k)
def ex (x : FVec Ideal S128x256 .f32) (k : Elt Ideal .f32) : FVec Ideal S128x256 .f32 :=
  exp (subf x (broadcastTo S128x256 (top x k) broadcasts_S128x1_S128x256))
def inv (x : FVec Ideal S128x256 .f32) (k : Elt Ideal .f32) : FVec Ideal S128x1 .f32 :=
  divf (broadcast S128x1 (Scalar.ofBits .f32 0x3F800000#32 : Ideal .f32))
    (addf (shapeCast S128x1 (multiReduction .add [1] S128 (ex x k) 0x00000000#32 reduces_S128x256_S128 (.inl rfl) rfl) shapeCasts_S128_S128x1)
      (exp (subf (broadcast S128x1 k) (top x k))))

/-- The gated attention of a pair of heads. -/
def outP (M : IVec S1x128 1) (A : IVec S128x256 1) (vb : FVec Ideal S512x128 .bf16) (s : FVec Ideal S128x512 .f32) (k0 k1 : Elt Ideal .f32)
    (g : FVec Ideal S128x128 .f32) : FVec Ideal S128x128 .bf16 :=
  shapeCast S128x128 (truncf .bf16 (mulf
    (mulf
      (matmul dot_S128x512_S512x128_S128x128_1_0_0_1_n_n none
        (concatenate S128x512 1 [⟨S128x256, truncf .bf16 (ex (k0_pay100 A s) k0) bitsLt_bf16_f32⟩, ⟨S128x256, truncf .bf16 (ex (k0_pay105 A s) k1) bitsLt_bf16_f32⟩]
          concatenates_S128x256_S128x256_S128x512_d1) vb (constant S128x128 .f32 0x00000000#32))
      (select (broadcastTo S128x128 (shapeCast S1x128 M shapeCasts_S1x128_S1x128) broadcasts_S1x128_S128x128)
        (broadcastTo S128x128 (shapeCast S128x1 (inv (k0_pay100 A s) k0) shapeCasts_S128x1_S128x1) broadcasts_S128x1_S128x128)
        (broadcastTo S128x128 (shapeCast S128x1 (inv (k0_pay105 A s) k1) shapeCasts_S128x1_S128x1) broadcasts_S128x1_S128x128)))
    (mulf g (divf (broadcast S128x128 (Scalar.ofBits .f32 0x3F800000#32 : Ideal .f32))
      (addf (broadcast S128x128 (Scalar.ofBits .f32 0x3F800000#32 : Ideal .f32)) (exp (subf (broadcast S128x128 (Scalar.ofBits .f32 0x00000000#32 : Ideal .f32)) g))))))
    bitsLt_bf16_f32) shapeCasts_S128x128_S128x128

theorem pair0_0 (M : IVec S1x128 1) (A : IVec S128x256 1) (K U q g : FVec Ideal S256x256 .f32) (PK PV : Vec Ideal S128x256 .f32) (k0 k1 : Elt Ideal .f32) :
    (k0_pay108 M (k0_pay92 M U PV) g (k0_pay103 A (k0_pay93 M q (k0_pay89 K PK) (k0_pay90 K PK)) k0) (k0_pay104 A (k0_pay93 M q (k0_pay89 K PK) (k0_pay90 K PK)) k0) k1 (k0_pay106 A (k0_pay93 M q (k0_pay89 K PK) (k0_pay90 K PK)) k1) (k0_pay107 A (k0_pay93 M q (k0_pay89 K PK) (k0_pay90 K PK)) k1)) =
      outP M A (kv0 M (catP PV U)) (scP (extractStridedSlice S128x128 ![0, 0] q slices_S256x256_o0_0_S128x128) (kv0 M (catP PK K))) k0 k1 (extractStridedSlice S128x128 ![0, 0] g slices_S256x256_o0_0_S128x128) := rfl
theorem pair0_1 (M : IVec S1x128 1) (A : IVec S128x256 1) (K U q g : FVec Ideal S256x256 .f32) (k0 k1 : Elt Ideal .f32) :
    (k0_pay122 g (k0_pay118 A (k0_pay98 q (k0_pay94 M K)) k1) (k0_pay119 A (k0_pay97 M (k0_pay95 U) (k0_pay96 U)) (k0_pay98 q (k0_pay94 M K)) k0 k1) (k0_pay120 M) (k0_pay121 A (k0_pay98 q (k0_pay94 M K)) k0)) =
      outP M A (kv0 M (catC U)) (scP (extractStridedSlice S128x128 ![128, 0] q slices_S256x256_o128_0_S128x128) (kv0 M (catC K))) k0 k1 (extractStridedSlice S128x128 ![128, 0] g slices_S256x256_o128_0_S128x128) := rfl
theorem pair1_0 (M : IVec S1x128 1) (A : IVec S128x256 1) (K U q g : FVec Ideal S256x256 .f32) (PK PV : Vec Ideal S128x256 .f32) (k0 k1 : Elt Ideal .f32) :
    (k0_pay130 (k0_pay129 M A (k0_pay92 M U PV) g (k0_pay109 q (k0_pay91 M (k0_pay89 K PK) (k0_pay90 K PK))) k0 (k0_pay126 A (k0_pay109 q (k0_pay91 M (k0_pay89 K PK) (k0_pay90 K PK))) k0) (k0_pay127 A (k0_pay109 q (k0_pay91 M (k0_pay89 K PK) (k0_pay90 K PK))) k0) (k0_pay128 A (k0_pay109 q (k0_pay91 M (k0_pay89 K PK) (k0_pay90 K PK))) k0) k1)) =
      outP M A (kv0 M (catP PV U)) (scP (extractStridedSlice S128x128 ![0, 128] q slices_S256x256_o0_128_S128x128) (kv0 M (catP PK K))) k0 k1 (extractStridedSlice S128x128 ![0, 128] g slices_S256x256_o0_128_S128x128) := rfl
theorem pair1_1 (M : IVec S1x128 1) (A : IVec S128x256 1) (K U q g : FVec Ideal S256x256 .f32) (k0 k1 : Elt Ideal .f32) :
    (k0_pay137 (k0_pay135 M A (k0_pay97 M (k0_pay95 U) (k0_pay96 U)) (k0_pay123 q (k0_pay94 M K)) k0 k1) (k0_pay136 g)) =
      outP M A (kv0 M (catC U)) (scP (extractStridedSlice S128x128 ![128, 128] q slices_S256x256_o128_128_S128x128) (kv0 M (catC K))) k0 k1 (extractStridedSlice S128x128 ![128, 128] g slices_S256x256_o128_128_S128x128) := rfl
theorem pair2_0 (M : IVec S1x128 1) (A : IVec S128x256 1) (K U q g : FVec Ideal S256x256 .f32) (PK PV : Vec Ideal S128x256 .f32) (k0 k1 : Elt Ideal .f32) :
    (k0_pay152 g (k0_pay145 A (k0_pay133 M K q PK) k0) (k0_pay149 A (k0_pay133 M K q PK) k1) (k0_pay150 A (k0_pay132 M U PV) (k0_pay133 M K q PK) k0 k1) (k0_pay151 M)) =
      outP M A (kv1 M (catP PV U)) (scP (extractStridedSlice S128x128 ![0, 0] q slices_S256x256_o0_0_S128x128) (kv1 M (catP PK K))) k0 k1 (extractStridedSlice S128x128 ![0, 0] g slices_S256x256_o0_0_S128x128) := rfl
theorem pair2_1 (M : IVec S1x128 1) (A : IVec S128x256 1) (K U q g : FVec Ideal S256x256 .f32) (k0 k1 : Elt Ideal .f32) :
    (k0_pay159 (k0_pay158 M A (k0_pay139 M U) (k0_pay140 M K q) g k0 (k0_pay156 A (k0_pay140 M K q) k0) (k0_pay157 A (k0_pay140 M K q) k0) k1)) =
      outP M A (kv1 M (catC U)) (scP (extractStridedSlice S128x128 ![128, 0] q slices_S256x256_o128_0_S128x128) (kv1 M (catC K))) k0 k1 (extractStridedSlice S128x128 ![128, 0] g slices_S256x256_o128_0_S128x128) := rfl
theorem pair3_0 (M : IVec S1x128 1) (A : IVec S128x256 1) (K U q g : FVec Ideal S256x256 .f32) (PK PV : Vec Ideal S128x256 .f32) (k0 k1 : Elt Ideal .f32) :
    (k0_pay169 M (k0_pay132 M U PV) g (k0_pay165 A (k0_pay153 q (k0_pay131 M K PK)) k0) (k0_pay166 A (k0_pay153 q (k0_pay131 M K PK)) k0) k1 (k0_pay167 A (k0_pay153 q (k0_pay131 M K PK))) (k0_pay168 A (k0_pay153 q (k0_pay131 M K PK)))) =
      outP M A (kv1 M (catP PV U)) (scP (extractStridedSlice S128x128 ![0, 128] q slices_S256x256_o0_128_S128x128) (kv1 M (catP PK K))) k0 k1 (extractStridedSlice S128x128 ![0, 128] g slices_S256x256_o0_128_S128x128) := rfl
theorem pair3_1 (M : IVec S1x128 1) (A : IVec S128x256 1) (K U q g : FVec Ideal S256x256 .f32) (k0 k1 : Elt Ideal .f32) :
    (k0_pay184 (k0_pay183 M A (k0_pay139 M U) g (k0_pay160 q (k0_pay138 M K)) (k0_pay180 A (k0_pay160 q (k0_pay138 M K)) k0) (k0_pay181 A (k0_pay160 q (k0_pay138 M K)) k0) (k0_pay182 A (k0_pay160 q (k0_pay138 M K)) k0) k1)) =
      outP M A (kv1 M (catC U)) (scP (extractStridedSlice S128x128 ![128, 128] q slices_S256x256_o128_128_S128x128) (kv1 M (catC K))) k0 k1 (extractStridedSlice S128x128 ![128, 128] g slices_S256x256_o128_128_S128x128) := rfl
theorem pair4_0 (M : IVec S1x128 1) (A : IVec S128x256 1) (K U q g : FVec Ideal S256x256 .f32) (PK PV : Vec Ideal S128x256 .f32) (k0 k1 : Elt Ideal .f32) :
    (k0_pay195 (k0_pay192 M A (k0_pay175 M U PV) (k0_pay176 M q (k0_pay170 K PK) (k0_pay171 K PK) (k0_pay172 M) k0_pay173) k0 (k0_pay189 A (k0_pay176 M q (k0_pay170 K PK) (k0_pay171 K PK) (k0_pay172 M) k0_pay173)) (k0_pay190 A (k0_pay176 M q (k0_pay170 K PK) (k0_pay171 K PK) (k0_pay172 M) k0_pay173) k0) (k0_pay191 A (k0_pay176 M q (k0_pay170 K PK) (k0_pay171 K PK) (k0_pay172 M) k0_pay173) k0) k1) (k0_pay193 g) (k0_pay194 g)) =
      outP M A (kv2 M (catP PV U)) (scP (extractStridedSlice S128x128 ![0, 0] q slices_S256x256_o0_0_S128x128) (kv2 M (catP PK K))) k0 k1 (extractStridedSlice S128x128 ![0, 0] g slices_S256x256_o0_0_S128x128) := rfl
theorem pair4_1 (M : IVec S1x128 1) (A : IVec S128x256 1) (K U q g : FVec Ideal S256x256 .f32) (k0 k1 : Elt Ideal .f32) :
    (k0_pay204 M (k0_pay186 M U) g (k0_pay201 A (k0_pay187 M K q) k0) (k0_pay202 A (k0_pay187 M K q) k0) k1 (k0_pay203 A (k0_pay187 M K q))) =
      outP M A (kv2 M (catC U)) (scP (extractStridedSlice S128x128 ![128, 0] q slices_S256x256_o128_0_S128x128) (kv2 M (catC K))) k0 k1 (extractStridedSlice S128x128 ![128, 0] g slices_S256x256_o128_0_S128x128) := rfl
theorem pair5_0 (M : IVec S1x128 1) (A : IVec S128x256 1) (K U q g : FVec Ideal S256x256 .f32) (PK PV : Vec Ideal S128x256 .f32) (k0 k1 : Elt Ideal .f32) :
    (k0_pay218 M (k0_pay175 M U PV) g (k0_pay211 A (k0_pay196 q (k0_pay174 M (k0_pay170 K PK) (k0_pay171 K PK) (k0_pay172 M) k0_pay173)) k0) (k0_pay212 A (k0_pay196 q (k0_pay174 M (k0_pay170 K PK) (k0_pay171 K PK) (k0_pay172 M) k0_pay173)) k0) (k0_pay216 A (k0_pay196 q (k0_pay174 M (k0_pay170 K PK) (k0_pay171 K PK) (k0_pay172 M) k0_pay173)) k1) (k0_pay217 A (k0_pay196 q (k0_pay174 M (k0_pay170 K PK) (k0_pay171 K PK) (k0_pay172 M) k0_pay173)) k1)) =
      outP M A (kv2 M (catP PV U)) (scP (extractStridedSlice S128x128 ![0, 128] q slices_S256x256_o0_128_S128x128) (kv2 M (catP PK K))) k0 k1 (extractStridedSlice S128x128 ![0, 128] g slices_S256x256_o0_128_S128x128) := rfl
theorem pair5_1 (M : IVec S1x128 1) (A : IVec S128x256 1) (K U q g : FVec Ideal S256x256 .f32) (k0 k1 : Elt Ideal .f32) :
    (k0_pay232 M (k0_pay186 M U) g (k0_pay228 A (k0_pay205 q (k0_pay185 M K)) k0) (k0_pay229 A (k0_pay205 q (k0_pay185 M K)) k0) k1 (k0_pay230 A (k0_pay205 q (k0_pay185 M K))) (k0_pay231 A (k0_pay205 q (k0_pay185 M K)) k1)) =
      outP M A (kv2 M (catC U)) (scP (extractStridedSlice S128x128 ![128, 128] q slices_S256x256_o128_128_S128x128) (kv2 M (catC K))) k0 k1 (extractStridedSlice S128x128 ![128, 128] g slices_S256x256_o128_128_S128x128) := rfl
theorem pair6_0 (M : IVec S1x128 1) (A : IVec S128x256 1) (K U q g : FVec Ideal S256x256 .f32) (PK PV : Vec Ideal S128x256 .f32) (k0 k1 : Elt Ideal .f32) :
    (k0_pay247 M A (k0_pay222 M (k0_pay220 U PV) (k0_pay221 U PV) (Scalar.ofBits .f32 0x00000000#32)) g (k0_pay244 A (k0_pay223 q (k0_pay219 M K PK)) k0) (k0_pay245 A (k0_pay223 q (k0_pay219 M K PK)) k0) k1 (k0_pay246 (k0_pay223 q (k0_pay219 M K PK))) (Scalar.ofBits .f32 0xFF800000#32)) =
      outP M A (kv3 M (catP PV U)) (scP (extractStridedSlice S128x128 ![0, 0] q slices_S256x256_o0_0_S128x128) (kv3 M (catP PK K))) k0 k1 (extractStridedSlice S128x128 ![0, 0] g slices_S256x256_o0_0_S128x128) := rfl
theorem pair6_1 (M : IVec S1x128 1) (A : IVec S128x256 1) (K U q g : FVec Ideal S256x256 .f32) (k0 k1 : Elt Ideal .f32) :
    (k0_pay261 M (k0_pay238 M U) g (k0_pay254 A (k0_pay239 q (k0_pay233 K) (k0_pay234 M K) (k0_pay235 M) k0_pay236) k0) (k0_pay255 A (k0_pay239 q (k0_pay233 K) (k0_pay234 M K) (k0_pay235 M) k0_pay236) k0) (k0_pay258 A (k0_pay239 q (k0_pay233 K) (k0_pay234 M K) (k0_pay235 M) k0_pay236) k1) (k0_pay259 A (k0_pay239 q (k0_pay233 K) (k0_pay234 M K) (k0_pay235 M) k0_pay236) k1) k0_pay260) =
      outP M A (kv3 M (catC U)) (scP (extractStridedSlice S128x128 ![128, 0] q slices_S256x256_o128_0_S128x128) (kv3 M (catC K))) k0 k1 (extractStridedSlice S128x128 ![128, 0] g slices_S256x256_o128_0_S128x128) := rfl
theorem pair7_0 (M : IVec S1x128 1) (A : IVec S128x256 1) (K U q g : FVec Ideal S256x256 .f32) (PK PV : Vec Ideal S128x256 .f32) (k0 k1 : Elt Ideal .f32) :
    (k0_pay268 (k0_pay265 M A (k0_pay222 M (k0_pay220 U PV) (k0_pay221 U PV) (Scalar.ofBits .f32 0x00000000#32)) (k0_pay248 q (k0_pay219 M K PK)) k0 (k0_pay264 A (k0_pay248 q (k0_pay219 M K PK))) k1) (k0_pay266 g) (k0_pay267 g) (Scalar.ofBits .f32 0x3F800000#32)) =
      outP M A (kv3 M (catP PV U)) (scP (extractStridedSlice S128x128 ![0, 128] q slices_S256x256_o0_128_S128x128) (kv3 M (catP PK K))) k0 k1 (extractStridedSlice S128x128 ![0, 128] g slices_S256x256_o0_128_S128x128) := rfl
theorem pair7_1 (M : IVec S1x128 1) (A : IVec S128x256 1) (K U q g : FVec Ideal S256x256 .f32) (k0 k1 : Elt Ideal .f32) :
    (k0_pay278 M (k0_pay238 M U) g (k0_pay273 A (k0_pay262 q (k0_pay237 (k0_pay233 K) (k0_pay234 M K) (k0_pay235 M) k0_pay236)) k0) (k0_pay274 A (k0_pay262 q (k0_pay237 (k0_pay233 K) (k0_pay234 M K) (k0_pay235 M) k0_pay236)) k0) k1 (k0_pay275 A (k0_pay262 q (k0_pay237 (k0_pay233 K) (k0_pay234 M K) (k0_pay235 M) k0_pay236))) (k0_pay276 A (k0_pay262 q (k0_pay237 (k0_pay233 K) (k0_pay234 M K) (k0_pay235 M) k0_pay236)) k1) (k0_pay277 A (k0_pay262 q (k0_pay237 (k0_pay233 K) (k0_pay234 M K) (k0_pay235 M) k0_pay236)) k1)) =
      outP M A (kv3 M (catC U)) (scP (extractStridedSlice S128x128 ![128, 128] q slices_S256x256_o128_128_S128x128) (kv3 M (catC K))) k0 k1 (extractStridedSlice S128x128 ![128, 128] g slices_S256x256_o128_128_S128x128) := rfl

/-- A block-diagonal matrix's entry. -/
def diag (V : Fin 256 → Fin 64 → EReal) (k : Fin 512) (l : Fin 128) : EReal :=
  if h : k.val < 256 then (if hl : l.val < 64 then V ⟨k, h⟩ ⟨l, hl⟩ else 0)
  else if hl : l.val < 64 then 0 else V ⟨k - 256, by omega⟩ ⟨l - 64, by omega⟩

section
variable (M : IVec S1x128 1) (hM : ∀ l : Fin 128, M (ix2 0 l) = if l.val < 64 then 1#1 else 0#1)
include hM

theorem diag_at (a b : FVec Ideal S256x128 .f32) (V : Fin 256 → Fin 64 → EReal)
    (ha : ∀ (r : Fin 256) (l : Fin 64), a (ix2 r ⟨l, by omega⟩) = V r l)
    (hb : ∀ (r : Fin 256) (l : Fin 64), b (ix2 r ⟨64 + l, by omega⟩) = V r l) (k : Fin 512) (l : Fin 128) :
    k0_pay91 M a b (ix2 k l) = diag V k l := by
  pointwise [k0_pay91]
  rw [hM]
  unfold diag
  split
  · split
    · exact ha ⟨k, by omega⟩ ⟨l, by omega⟩
    · rfl
  · split
    · rfl
    · refine Eq.trans ?_ (hb ⟨k - 256, by omega⟩ ⟨l - 64, by omega⟩)
      exact congrArg (fun l => b (ix2 _ l)) (Fin.ext (by dsimp only; omega))
end

theorem cp_at (P : Vec Ideal S128x256 .f32) (X : FVec Ideal S256x256 .f32) (r e : Fin 256) :
    catP P X (ix2 r e) = if h : r.val < 128 then P (ix2 ⟨r, h⟩ e) else X (ix2 ⟨r - 128, by omega⟩ e) := by
  pointwise [catP]
theorem cc_at (X : FVec Ideal S256x256 .f32) (r e : Fin 256) : catC X (ix2 r e) = X (ix2 r e) := by
  pointwise [catC]
  split
  · rfl
  · exact congrArg (fun r => X (ix2 r e)) (Fin.ext (by dsimp only; omega))
theorem lo_at (Y : FVec Ideal S256x256 .f32) (r : Fin 256) (l : Fin 128) : lo Y (ix2 r l) = Y (ix2 r ⟨l, by omega⟩) := by
  pointwise [lo]
theorem hi_at (Y : FVec Ideal S256x256 .f32) (r : Fin 256) (l : Fin 128) : hi Y (ix2 r l) = Y (ix2 r ⟨128 + l, by omega⟩) := by
  pointwise [hi]
theorem rot_at (a : FVec Ideal S256x128 .f32) (r : Fin 256) (l : Fin 128) : rot a (ix2 r l) = a (ix2 r ⟨(l + 64) % 128, by omega⟩) := by
  pointwise [rot]
  exact congrArg (fun l => a (ix2 r l)) (Fin.ext (by dsimp only; omega))
theorem scP_at (q : FVec Ideal S128x128 .f32) (kb : FVec Ideal S512x128 .bf16) (i : Fin 128) (k : Fin 512) :
    scP q kb (ix2 i k) = ∑ l : Fin 128, q (ix2 i l) * kb (ix2 k l) := by
  pointwise [scP]
theorem top_at (x : FVec Ideal S128x256 .f32) (k : Elt Ideal .f32) (i : Fin 128) :
    top x k (ix2 i 0) = max (Finset.univ.fold max (⊥ : EReal) (fun j : Fin 256 => x (ix2 i j))) k := by
  pointwise [top]
  rw [negInf_eq]
theorem ex_at (x : FVec Ideal S128x256 .f32) (k : Elt Ideal .f32) (i : Fin 128) (j : Fin 256) :
    ex x k (ix2 i j) = Ideal.exp (x (ix2 i j) - max (Finset.univ.fold max (⊥ : EReal) (fun j : Fin 256 => x (ix2 i j))) k) := by
  have h := top_at x k i
  unfold ex
  generalize top x k = T at h ⊢
  pointwise
  rw [h]
theorem inv_at (x : FVec Ideal S128x256 .f32) (k : Elt Ideal .f32) (i : Fin 128) :
    inv x k (ix2 i 0) = Ideal.div 1 (∑ j : Fin 256, Ideal.exp (x (ix2 i j) - max (Finset.univ.fold max (⊥ : EReal) (fun j : Fin 256 => x (ix2 i j))) k) +
      Ideal.exp (k - max (Finset.univ.fold max (⊥ : EReal) (fun j : Fin 256 => x (ix2 i j))) k)) := by
  have h := top_at x k i
  have h' := ex_at x k i
  unfold inv
  generalize top x k = T at h ⊢
  generalize ex x k = E at h' ⊢
  pointwise
  rw [h]
  simp only [h']

theorem sel_if (a : BitVec 1) (x y : EReal) : Scalar.select a x y = if a = 1#1 then x else y := rfl

theorem m0_at (A : IVec S128x256 1) (s : FVec Ideal S128x512 .f32) (i : Fin 128) (j : Fin 256) :
    k0_pay100 A s (ix2 i j) = if A (ix2 i j) = 1#1 then s (ix2 i ⟨j, by omega⟩) else ⊥ := by
  pointwise [k0_pay100]
  rw [negInf_eq, sel_if]
theorem m1_at (A : IVec S128x256 1) (s : FVec Ideal S128x512 .f32) (i : Fin 128) (j : Fin 256) :
    k0_pay105 A s (ix2 i j) = if A (ix2 i j) = 1#1 then s (ix2 i ⟨256 + j, by omega⟩) else ⊥ := by
  pointwise [k0_pay105]
  rw [negInf_eq, sel_if]

section kv
variable (M : IVec S1x128 1) (hM : ∀ l : Fin 128, M (ix2 0 l) = if l.val < 64 then 1#1 else 0#1) (Y : FVec Ideal S256x256 .f32) (k : Fin 512) (l : Fin 128)
include hM
theorem kv0_at : kv0 M Y (ix2 k l) = diag (fun r l => Y (ix2 r ⟨64 * 0 + l, by omega⟩)) k l := by
  refine diag_at M hM _ _ _ (fun r l => ?_) (fun r l => ?_) k l
  · rw [lo_at]; exact congrArg (fun l => Y (ix2 r l)) (Fin.ext (by dsimp only; omega))
  · rw [rot_at, lo_at]; exact congrArg (fun l => Y (ix2 r l)) (Fin.ext (by dsimp only; omega))
theorem kv1_at : kv1 M Y (ix2 k l) = diag (fun r l => Y (ix2 r ⟨64 * 1 + l, by omega⟩)) k l := by
  refine diag_at M hM _ _ _ (fun r l => ?_) (fun r l => ?_) k l
  · rw [rot_at, lo_at]; exact congrArg (fun l => Y (ix2 r l)) (Fin.ext (by dsimp only; omega))
  · rw [lo_at]
theorem kv2_at : kv2 M Y (ix2 k l) = diag (fun r l => Y (ix2 r ⟨64 * 2 + l, by omega⟩)) k l := by
  refine diag_at M hM _ _ _ (fun r l => ?_) (fun r l => ?_) k l
  · rw [hi_at]
  · rw [rot_at, hi_at]; exact congrArg (fun l => Y (ix2 r l)) (Fin.ext (by dsimp only; omega))
theorem kv3_at : kv3 M Y (ix2 k l) = diag (fun r l => Y (ix2 r ⟨64 * 3 + l, by omega⟩)) k l := by
  refine diag_at M hM _ _ _ (fun r l => ?_) (fun r l => ?_) k l
  · rw [rot_at, hi_at]; exact congrArg (fun l => Y (ix2 r l)) (Fin.ext (by dsimp only; omega))
  · rw [hi_at]; exact congrArg (fun l => Y (ix2 r l)) (Fin.ext (by dsimp only; omega))
end kv

/-- A pair's scores with a block-diagonal matrix: the first head's against its keys, then the second's. -/
theorem sum_lo (q : Fin 128 → EReal) (V : Fin 256 → Fin 64 → EReal) (j : Fin 256) :
    ∑ l : Fin 128, q l * diag V ⟨j, by omega⟩ l = ∑ e : Fin 64, q ⟨e, by omega⟩ * V j e := by
  rw [show (∑ l : Fin 128, q l * diag V ⟨j, by omega⟩ l) = ∑ l : Fin (64 + 64), q l * diag V ⟨j, by omega⟩ l from rfl, Fin.sum_univ_add]
  refine (congrArg₂ (· + ·) rfl (Finset.sum_eq_zero fun l _ => ?_)).trans ((add_zero _).trans (Finset.sum_congr rfl fun e _ => ?_))
  · unfold diag
    rw [dif_pos (show j.val < 256 from j.isLt), dif_neg (by simp), mul_zero]
  · unfold diag
    rw [dif_pos (show j.val < 256 from j.isLt), dif_pos (show (Fin.castAdd 64 e).val < 64 from e.isLt)]
    rfl
theorem sum_hi (q : Fin 128 → EReal) (V : Fin 256 → Fin 64 → EReal) (j : Fin 256) :
    ∑ l : Fin 128, q l * diag V ⟨256 + j, by omega⟩ l = ∑ e : Fin 64, q ⟨64 + e, by omega⟩ * V j e := by
  rw [show (∑ l : Fin 128, q l * diag V ⟨256 + j, by omega⟩ l) = ∑ l : Fin (64 + 64), q l * diag V ⟨256 + j, by omega⟩ l from rfl, Fin.sum_univ_add]
  refine (congrArg₂ (· + ·) (Finset.sum_eq_zero fun l _ => ?_) rfl).trans ((zero_add _).trans (Finset.sum_congr rfl fun e _ => ?_))
  · unfold diag
    rw [dif_neg (by simp), dif_pos (show (Fin.castAdd 64 l).val < 64 from l.isLt), mul_zero]
  · unfold diag
    rw [dif_neg (by simp), dif_neg (by simp)]
    refine congrArg₂ (fun a b => q a * b) (Fin.ext (by simp; omega)) (congrArg₂ V (Fin.ext (by simp)) (Fin.ext (by simp)))

/-- The exponentials of both heads against a block-diagonal matrix of values. -/
theorem sum_val (E0 E1 : Fin 256 → EReal) (V : Fin 256 → Fin 64 → EReal) (l : Fin 128) :
    ∑ k : Fin 512, (if h : k.val < 256 then E0 ⟨k, h⟩ else E1 ⟨k - 256, by omega⟩) * diag V k l
      = if h : l.val < 64 then ∑ j, E0 j * V j ⟨l, h⟩ else ∑ j, E1 j * V j ⟨l - 64, by omega⟩ := by
  rw [show (∑ k : Fin 512, (if h : k.val < 256 then E0 ⟨k, h⟩ else E1 ⟨k - 256, by omega⟩) * diag V k l)
    = ∑ k : Fin (256 + 256), (if h : k.val < 256 then E0 ⟨k, h⟩ else E1 ⟨k - 256, by omega⟩) * diag V k l from rfl, Fin.sum_univ_add]
  have h0 : ∀ j : Fin 256, (if h : (Fin.castAdd 256 j).val < 256 then E0 ⟨(Fin.castAdd 256 j).val, h⟩ else E1 ⟨(Fin.castAdd 256 j).val - 256, by omega⟩) * diag V (Fin.castAdd 256 j) l
      = if h : l.val < 64 then E0 j * V j ⟨l, h⟩ else 0 := fun j => by
    unfold diag
    rw [dif_pos (show (Fin.castAdd 256 j).val < 256 from j.isLt), dif_pos (show (Fin.castAdd 256 j).val < 256 from j.isLt)]
    split
    · rfl
    · exact mul_zero _
  have h1 : ∀ j : Fin 256, (if h : (Fin.natAdd 256 j).val < 256 then E0 ⟨(Fin.natAdd 256 j).val, h⟩ else E1 ⟨(Fin.natAdd 256 j).val - 256, by omega⟩) * diag V (Fin.natAdd 256 j) l
      = if h : l.val < 64 then 0 else E1 j * V j ⟨l - 64, by omega⟩ := fun j => by
    unfold diag
    rw [dif_neg (by simp), dif_neg (by simp)]
    split
    · exact mul_zero _
    · exact congrArg₂ (fun a b => E1 a * V b _) (Fin.ext (by simp)) (Fin.ext (by simp))
  rw [Finset.sum_congr rfl fun j _ => h0 j, Finset.sum_congr rfl fun j _ => h1 j]
  split
  · rw [Finset.sum_const_zero, add_zero]
  · rw [Finset.sum_const_zero, zero_add]

/-- A pair's gated attention, entry by entry. -/
theorem out_at (M : IVec S1x128 1) (hM : ∀ l : Fin 128, M (ix2 0 l) = if l.val < 64 then 1#1 else 0#1) (A : IVec S128x256 1)
    (vb kb : FVec Ideal S512x128 .bf16) (q g : FVec Ideal S128x128 .f32) (k0 k1 : Elt Ideal .f32) (K V : Fin 256 → Fin 64 → EReal)
    (hk : ∀ k l, kb (ix2 k l) = diag K k l) (hv : ∀ k l, vb (ix2 k l) = diag V k l) (i l : Fin 128) (s : Fin 256 → EReal) (sink : EReal)
    (hs : ∀ j, s j = if A (ix2 i j) = 1#1 then ∑ e : Fin 64, q (ix2 i ⟨l / 64 * 64 + e, by omega⟩) * K j e else ⊥)
    (hr : ∀ j, s j = ⊥ ∨ IsR (s j)) (h0 : l.val < 64 → sink = k0) (h1 : ¬ l.val < 64 → sink = k1) (hsr : IsR sink) :
    outP M A vb (scP q kb) k0 k1 g (ix2 i l) = att s sink (fun j => V j ⟨l % 64, by omega⟩) * (g (ix2 i l) * Cert.Spec.sig (g (ix2 i l))) := by
  have e0 : ∀ j : Fin 256, k0_pay100 A (scP q kb) (ix2 i j) = if A (ix2 i j) = 1#1 then ∑ e : Fin 64, q (ix2 i ⟨e, by omega⟩) * K j e else ⊥ := fun j => by
    rw [m0_at, scP_at]
    simp only [hk]
    rw [sum_lo (fun l => q (ix2 i l))]
  have e1 : ∀ j : Fin 256, k0_pay105 A (scP q kb) (ix2 i j) = if A (ix2 i j) = 1#1 then ∑ e : Fin 64, q (ix2 i ⟨64 + e, by omega⟩) * K j e else ⊥ := fun j => by
    rw [m1_at, scP_at]
    simp only [hk]
    rw [sum_hi (fun l => q (ix2 i l))]
  unfold outP
  generalize k0_pay100 A (scP q kb) = x0 at e0 ⊢
  generalize k0_pay105 A (scP q kb) = x1 at e1 ⊢
  have f0 := ex_at x0 k0 i
  have f1 := ex_at x1 k1 i
  have i0 := inv_at x0 k0 i
  have i1 := inv_at x1 k1 i
  generalize ex x0 k0 = E0 at f0 ⊢
  generalize ex x1 k1 = E1 at f1 ⊢
  generalize inv x0 k0 = I0 at i0 ⊢
  generalize inv x1 k1 = I1 at i1 ⊢
  have hsum : ∑ k : Fin 512, (if h : k.val < 256 then E0 (ix2 i ⟨k, h⟩) else E1 (ix2 i ⟨k - 256, by omega⟩)) * diag V k l
      = ∑ x : Fin 256, E0 (ix2 i x) * diag V ⟨x, by omega⟩ l + ∑ x : Fin 256, E1 (ix2 i x) * diag V ⟨256 + x, by omega⟩ l := by
    rw [show (∑ k : Fin 512, (if h : k.val < 256 then E0 (ix2 i ⟨k, h⟩) else E1 (ix2 i ⟨k - 256, by omega⟩)) * diag V k l)
      = ∑ k : Fin (256 + 256), (if h : k.val < 256 then E0 (ix2 i ⟨k, h⟩) else E1 (ix2 i ⟨k - 256, by omega⟩)) * diag V k l from rfl, Fin.sum_univ_add]
    refine congrArg₂ (· + ·) (Finset.sum_congr rfl fun x _ => ?_) (Finset.sum_congr rfl fun x _ => ?_)
    · rw [dif_pos (show (Fin.castAdd 256 x).val < 256 from x.isLt)]
      rfl
    · rw [dif_neg (by simp)]
      exact congrArg₂ (fun a b => E1 (ix2 i a) * b) (Fin.ext (by simp)) rfl
  have hc := sum_val (fun j => E0 (ix2 i j)) (fun j => E1 (ix2 i j)) V l
  pointwise
  simp only [hv, hM]
  rw [← hsum, hc, sel_if]
  unfold Cert.Spec.sig
  rw [zero_sub]
  refine congrArg (· * _) ?_
  by_cases hl : l.val < 64
  · rw [dif_pos hl, if_pos (if_pos hl), i0]
    simp only [f0]
    have hx : ∀ j, x0 (ix2 i j) = s j := fun j => by
      rw [e0, hs]
      exact if_congr Iff.rfl (Finset.sum_congr rfl fun e _ => congrArg (fun a => q (ix2 i a) * K j e) (Fin.ext (by dsimp only; omega))) rfl
    simp only [hx, ← h0 hl]
    refine (att_eq s sink (fun j => V j ⟨l, hl⟩) hr hsr _ rfl).trans ?_
    exact congrArg (att s sink) (funext fun j => congrArg (V j) (Fin.ext (by dsimp only; omega)))
  · rw [dif_neg hl, if_neg (by rw [if_neg hl]; decide), i1]
    simp only [f1]
    have hx : ∀ j, x1 (ix2 i j) = s j := fun j => by
      rw [e1, hs]
      exact if_congr Iff.rfl (Finset.sum_congr rfl fun e _ => congrArg (fun a => q (ix2 i a) * K j e) (Fin.ext (by dsimp only; omega))) rfl
    simp only [hx, ← h1 hl]
    refine (att_eq s sink (fun j => V j ⟨l - 64, by omega⟩) hr hsr _ rfl).trans ?_
    exact congrArg (att s sink) (funext fun j => congrArg (V j) (Fin.ext (by dsimp only; omega)))
end Cert.KernelIdeal.Att

end

end
-- ==== Proof.Window.lean ====
/-
  The windowed attention of a tile: every pair's block of the gated output, and the whole tile's rows.
-/
module

public import proofs.«01_k».proof.Proof.Att
public import proofs.«01_k».proof.Proof.Retain
public import Idealize.ShloMosaic.Lib.Pipeline.ReadBack

@[expose] public section

set_option maxRecDepth 16384
noncomputable section
open Idealize.ShloMosaic Idealize.ShloMosaic.TcCoe Idealize.SL.Sem
namespace Cert.KernelIdeal.Att
open Cert.KernelIdeal Cert.KernelIdeal.Gen Cert.Spec Cert.KernelIdeal.Pay

/-- The four blocks of 128 by 128 of a tile's four heads. -/
theorem sl00 (a : FVec Ideal S256x256 .f32) (i l : Fin 128) : extractStridedSlice S128x128 ![0, 0] a slices_S256x256_o0_0_S128x128 (ix2 i l) = a (ix2 ⟨i, by omega⟩ ⟨l, by omega⟩) := by
  pointwise
theorem sl01 (a : FVec Ideal S256x256 .f32) (i l : Fin 128) : extractStridedSlice S128x128 ![0, 128] a slices_S256x256_o0_128_S128x128 (ix2 i l) = a (ix2 ⟨i, by omega⟩ ⟨128 + l, by omega⟩) := by
  pointwise
theorem sl10 (a : FVec Ideal S256x256 .f32) (i l : Fin 128) : extractStridedSlice S128x128 ![128, 0] a slices_S256x256_o128_0_S128x128 (ix2 i l) = a (ix2 ⟨128 + i, by omega⟩ ⟨l, by omega⟩) := by
  pointwise
theorem sl11 (a : FVec Ideal S256x256 .f32) (i l : Fin 128) : extractStridedSlice S128x128 ![128, 128] a slices_S256x256_o128_128_S128x128 (ix2 i l) = a (ix2 ⟨128 + i, by omega⟩ ⟨128 + l, by omega⟩) := by
  pointwise

theorem win_real (f : Fin 4096 → EReal) (hf : ∀ t, IsR (f t)) (q : Fin 32) (j : Fin 256) : IsR (win f q j) := by
  unfold win
  split
  · split
    · exact IsR.zero
    · exact hf _
  · exact hf _

section window
variable (X : XArr) (G : GArr) (W : WArr) (gq gk : HArr) (S : SArr) (b : Fin 4)
  (hG : ∀ i, IsR (G i)) (hW : ∀ i, IsR (W i)) (hgq : ∀ i, IsR (gq i)) (hgk : ∀ i, IsR (gk i)) (hS : ∀ i, IsR (S i))
include hG hW hgq hgk hS

theorem sc_real (q : Fin 32) (i : Fin 128) (h : Fin 16) (j : Fin 256) : sc X G W gq gk b q i h j = ⊥ ∨ IsR (sc X G W gq gk b q i h j) := by
  unfold sc
  split
  · rw [eighth_eq]
    exact Or.inr ((IsR.sum _ fun e => (sq_real X G W hG hW b gq hgq _ _ _).mul (win_real _ (fun t => sk_real X G W hG hW b gk hgk _ _ _) _ _)).mul (IsR.coe _))
  · exact Or.inl negInf_eq

/-- A pair's block of the gated output. -/
theorem piece_at (M : IVec S1x128 1) (hM : ∀ l : Fin 128, M (ix2 0 l) = if l.val < 64 then 1#1 else 0#1) (q : Fin 32) (p : Fin 8) (A : IVec S128x256 1)
    (hA : ∀ i j, A (ix2 i j) = if okE q i j then 1#1 else 0#1) (vb kb : FVec Ideal S512x128 .bf16)
    (hk : ∀ k l, kb (ix2 k l) = diag (fun r e => win (fun t => sk X G W gk b t ⟨p / 2, by omega⟩ e) q r) k l)
    (hv : ∀ k l, vb (ix2 k l) = diag (fun r e => win (fun t => pj X G W b t ⟨4352 + (p / 2 * 64 + e), by omega⟩) q r) k l)
    (Q g : FVec Ideal S128x128 .f32)
    (hQ : ∀ i l, Q (ix2 i l) = Cert.Spec.sq X G W gq b ⟨q * 128 + i, by omega⟩ ⟨2 * p + l / 64, by omega⟩ ⟨l % 64, by omega⟩ * Ideal.ofBits .f32 0x3E000000#32)
    (hg : ∀ i l, g (ix2 i l) = pj X G W b ⟨q * 128 + i, by omega⟩ ⟨4608 + (128 * p + l), by omega⟩)
    (k0 k1 : Elt Ideal .f32) (h0 : k0 = S (ix2 0 ⟨2 * p, by omega⟩)) (h1 : k1 = S (ix2 0 ⟨2 * p + 1, by omega⟩)) (i l : Fin 128) :
    outP M A vb (scP Q kb) k0 k1 g (ix2 i l) = sgate X G W gq gk S b ⟨q * 128 + i, by omega⟩ ⟨128 * p + l, by omega⟩ := by
  refine (out_at M hM A vb kb Q g k0 k1 _ _ hk hv i l (sc X G W gq gk b q i ⟨2 * p + l / 64, by omega⟩) (S (ix2 0 ⟨2 * p + l / 64, by omega⟩))
    (fun j => ?_) (sc_real X G W gq gk S b hG hW hgq hgk hS q i _) (fun hl => ?_) (fun hl => ?_) (hS _)).trans ?_
  · rw [hA]
    unfold sc
    by_cases ho : okE q i j
    · rw [if_pos ho, if_pos ho, if_pos rfl, mul_comm, eighth_eq, mul_sum_pos _ _ (by exact_mod_cast (by norm_num : (0 : ℝ) ≤ 8⁻¹)) (EReal.coe_ne_top _)]
      refine Finset.sum_congr rfl fun e _ => ?_
      rw [hQ, eighth_eq, mul_comm _ ((8⁻¹ : ℝ) : EReal), mul_assoc]
      have a1 : (⟨2 * p + (l / 64 * 64 + e) / 64, by omega⟩ : Fin 16) = ⟨2 * p + l / 64, by omega⟩ := Fin.ext (by dsimp only; omega)
      have a2 : (⟨(l / 64 * 64 + e) % 64, by omega⟩ : Fin 64) = e := Fin.ext (by dsimp only; omega)
      have a3 : (⟨(2 * p + l / 64) / 4, by omega⟩ : Fin 4) = ⟨p / 2, by omega⟩ := Fin.ext (by dsimp only; omega)
      simp only [a1, a2, a3]
    · rw [if_neg ho, if_neg ho, if_neg (by decide), negInf_eq]
  · rw [h0]
    exact congrArg (fun h => S (ix2 0 h)) (Fin.ext (by dsimp only; omega))
  · rw [h1]
    exact congrArg (fun h => S (ix2 0 h)) (Fin.ext (by dsimp only; omega))
  · rw [hg]
    unfold sgate so
    have a1 : (⟨(q * 128 + i) / 128, by omega⟩ : Fin 32) = q := Fin.ext (by dsimp only; omega)
    have a2 : (⟨(q * 128 + i) % 128, by omega⟩ : Fin 128) = i := Fin.ext (by dsimp only; omega)
    have a3 : (⟨(128 * p + l) / 64, by omega⟩ : Fin 16) = ⟨2 * p + l / 64, by omega⟩ := Fin.ext (by dsimp only; omega)
    have a4 : (⟨(128 * p + l) % 64, by omega⟩ : Fin 64) = ⟨l % 64, by omega⟩ := Fin.ext (by dsimp only; omega)
    have a5 : (2 * p.val + l.val / 64) / 4 = p.val / 2 := by omega
    have a6 : (128 * p.val + l.val) / 64 / 4 = p.val / 2 := by omega
    have a7 : (128 * p.val + l.val) % 64 = l.val % 64 := by omega
    simp only [a1, a2, a3, a4, a5, a6, a7]
end window

/-- The tile's two blocks' rows: the block before and the first, then both of the tile's. -/
theorem win_P (f : Fin 4096 → EReal) (j : Fin 16) (P : Fin 128 → EReal) (Y : Fin 256 → EReal) (hY : ∀ r : Fin 256, Y r = f (tok j r))
    (hP : ∀ r : Fin 128, P r = if j.val = 0 then 0 else f ⟨256 * (j - 1) + 128 + r, by omega⟩) (r : Fin 256) :
    (if h : r.val < 128 then P ⟨r, h⟩ else Y ⟨r - 128, by omega⟩) = win f ⟨2 * j, by omega⟩ r := by
  unfold win
  split
  · rw [hP]
    by_cases hj : j.val = 0
    · rw [if_pos hj, dif_pos (by dsimp only; omega)]
    · rw [if_neg hj, dif_neg (by dsimp only; omega)]
      exact congrArg f (Fin.ext (by dsimp only; omega))
  · rw [hY]
    exact congrArg f (Fin.ext (by dsimp only [tok]; omega))
theorem win_C (f : Fin 4096 → EReal) (j : Fin 16) (Y : Fin 256 → EReal) (hY : ∀ r : Fin 256, Y r = f (tok j r)) (r : Fin 256) :
    Y r = win f ⟨2 * j + 1, by omega⟩ r := by
  rw [hY]
  unfold win
  split
  · rw [dif_neg (by dsimp only; omega)]
    exact congrArg f (Fin.ext (by dsimp only [tok]; omega))
  · exact congrArg f (Fin.ext (by dsimp only [tok]; omega))

theorem diag_congr (V V' : Fin 256 → Fin 64 → EReal) (h : ∀ r e, V r e = V' r e) (k : Fin 512) (l : Fin 128) : diag V k l = diag V' k l := by
  rw [show V = V' from funext fun r => funext fun e => h r e]

theorem win_congr (f g : Fin 4096 → EReal) (h : ∀ t, f t = g t) (q : Fin 32) (r : Fin 256) : win f q r = win g q r := by
  rw [show f = g from funext h]

theorem q_move (X : XArr) (G : GArr) (W : WArr) (g : HArr) (b : Fin 4) (t t' : Fin 4096) (h h' : Fin 16) (e e' : Fin 64)
    (h1 : t.val = t'.val) (h2 : h.val = h'.val) (h3 : e.val = e'.val) :
    Cert.Spec.sq X G W g b t h e * Ideal.ofBits .f32 0x3E000000#32 = Cert.Spec.sq X G W g b t' h' e' * Ideal.ofBits .f32 0x3E000000#32 := by
  obtain rfl := Fin.ext h1
  obtain rfl := Fin.ext h2
  obtain rfl := Fin.ext h3
  rfl

/-- The sixteen blocks that a tile stores, the last first. -/
def osL (M : IVec S1x128 1) (A0 A1 : IVec S128x256 1) (q0 q1 q2 q3 g0 g1 g2 g3 K U : FVec Ideal S256x256 .f32) (PK PV : Vec Ideal S128x256 .f32) (s0 s1 s2 s3 s4 s5 s6 s7 s8 s9 s10 s11 s12 s13 s14 s15 : Elt Ideal .f32) :
    List (View.Piece (Elt Ideal) S256x1024 .bf16) :=
  [⟨Rect.unit ![128, 896] ![128, 128] inb_S256x1024_S128x128_128_896, outP M A1 (kv3 M (catC U)) (scP (extractStridedSlice S128x128 ![128, 128] q3 slices_S256x256_o128_128_S128x128) (kv3 M (catC K))) s14 s15 (extractStridedSlice S128x128 ![128, 128] g3 slices_S256x256_o128_128_S128x128)⟩,
    ⟨Rect.unit ![0, 896] ![128, 128] inb_S256x1024_S128x128_0_896, outP M A0 (kv3 M (catP PV U)) (scP (extractStridedSlice S128x128 ![0, 128] q3 slices_S256x256_o0_128_S128x128) (kv3 M (catP PK K))) s14 s15 (extractStridedSlice S128x128 ![0, 128] g3 slices_S256x256_o0_128_S128x128)⟩,
    ⟨Rect.unit ![128, 768] ![128, 128] inb_S256x1024_S128x128_128_768, outP M A1 (kv3 M (catC U)) (scP (extractStridedSlice S128x128 ![128, 0] q3 slices_S256x256_o128_0_S128x128) (kv3 M (catC K))) s12 s13 (extractStridedSlice S128x128 ![128, 0] g3 slices_S256x256_o128_0_S128x128)⟩,
    ⟨Rect.unit ![0, 768] ![128, 128] inb_S256x1024_S128x128_0_768, outP M A0 (kv3 M (catP PV U)) (scP (extractStridedSlice S128x128 ![0, 0] q3 slices_S256x256_o0_0_S128x128) (kv3 M (catP PK K))) s12 s13 (extractStridedSlice S128x128 ![0, 0] g3 slices_S256x256_o0_0_S128x128)⟩,
    ⟨Rect.unit ![128, 640] ![128, 128] inb_S256x1024_S128x128_128_640, outP M A1 (kv2 M (catC U)) (scP (extractStridedSlice S128x128 ![128, 128] q2 slices_S256x256_o128_128_S128x128) (kv2 M (catC K))) s10 s11 (extractStridedSlice S128x128 ![128, 128] g2 slices_S256x256_o128_128_S128x128)⟩,
    ⟨Rect.unit ![0, 640] ![128, 128] inb_S256x1024_S128x128_0_640, outP M A0 (kv2 M (catP PV U)) (scP (extractStridedSlice S128x128 ![0, 128] q2 slices_S256x256_o0_128_S128x128) (kv2 M (catP PK K))) s10 s11 (extractStridedSlice S128x128 ![0, 128] g2 slices_S256x256_o0_128_S128x128)⟩,
    ⟨Rect.unit ![128, 512] ![128, 128] inb_S256x1024_S128x128_128_512, outP M A1 (kv2 M (catC U)) (scP (extractStridedSlice S128x128 ![128, 0] q2 slices_S256x256_o128_0_S128x128) (kv2 M (catC K))) s8 s9 (extractStridedSlice S128x128 ![128, 0] g2 slices_S256x256_o128_0_S128x128)⟩,
    ⟨Rect.unit ![0, 512] ![128, 128] inb_S256x1024_S128x128_0_512, outP M A0 (kv2 M (catP PV U)) (scP (extractStridedSlice S128x128 ![0, 0] q2 slices_S256x256_o0_0_S128x128) (kv2 M (catP PK K))) s8 s9 (extractStridedSlice S128x128 ![0, 0] g2 slices_S256x256_o0_0_S128x128)⟩,
    ⟨Rect.unit ![128, 384] ![128, 128] inb_S256x1024_S128x128_128_384, outP M A1 (kv1 M (catC U)) (scP (extractStridedSlice S128x128 ![128, 128] q1 slices_S256x256_o128_128_S128x128) (kv1 M (catC K))) s6 s7 (extractStridedSlice S128x128 ![128, 128] g1 slices_S256x256_o128_128_S128x128)⟩,
    ⟨Rect.unit ![0, 384] ![128, 128] inb_S256x1024_S128x128_0_384, outP M A0 (kv1 M (catP PV U)) (scP (extractStridedSlice S128x128 ![0, 128] q1 slices_S256x256_o0_128_S128x128) (kv1 M (catP PK K))) s6 s7 (extractStridedSlice S128x128 ![0, 128] g1 slices_S256x256_o0_128_S128x128)⟩,
    ⟨Rect.unit ![128, 256] ![128, 128] inb_S256x1024_S128x128_128_256, outP M A1 (kv1 M (catC U)) (scP (extractStridedSlice S128x128 ![128, 0] q1 slices_S256x256_o128_0_S128x128) (kv1 M (catC K))) s4 s5 (extractStridedSlice S128x128 ![128, 0] g1 slices_S256x256_o128_0_S128x128)⟩,
    ⟨Rect.unit ![0, 256] ![128, 128] inb_S256x1024_S128x128_0_256, outP M A0 (kv1 M (catP PV U)) (scP (extractStridedSlice S128x128 ![0, 0] q1 slices_S256x256_o0_0_S128x128) (kv1 M (catP PK K))) s4 s5 (extractStridedSlice S128x128 ![0, 0] g1 slices_S256x256_o0_0_S128x128)⟩,
    ⟨Rect.unit ![128, 128] ![128, 128] inb_S256x1024_S128x128_128_128, outP M A1 (kv0 M (catC U)) (scP (extractStridedSlice S128x128 ![128, 128] q0 slices_S256x256_o128_128_S128x128) (kv0 M (catC K))) s2 s3 (extractStridedSlice S128x128 ![128, 128] g0 slices_S256x256_o128_128_S128x128)⟩,
    ⟨Rect.unit ![0, 128] ![128, 128] inb_S256x1024_S128x128_0_128, outP M A0 (kv0 M (catP PV U)) (scP (extractStridedSlice S128x128 ![0, 128] q0 slices_S256x256_o0_128_S128x128) (kv0 M (catP PK K))) s2 s3 (extractStridedSlice S128x128 ![0, 128] g0 slices_S256x256_o0_128_S128x128)⟩,
    ⟨Rect.unit ![128, 0] ![128, 128] inb_S256x1024_S128x128_128_0, outP M A1 (kv0 M (catC U)) (scP (extractStridedSlice S128x128 ![128, 0] q0 slices_S256x256_o128_0_S128x128) (kv0 M (catC K))) s0 s1 (extractStridedSlice S128x128 ![128, 0] g0 slices_S256x256_o128_0_S128x128)⟩,
    ⟨Rect.unit ![0, 0] ![128, 128] inb_S256x1024_S128x128_0_0, outP M A0 (kv0 M (catP PV U)) (scP (extractStridedSlice S128x128 ![0, 0] q0 slices_S256x256_o0_0_S128x128) (kv0 M (catP PK K))) s0 s1 (extractStridedSlice S128x128 ![0, 0] g0 slices_S256x256_o0_0_S128x128)⟩]

/-- The blocks as the body computes them. -/
theorem osL_eq (M : IVec S1x128 1) (A0 A1 : IVec S128x256 1) (q0 q1 q2 q3 g0 g1 g2 g3 K U : FVec Ideal S256x256 .f32) (PK PV : Vec Ideal S128x256 .f32) (s0 s1 s2 s3 s4 s5 s6 s7 s8 s9 s10 s11 s12 s13 s14 s15 : Elt Ideal .f32) :
    osL M A0 A1 q0 q1 q2 q3 g0 g1 g2 g3 K U PK PV s0 s1 s2 s3 s4 s5 s6 s7 s8 s9 s10 s11 s12 s13 s14 s15 =
  [⟨Rect.unit ![128, 896] ![128, 128] inb_S256x1024_S128x128_128_896, (k0_pay278 M (k0_pay238 M U) g3 (k0_pay273 A1 (k0_pay262 q3 (k0_pay237 (k0_pay233 K) (k0_pay234 M K) (k0_pay235 M) k0_pay236)) s14) (k0_pay274 A1 (k0_pay262 q3 (k0_pay237 (k0_pay233 K) (k0_pay234 M K) (k0_pay235 M) k0_pay236)) s14) s15 (k0_pay275 A1 (k0_pay262 q3 (k0_pay237 (k0_pay233 K) (k0_pay234 M K) (k0_pay235 M) k0_pay236))) (k0_pay276 A1 (k0_pay262 q3 (k0_pay237 (k0_pay233 K) (k0_pay234 M K) (k0_pay235 M) k0_pay236)) s15) (k0_pay277 A1 (k0_pay262 q3 (k0_pay237 (k0_pay233 K) (k0_pay234 M K) (k0_pay235 M) k0_pay236)) s15))⟩,
    ⟨Rect.unit ![0, 896] ![128, 128] inb_S256x1024_S128x128_0_896, (k0_pay268 (k0_pay265 M A0 (k0_pay222 M (k0_pay220 U PV) (k0_pay221 U PV) (Scalar.ofBits .f32 0x00000000#32)) (k0_pay248 q3 (k0_pay219 M K PK)) s14 (k0_pay264 A0 (k0_pay248 q3 (k0_pay219 M K PK))) s15) (k0_pay266 g3) (k0_pay267 g3) (Scalar.ofBits .f32 0x3F800000#32))⟩,
    ⟨Rect.unit ![128, 768] ![128, 128] inb_S256x1024_S128x128_128_768, (k0_pay261 M (k0_pay238 M U) g3 (k0_pay254 A1 (k0_pay239 q3 (k0_pay233 K) (k0_pay234 M K) (k0_pay235 M) k0_pay236) s12) (k0_pay255 A1 (k0_pay239 q3 (k0_pay233 K) (k0_pay234 M K) (k0_pay235 M) k0_pay236) s12) (k0_pay258 A1 (k0_pay239 q3 (k0_pay233 K) (k0_pay234 M K) (k0_pay235 M) k0_pay236) s13) (k0_pay259 A1 (k0_pay239 q3 (k0_pay233 K) (k0_pay234 M K) (k0_pay235 M) k0_pay236) s13) k0_pay260)⟩,
    ⟨Rect.unit ![0, 768] ![128, 128] inb_S256x1024_S128x128_0_768, (k0_pay247 M A0 (k0_pay222 M (k0_pay220 U PV) (k0_pay221 U PV) (Scalar.ofBits .f32 0x00000000#32)) g3 (k0_pay244 A0 (k0_pay223 q3 (k0_pay219 M K PK)) s12) (k0_pay245 A0 (k0_pay223 q3 (k0_pay219 M K PK)) s12) s13 (k0_pay246 (k0_pay223 q3 (k0_pay219 M K PK))) (Scalar.ofBits .f32 0xFF800000#32))⟩,
    ⟨Rect.unit ![128, 640] ![128, 128] inb_S256x1024_S128x128_128_640, (k0_pay232 M (k0_pay186 M U) g2 (k0_pay228 A1 (k0_pay205 q2 (k0_pay185 M K)) s10) (k0_pay229 A1 (k0_pay205 q2 (k0_pay185 M K)) s10) s11 (k0_pay230 A1 (k0_pay205 q2 (k0_pay185 M K))) (k0_pay231 A1 (k0_pay205 q2 (k0_pay185 M K)) s11))⟩,
    ⟨Rect.unit ![0, 640] ![128, 128] inb_S256x1024_S128x128_0_640, (k0_pay218 M (k0_pay175 M U PV) g2 (k0_pay211 A0 (k0_pay196 q2 (k0_pay174 M (k0_pay170 K PK) (k0_pay171 K PK) (k0_pay172 M) k0_pay173)) s10) (k0_pay212 A0 (k0_pay196 q2 (k0_pay174 M (k0_pay170 K PK) (k0_pay171 K PK) (k0_pay172 M) k0_pay173)) s10) (k0_pay216 A0 (k0_pay196 q2 (k0_pay174 M (k0_pay170 K PK) (k0_pay171 K PK) (k0_pay172 M) k0_pay173)) s11) (k0_pay217 A0 (k0_pay196 q2 (k0_pay174 M (k0_pay170 K PK) (k0_pay171 K PK) (k0_pay172 M) k0_pay173)) s11))⟩,
    ⟨Rect.unit ![128, 512] ![128, 128] inb_S256x1024_S128x128_128_512, (k0_pay204 M (k0_pay186 M U) g2 (k0_pay201 A1 (k0_pay187 M K q2) s8) (k0_pay202 A1 (k0_pay187 M K q2) s8) s9 (k0_pay203 A1 (k0_pay187 M K q2)))⟩,
    ⟨Rect.unit ![0, 512] ![128, 128] inb_S256x1024_S128x128_0_512, (k0_pay195 (k0_pay192 M A0 (k0_pay175 M U PV) (k0_pay176 M q2 (k0_pay170 K PK) (k0_pay171 K PK) (k0_pay172 M) k0_pay173) s8 (k0_pay189 A0 (k0_pay176 M q2 (k0_pay170 K PK) (k0_pay171 K PK) (k0_pay172 M) k0_pay173)) (k0_pay190 A0 (k0_pay176 M q2 (k0_pay170 K PK) (k0_pay171 K PK) (k0_pay172 M) k0_pay173) s8) (k0_pay191 A0 (k0_pay176 M q2 (k0_pay170 K PK) (k0_pay171 K PK) (k0_pay172 M) k0_pay173) s8) s9) (k0_pay193 g2) (k0_pay194 g2))⟩,
    ⟨Rect.unit ![128, 384] ![128, 128] inb_S256x1024_S128x128_128_384, (k0_pay184 (k0_pay183 M A1 (k0_pay139 M U) g1 (k0_pay160 q1 (k0_pay138 M K)) (k0_pay180 A1 (k0_pay160 q1 (k0_pay138 M K)) s6) (k0_pay181 A1 (k0_pay160 q1 (k0_pay138 M K)) s6) (k0_pay182 A1 (k0_pay160 q1 (k0_pay138 M K)) s6) s7))⟩,
    ⟨Rect.unit ![0, 384] ![128, 128] inb_S256x1024_S128x128_0_384, (k0_pay169 M (k0_pay132 M U PV) g1 (k0_pay165 A0 (k0_pay153 q1 (k0_pay131 M K PK)) s6) (k0_pay166 A0 (k0_pay153 q1 (k0_pay131 M K PK)) s6) s7 (k0_pay167 A0 (k0_pay153 q1 (k0_pay131 M K PK))) (k0_pay168 A0 (k0_pay153 q1 (k0_pay131 M K PK))))⟩,
    ⟨Rect.unit ![128, 256] ![128, 128] inb_S256x1024_S128x128_128_256, (k0_pay159 (k0_pay158 M A1 (k0_pay139 M U) (k0_pay140 M K q1) g1 s4 (k0_pay156 A1 (k0_pay140 M K q1) s4) (k0_pay157 A1 (k0_pay140 M K q1) s4) s5))⟩,
    ⟨Rect.unit ![0, 256] ![128, 128] inb_S256x1024_S128x128_0_256, (k0_pay152 g1 (k0_pay145 A0 (k0_pay133 M K q1 PK) s4) (k0_pay149 A0 (k0_pay133 M K q1 PK) s5) (k0_pay150 A0 (k0_pay132 M U PV) (k0_pay133 M K q1 PK) s4 s5) (k0_pay151 M))⟩,
    ⟨Rect.unit ![128, 128] ![128, 128] inb_S256x1024_S128x128_128_128, (k0_pay137 (k0_pay135 M A1 (k0_pay97 M (k0_pay95 U) (k0_pay96 U)) (k0_pay123 q0 (k0_pay94 M K)) s2 s3) (k0_pay136 g0))⟩,
    ⟨Rect.unit ![0, 128] ![128, 128] inb_S256x1024_S128x128_0_128, (k0_pay130 (k0_pay129 M A0 (k0_pay92 M U PV) g0 (k0_pay109 q0 (k0_pay91 M (k0_pay89 K PK) (k0_pay90 K PK))) s2 (k0_pay126 A0 (k0_pay109 q0 (k0_pay91 M (k0_pay89 K PK) (k0_pay90 K PK))) s2) (k0_pay127 A0 (k0_pay109 q0 (k0_pay91 M (k0_pay89 K PK) (k0_pay90 K PK))) s2) (k0_pay128 A0 (k0_pay109 q0 (k0_pay91 M (k0_pay89 K PK) (k0_pay90 K PK))) s2) s3))⟩,
    ⟨Rect.unit ![128, 0] ![128, 128] inb_S256x1024_S128x128_128_0, (k0_pay122 g0 (k0_pay118 A1 (k0_pay98 q0 (k0_pay94 M K)) s1) (k0_pay119 A1 (k0_pay97 M (k0_pay95 U) (k0_pay96 U)) (k0_pay98 q0 (k0_pay94 M K)) s0 s1) (k0_pay120 M) (k0_pay121 A1 (k0_pay98 q0 (k0_pay94 M K)) s0))⟩,
    ⟨Rect.unit ![0, 0] ![128, 128] inb_S256x1024_S128x128_0_0, (k0_pay108 M (k0_pay92 M U PV) g0 (k0_pay103 A0 (k0_pay93 M q0 (k0_pay89 K PK) (k0_pay90 K PK)) s0) (k0_pay104 A0 (k0_pay93 M q0 (k0_pay89 K PK) (k0_pay90 K PK)) s0) s1 (k0_pay106 A0 (k0_pay93 M q0 (k0_pay89 K PK) (k0_pay90 K PK)) s1) (k0_pay107 A0 (k0_pay93 M q0 (k0_pay89 K PK) (k0_pay90 K PK)) s1))⟩] := rfl

section tile
variable (X : XArr) (G : GArr) (W : WArr) (gq gk : HArr) (S : SArr) (b : Fin 4)
  (hG : ∀ i, IsR (G i)) (hW : ∀ i, IsR (W i)) (hgq : ∀ i, IsR (gq i)) (hgk : ∀ i, IsR (gk i)) (hS : ∀ i, IsR (S i)) (j : Fin 16)
include hG hW hgq hgk hS

set_option maxHeartbeats 8000000 in
/-- A tile's gated windowed output. -/
theorem osL_at (M : IVec S1x128 1) (A0 A1 : IVec S128x256 1) (q0 q1 q2 q3 g0 g1 g2 g3 K U : FVec Ideal S256x256 .f32) (PK PV : Vec Ideal S128x256 .f32) (s0 s1 s2 s3 s4 s5 s6 s7 s8 s9 s10 s11 s12 s13 s14 s15 : Elt Ideal .f32)
    (hM : ∀ l : Fin 128, M (ix2 0 l) = if l.val < 64 then 1#1 else 0#1)
    (hA0 : ∀ i k, A0 (ix2 i k) = if okE ⟨2 * j, by omega⟩ i k then 1#1 else 0#1) (hA1 : ∀ i k, A1 (ix2 i k) = if okE ⟨2 * j + 1, by omega⟩ i k then 1#1 else 0#1)
    (hq0 : ∀ r e : Fin 256, q0 (ix2 r e) = Cert.Spec.sq X G W gq b (tok j r) ⟨0 + e / 64, by omega⟩ ⟨e % 64, by omega⟩ * Ideal.ofBits .f32 0x3E000000#32)
    (hg0 : ∀ r e : Fin 256, g0 (ix2 r e) = pj X G W b (tok j r) ⟨4608 + e, by omega⟩)
    (hq1 : ∀ r e : Fin 256, q1 (ix2 r e) = Cert.Spec.sq X G W gq b (tok j r) ⟨4 + e / 64, by omega⟩ ⟨e % 64, by omega⟩ * Ideal.ofBits .f32 0x3E000000#32)
    (hg1 : ∀ r e : Fin 256, g1 (ix2 r e) = pj X G W b (tok j r) ⟨4864 + e, by omega⟩)
    (hq2 : ∀ r e : Fin 256, q2 (ix2 r e) = Cert.Spec.sq X G W gq b (tok j r) ⟨8 + e / 64, by omega⟩ ⟨e % 64, by omega⟩ * Ideal.ofBits .f32 0x3E000000#32)
    (hg2 : ∀ r e : Fin 256, g2 (ix2 r e) = pj X G W b (tok j r) ⟨5120 + e, by omega⟩)
    (hq3 : ∀ r e : Fin 256, q3 (ix2 r e) = Cert.Spec.sq X G W gq b (tok j r) ⟨12 + e / 64, by omega⟩ ⟨e % 64, by omega⟩ * Ideal.ofBits .f32 0x3E000000#32)
    (hg3 : ∀ r e : Fin 256, g3 (ix2 r e) = pj X G W b (tok j r) ⟨5376 + e, by omega⟩)
    (hK : ∀ r e : Fin 256, K (ix2 r e) = sk X G W gk b (tok j r) ⟨e / 64, by omega⟩ ⟨e % 64, by omega⟩)
    (hU : ∀ r e : Fin 256, U (ix2 r e) = pj X G W b (tok j r) ⟨4352 + e, by omega⟩)
    (hPK : ∀ (r : Fin 128) (e : Fin 256), PK (ix2 r e) = if j.val = 0 then 0 else sk X G W gk b ⟨256 * (j - 1) + 128 + r, by omega⟩ ⟨e / 64, by omega⟩ ⟨e % 64, by omega⟩)
    (hPV : ∀ (r : Fin 128) (e : Fin 256), PV (ix2 r e) = if j.val = 0 then 0 else pj X G W b ⟨256 * (j - 1) + 128 + r, by omega⟩ ⟨4352 + e, by omega⟩)
    (hs0 : s0 = S (ix2 0 0)) (hs1 : s1 = S (ix2 0 1)) (hs2 : s2 = S (ix2 0 2)) (hs3 : s3 = S (ix2 0 3)) (hs4 : s4 = S (ix2 0 4)) (hs5 : s5 = S (ix2 0 5)) (hs6 : s6 = S (ix2 0 6)) (hs7 : s7 = S (ix2 0 7)) (hs8 : s8 = S (ix2 0 8)) (hs9 : s9 = S (ix2 0 9)) (hs10 : s10 = S (ix2 0 10)) (hs11 : s11 = S (ix2 0 11)) (hs12 : s12 = S (ix2 0 12)) (hs13 : s13 = S (ix2 0 13)) (hs14 : s14 = S (ix2 0 14)) (hs15 : s15 = S (ix2 0 15))
    (r : Fin 256) (k : Fin 1024) :
    View.canon (osL M A0 A1 q0 q1 q2 q3 g0 g1 g2 g3 K U PK PV s0 s1 s2 s3 s4 s5 s6 s7 s8 s9 s10 s11 s12 s13 s14 s15) (ix2 r k) = sgate X G W gq gk S b (tok j r) k := by
  have cpK : ∀ (r e : Fin 256), catP PK K (ix2 r e) = win (fun t => sk X G W gk b t ⟨e / 64, by omega⟩ ⟨e % 64, by omega⟩) ⟨2 * j, by omega⟩ r := fun r e => by
    rw [cp_at]
    exact win_P _ j (fun r => PK (ix2 r e)) (fun r => K (ix2 r e)) (fun r => hK r e) (fun r => hPK r e) r
  have cpU : ∀ (r e : Fin 256), catP PV U (ix2 r e) = win (fun t => pj X G W b t ⟨4352 + e, by omega⟩) ⟨2 * j, by omega⟩ r := fun r e => by
    rw [cp_at]
    exact win_P _ j (fun r => PV (ix2 r e)) (fun r => U (ix2 r e)) (fun r => hU r e) (fun r => hPV r e) r
  have ccK : ∀ (r e : Fin 256), catC K (ix2 r e) = win (fun t => sk X G W gk b t ⟨e / 64, by omega⟩ ⟨e % 64, by omega⟩) ⟨2 * j + 1, by omega⟩ r := fun r e => by
    rw [cc_at]
    exact win_C _ j (fun r => K (ix2 r e)) (fun r => hK r e) r
  have ccU : ∀ (r e : Fin 256), catC U (ix2 r e) = win (fun t => pj X G W b t ⟨4352 + e, by omega⟩) ⟨2 * j + 1, by omega⟩ r := fun r e => by
    rw [cc_at]
    exact win_C _ j (fun r => U (ix2 r e)) (fun r => hU r e) r
  have kp0 : ∀ k l, kv0 M (catP PK K) (ix2 k l) = diag (fun r (e : Fin 64) => win (fun t => sk X G W gk b t 0 e) ⟨2 * j, by omega⟩ r) k l := fun k l =>
    (kv0_at M hM _ k l).trans (diag_congr _ _ (fun r e => (cpK r _).trans (win_congr _ _ (fun t => congrArg₂ (sk X G W gk b t) (Fin.ext (by simp <;> omega)) (Fin.ext (by simp <;> omega))) _ _)) k l)
  have vp0 : ∀ k l, kv0 M (catP PV U) (ix2 k l) = diag (fun r (e : Fin 64) => win (fun t => pj X G W b t ⟨4352 + (0 * 64 + e), by omega⟩) ⟨2 * j, by omega⟩ r) k l := fun k l =>
    (kv0_at M hM _ k l).trans (diag_congr _ _ (fun r e => (cpU r _).trans (win_congr _ _ (fun t => congrArg (pj X G W b t) (Fin.ext (by simp <;> omega))) _ _)) k l)
  have kc0 : ∀ k l, kv0 M (catC K) (ix2 k l) = diag (fun r (e : Fin 64) => win (fun t => sk X G W gk b t 0 e) ⟨2 * j + 1, by omega⟩ r) k l := fun k l =>
    (kv0_at M hM _ k l).trans (diag_congr _ _ (fun r e => (ccK r _).trans (win_congr _ _ (fun t => congrArg₂ (sk X G W gk b t) (Fin.ext (by simp <;> omega)) (Fin.ext (by simp <;> omega))) _ _)) k l)
  have vc0 : ∀ k l, kv0 M (catC U) (ix2 k l) = diag (fun r (e : Fin 64) => win (fun t => pj X G W b t ⟨4352 + (0 * 64 + e), by omega⟩) ⟨2 * j + 1, by omega⟩ r) k l := fun k l =>
    (kv0_at M hM _ k l).trans (diag_congr _ _ (fun r e => (ccU r _).trans (win_congr _ _ (fun t => congrArg (pj X G W b t) (Fin.ext (by simp <;> omega))) _ _)) k l)
  have kp1 : ∀ k l, kv1 M (catP PK K) (ix2 k l) = diag (fun r (e : Fin 64) => win (fun t => sk X G W gk b t 1 e) ⟨2 * j, by omega⟩ r) k l := fun k l =>
    (kv1_at M hM _ k l).trans (diag_congr _ _ (fun r e => (cpK r _).trans (win_congr _ _ (fun t => congrArg₂ (sk X G W gk b t) (Fin.ext (by simp <;> omega)) (Fin.ext (by simp <;> omega))) _ _)) k l)
  have vp1 : ∀ k l, kv1 M (catP PV U) (ix2 k l) = diag (fun r (e : Fin 64) => win (fun t => pj X G W b t ⟨4352 + (1 * 64 + e), by omega⟩) ⟨2 * j, by omega⟩ r) k l := fun k l =>
    (kv1_at M hM _ k l).trans (diag_congr _ _ (fun r e => (cpU r _).trans (win_congr _ _ (fun t => congrArg (pj X G W b t) (Fin.ext (by simp <;> omega))) _ _)) k l)
  have kc1 : ∀ k l, kv1 M (catC K) (ix2 k l) = diag (fun r (e : Fin 64) => win (fun t => sk X G W gk b t 1 e) ⟨2 * j + 1, by omega⟩ r) k l := fun k l =>
    (kv1_at M hM _ k l).trans (diag_congr _ _ (fun r e => (ccK r _).trans (win_congr _ _ (fun t => congrArg₂ (sk X G W gk b t) (Fin.ext (by simp <;> omega)) (Fin.ext (by simp <;> omega))) _ _)) k l)
  have vc1 : ∀ k l, kv1 M (catC U) (ix2 k l) = diag (fun r (e : Fin 64) => win (fun t => pj X G W b t ⟨4352 + (1 * 64 + e), by omega⟩) ⟨2 * j + 1, by omega⟩ r) k l := fun k l =>
    (kv1_at M hM _ k l).trans (diag_congr _ _ (fun r e => (ccU r _).trans (win_congr _ _ (fun t => congrArg (pj X G W b t) (Fin.ext (by simp <;> omega))) _ _)) k l)
  have kp2 : ∀ k l, kv2 M (catP PK K) (ix2 k l) = diag (fun r (e : Fin 64) => win (fun t => sk X G W gk b t 2 e) ⟨2 * j, by omega⟩ r) k l := fun k l =>
    (kv2_at M hM _ k l).trans (diag_congr _ _ (fun r e => (cpK r _).trans (win_congr _ _ (fun t => congrArg₂ (sk X G W gk b t) (Fin.ext (by simp <;> omega)) (Fin.ext (by simp <;> omega))) _ _)) k l)
  have vp2 : ∀ k l, kv2 M (catP PV U) (ix2 k l) = diag (fun r (e : Fin 64) => win (fun t => pj X G W b t ⟨4352 + (2 * 64 + e), by omega⟩) ⟨2 * j, by omega⟩ r) k l := fun k l =>
    (kv2_at M hM _ k l).trans (diag_congr _ _ (fun r e => (cpU r _).trans (win_congr _ _ (fun t => congrArg (pj X G W b t) (Fin.ext (by simp <;> omega))) _ _)) k l)
  have kc2 : ∀ k l, kv2 M (catC K) (ix2 k l) = diag (fun r (e : Fin 64) => win (fun t => sk X G W gk b t 2 e) ⟨2 * j + 1, by omega⟩ r) k l := fun k l =>
    (kv2_at M hM _ k l).trans (diag_congr _ _ (fun r e => (ccK r _).trans (win_congr _ _ (fun t => congrArg₂ (sk X G W gk b t) (Fin.ext (by simp <;> omega)) (Fin.ext (by simp <;> omega))) _ _)) k l)
  have vc2 : ∀ k l, kv2 M (catC U) (ix2 k l) = diag (fun r (e : Fin 64) => win (fun t => pj X G W b t ⟨4352 + (2 * 64 + e), by omega⟩) ⟨2 * j + 1, by omega⟩ r) k l := fun k l =>
    (kv2_at M hM _ k l).trans (diag_congr _ _ (fun r e => (ccU r _).trans (win_congr _ _ (fun t => congrArg (pj X G W b t) (Fin.ext (by simp <;> omega))) _ _)) k l)
  have kp3 : ∀ k l, kv3 M (catP PK K) (ix2 k l) = diag (fun r (e : Fin 64) => win (fun t => sk X G W gk b t 3 e) ⟨2 * j, by omega⟩ r) k l := fun k l =>
    (kv3_at M hM _ k l).trans (diag_congr _ _ (fun r e => (cpK r _).trans (win_congr _ _ (fun t => congrArg₂ (sk X G W gk b t) (Fin.ext (by simp <;> omega)) (Fin.ext (by simp <;> omega))) _ _)) k l)
  have vp3 : ∀ k l, kv3 M (catP PV U) (ix2 k l) = diag (fun r (e : Fin 64) => win (fun t => pj X G W b t ⟨4352 + (3 * 64 + e), by omega⟩) ⟨2 * j, by omega⟩ r) k l := fun k l =>
    (kv3_at M hM _ k l).trans (diag_congr _ _ (fun r e => (cpU r _).trans (win_congr _ _ (fun t => congrArg (pj X G W b t) (Fin.ext (by simp <;> omega))) _ _)) k l)
  have kc3 : ∀ k l, kv3 M (catC K) (ix2 k l) = diag (fun r (e : Fin 64) => win (fun t => sk X G W gk b t 3 e) ⟨2 * j + 1, by omega⟩ r) k l := fun k l =>
    (kv3_at M hM _ k l).trans (diag_congr _ _ (fun r e => (ccK r _).trans (win_congr _ _ (fun t => congrArg₂ (sk X G W gk b t) (Fin.ext (by simp <;> omega)) (Fin.ext (by simp <;> omega))) _ _)) k l)
  have vc3 : ∀ k l, kv3 M (catC U) (ix2 k l) = diag (fun r (e : Fin 64) => win (fun t => pj X G W b t ⟨4352 + (3 * 64 + e), by omega⟩) ⟨2 * j + 1, by omega⟩ r) k l := fun k l =>
    (kv3_at M hM _ k l).trans (diag_congr _ _ (fun r e => (ccU r _).trans (win_congr _ _ (fun t => congrArg (pj X G W b t) (Fin.ext (by simp <;> omega))) _ _)) k l)
  unfold osL
  canon_tiles
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 7 A1 hA1 _ _ kc3 vc3 _ _
      (fun i l => (sl11 _ i l).trans ((hq3 _ _).trans (q_move X G W gq b _ _ _ _ _ _ (by simp [tok]; omega) (by simp <;> omega) (by simp <;> omega))))
      (fun i l => (sl11 _ i l).trans ((hg3 _ _).trans (congrArg₂ (pj X G W b) (Fin.ext (by simp [tok]; omega)) (Fin.ext (by simp <;> omega)))))
      _ _ hs14 hs15 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 7 A0 hA0 _ _ kp3 vp3 _ _
      (fun i l => (sl01 _ i l).trans ((hq3 _ _).trans (q_move X G W gq b _ _ _ _ _ _ (by simp [tok]; omega) (by simp <;> omega) (by simp <;> omega))))
      (fun i l => (sl01 _ i l).trans ((hg3 _ _).trans (congrArg₂ (pj X G W b) (Fin.ext (by simp [tok]; omega)) (Fin.ext (by simp <;> omega)))))
      _ _ hs14 hs15 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 6 A1 hA1 _ _ kc3 vc3 _ _
      (fun i l => (sl10 _ i l).trans ((hq3 _ _).trans (q_move X G W gq b _ _ _ _ _ _ (by simp [tok]; omega) (by simp <;> omega) (by simp <;> omega))))
      (fun i l => (sl10 _ i l).trans ((hg3 _ _).trans (congrArg₂ (pj X G W b) (Fin.ext (by simp [tok]; omega)) (Fin.ext (by simp <;> omega)))))
      _ _ hs12 hs13 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 6 A0 hA0 _ _ kp3 vp3 _ _
      (fun i l => (sl00 _ i l).trans ((hq3 _ _).trans (q_move X G W gq b _ _ _ _ _ _ (by simp [tok]; omega) (by simp <;> omega) (by simp <;> omega))))
      (fun i l => (sl00 _ i l).trans ((hg3 _ _).trans (congrArg₂ (pj X G W b) (Fin.ext (by simp [tok]; omega)) (Fin.ext (by simp <;> omega)))))
      _ _ hs12 hs13 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 5 A1 hA1 _ _ kc2 vc2 _ _
      (fun i l => (sl11 _ i l).trans ((hq2 _ _).trans (q_move X G W gq b _ _ _ _ _ _ (by simp [tok]; omega) (by simp <;> omega) (by simp <;> omega))))
      (fun i l => (sl11 _ i l).trans ((hg2 _ _).trans (congrArg₂ (pj X G W b) (Fin.ext (by simp [tok]; omega)) (Fin.ext (by simp <;> omega)))))
      _ _ hs10 hs11 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 5 A0 hA0 _ _ kp2 vp2 _ _
      (fun i l => (sl01 _ i l).trans ((hq2 _ _).trans (q_move X G W gq b _ _ _ _ _ _ (by simp [tok]; omega) (by simp <;> omega) (by simp <;> omega))))
      (fun i l => (sl01 _ i l).trans ((hg2 _ _).trans (congrArg₂ (pj X G W b) (Fin.ext (by simp [tok]; omega)) (Fin.ext (by simp <;> omega)))))
      _ _ hs10 hs11 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 4 A1 hA1 _ _ kc2 vc2 _ _
      (fun i l => (sl10 _ i l).trans ((hq2 _ _).trans (q_move X G W gq b _ _ _ _ _ _ (by simp [tok]; omega) (by simp <;> omega) (by simp <;> omega))))
      (fun i l => (sl10 _ i l).trans ((hg2 _ _).trans (congrArg₂ (pj X G W b) (Fin.ext (by simp [tok]; omega)) (Fin.ext (by simp <;> omega)))))
      _ _ hs8 hs9 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 4 A0 hA0 _ _ kp2 vp2 _ _
      (fun i l => (sl00 _ i l).trans ((hq2 _ _).trans (q_move X G W gq b _ _ _ _ _ _ (by simp [tok]; omega) (by simp <;> omega) (by simp <;> omega))))
      (fun i l => (sl00 _ i l).trans ((hg2 _ _).trans (congrArg₂ (pj X G W b) (Fin.ext (by simp [tok]; omega)) (Fin.ext (by simp <;> omega)))))
      _ _ hs8 hs9 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 3 A1 hA1 _ _ kc1 vc1 _ _
      (fun i l => (sl11 _ i l).trans ((hq1 _ _).trans (q_move X G W gq b _ _ _ _ _ _ (by simp [tok]; omega) (by simp <;> omega) (by simp <;> omega))))
      (fun i l => (sl11 _ i l).trans ((hg1 _ _).trans (congrArg₂ (pj X G W b) (Fin.ext (by simp [tok]; omega)) (Fin.ext (by simp <;> omega)))))
      _ _ hs6 hs7 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 3 A0 hA0 _ _ kp1 vp1 _ _
      (fun i l => (sl01 _ i l).trans ((hq1 _ _).trans (q_move X G W gq b _ _ _ _ _ _ (by simp [tok]; omega) (by simp <;> omega) (by simp <;> omega))))
      (fun i l => (sl01 _ i l).trans ((hg1 _ _).trans (congrArg₂ (pj X G W b) (Fin.ext (by simp [tok]; omega)) (Fin.ext (by simp <;> omega)))))
      _ _ hs6 hs7 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 2 A1 hA1 _ _ kc1 vc1 _ _
      (fun i l => (sl10 _ i l).trans ((hq1 _ _).trans (q_move X G W gq b _ _ _ _ _ _ (by simp [tok]; omega) (by simp <;> omega) (by simp <;> omega))))
      (fun i l => (sl10 _ i l).trans ((hg1 _ _).trans (congrArg₂ (pj X G W b) (Fin.ext (by simp [tok]; omega)) (Fin.ext (by simp <;> omega)))))
      _ _ hs4 hs5 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 2 A0 hA0 _ _ kp1 vp1 _ _
      (fun i l => (sl00 _ i l).trans ((hq1 _ _).trans (q_move X G W gq b _ _ _ _ _ _ (by simp [tok]; omega) (by simp <;> omega) (by simp <;> omega))))
      (fun i l => (sl00 _ i l).trans ((hg1 _ _).trans (congrArg₂ (pj X G W b) (Fin.ext (by simp [tok]; omega)) (Fin.ext (by simp <;> omega)))))
      _ _ hs4 hs5 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 1 A1 hA1 _ _ kc0 vc0 _ _
      (fun i l => (sl11 _ i l).trans ((hq0 _ _).trans (q_move X G W gq b _ _ _ _ _ _ (by simp [tok]; omega) (by simp <;> omega) (by simp <;> omega))))
      (fun i l => (sl11 _ i l).trans ((hg0 _ _).trans (congrArg₂ (pj X G W b) (Fin.ext (by simp [tok]; omega)) (Fin.ext (by simp <;> omega)))))
      _ _ hs2 hs3 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 1 A0 hA0 _ _ kp0 vp0 _ _
      (fun i l => (sl01 _ i l).trans ((hq0 _ _).trans (q_move X G W gq b _ _ _ _ _ _ (by simp [tok]; omega) (by simp <;> omega) (by simp <;> omega))))
      (fun i l => (sl01 _ i l).trans ((hg0 _ _).trans (congrArg₂ (pj X G W b) (Fin.ext (by simp [tok]; omega)) (Fin.ext (by simp <;> omega)))))
      _ _ hs2 hs3 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 1, by omega⟩ 0 A1 hA1 _ _ kc0 vc0 _ _
      (fun i l => (sl10 _ i l).trans ((hq0 _ _).trans (q_move X G W gq b _ _ _ _ _ _ (by simp [tok]; omega) (by simp <;> omega) (by simp <;> omega))))
      (fun i l => (sl10 _ i l).trans ((hg0 _ _).trans (congrArg₂ (pj X G W b) (Fin.ext (by simp [tok]; omega)) (Fin.ext (by simp <;> omega)))))
      _ _ hs0 hs1 i l).trans ?_
    exact congrArg₂ (sgate X G W gq gk S b) (Fin.ext (by simp [tok]; omega)) (Fin.ext (by simp <;> omega))
  · obtain ⟨i, l, rfl⟩ : ∃ i l, x = ix2 i l := ⟨x 0, x 1, by funext a; fin_cases a <;> rfl⟩
    simp at h0 h1
    refine (piece_at X G W gq gk S b hG hW hgq hgk hS M hM ⟨2 * j + 0, by omega⟩ 0 A0 hA0 _ _ kp0 vp0 _ _
      (fun i l => (sl00 _ i l).trans ((hq0 _ _).trans (q_move X G W gq b _ _ _ _ _ _ (by simp [tok]; omega) (by simp <;> omega) (by simp <;> omega))))
      (fun i l => (sl00 _ i l).trans ((hg0 _ _).trans (congrArg₂ (pj X G W b) (Fin.ext (by simp [tok]; omega)) (Fin.ext (by simp <;> omega)))))
      _ _ hs0 hs1 i l).trans ?_
    exact congrArg₂ (sgate X G W gq gk S b) (Fin.ext (by simp [tok]; omega)) (Fin.ext (by simp <;> omega))
end tile
end Cert.KernelIdeal.Att

end

end
-- ==== Proof.Queries.lean ====
/-
  The window's queries: what the body computes for four heads at a time, scaled.
-/
module

public import proofs.«01_k».proof.Proof.NormRope

@[expose] public section

set_option maxRecDepth 16384
noncomputable section
open Idealize.ShloMosaic Idealize.ShloMosaic.TcCoe Idealize.SL.Sem
namespace Cert.KernelIdeal.Queries
open Cert.KernelIdeal Cert.KernelIdeal.Gen Cert.Spec Cert.KernelIdeal.Blk Cert.KernelIdeal.Host Cert.KernelIdeal.Pay Cert.KernelIdeal.NormRope
variable (m : (ℓ : Loc nD τ sig) → Buf (Elt Ideal) ℓ)

/-- Four heads' queries: normed and turned as the keys are, times the scale. -/
def qP (v19 : FVec Ideal S256x1024 .bf16) (gm : FVec Ideal S256x256 .bf16) (C S : FVec Ideal S256x128 .f32) (M : IVec S1x128 1)
    (w : Vec Ideal S1024x256 .bf16) (g : Vec Ideal S1x256 .f32) : FVec Ideal S256x256 .f32 :=
  mulf (k0_pay65 C S M (k0_pay63 v19 gm C S M w g) (k0_pay64 v19 gm w g) 96#32) (broadcast S256x256 (Scalar.ofBits .f32 0x3E000000#32 : Ideal .f32))

section
variable (v19 : FVec Ideal S256x1024 .bf16) (gm : FVec Ideal S256x256 .bf16) (C S : FVec Ideal S256x128 .f32) (M : IVec S1x128 1)
    (w : Vec Ideal S1024x256 .bf16) (g : Vec Ideal S1x256 .f32)
theorem q0_eq : k0_pay61 C S M (k0_pay56 v19 gm w g) (k0_pay57 v19 gm w g) (k0_pay58 v19 gm w g) (k0_pay59 v19 gm w g) (k0_pay60 M) = qP v19 gm C S M w g := rfl
theorem q1_eq : k0_pay68 v19 gm C S M w g = qP v19 gm C S M w g := rfl
theorem q2_eq : k0_pay72 v19 gm C S M w g = qP v19 gm C S M w g := rfl
theorem q3_eq : k0_pay81 gm C S M (k0_pay76 v19 w) (k0_pay77 g) (k0_pay79 v19 w) (k0_pay80 v19 w) (constant S256x256 .f32 0x00000000#32) = qP v19 gm C S M w g := rfl
end

/-- The window queries' gains. -/
abbrev QA (c : Dev nD) : HArr := m ((c : Thread nD τ).loc main_arg4)

theorem q_at (c : Dev nD) (t : Fin cfg0.N) (b : Fin 4) (j : Fin 16) (ht : t.val = 16 * b.val + j.val)
    (hG : ∀ i, IsR (GA m c i)) (hW : ∀ i, IsR (WA m c i)) (M : IVec S1x128 1)
    (hM : ∀ l : Fin 128, M (ix2 0 l) = if l.val % 64 < 32 then 1#1 else 0#1)
    (v19 : FVec Ideal S256x1024 .bf16) (hv : v19 = k0_pay9 (F := Ideal) (iblk m c 0 t) (iblk m c 1 t)) (gm : FVec Ideal S256x256 .bf16)
    (hg : ∀ k e, gm (ix2 k e) = iblk m c 17 t (ix2 k e)) (C S : FVec Ideal S256x128 .f32) (hC : ∀ r l, C (ix2 r l) = iblk m c 12 t (ix2 r l))
    (hS : ∀ r l, S (ix2 r l) = iblk m c 13 t (ix2 r l)) (g : Vec Ideal S1x256 .f32) (hk : ∀ e, g (ix2 0 e) = iblk m c 4 t (ix2 0 e))
    (cb : Fin 4) (lo : ℕ) (hlo : lo = 3072 + 256 * cb.val) (inb) (r e : Fin 256) :
    qP v19 gm C S M (View.ld (iblk m c 2 t) (Rect.unit (s := S1024x7680) ![0, lo] ![1024, 256] inb)) g (ix2 r e)
      = Cert.Spec.sq (XA m c) (GA m c) (WA m c) (QA m c) b (tok j r) ⟨4 * cb + e / 64, by omega⟩ ⟨e % 64, by omega⟩ * Ideal.ofBits .f32 0x3E000000#32 := by
  have h := pay65_at v19 gm C S M (View.ld (iblk m c 2 t) (Rect.unit (s := S1024x7680) ![0, lo] ![1024, 256] inb)) g (tok j)
    (fun r h => nrm (fun i => pj (XA m c) (GA m c) (WA m c) b (tok j r) ⟨lo + (h.val * 64 + i.val), by omega⟩) (fun i => QA m c (ix2 0 i)))
    (fun r e => by
      refine (pay62_at v19 gm _ g (fun r e => pj (XA m c) (GA m c) (WA m c) b (tok j r) ⟨lo + e, by omega⟩)
        (fun r e => proj_sum m c t b j ht _ hv lo 256 _ r e (by omega)) (fun r e => pj_real _ _ _ hG hW _ _ _)
        (fun k e => (hg k e).trans ((b17 m c t k e).trans (gmat_at m c k e))) r e).trans ?_
      congr 1
      funext i
      refine (hk _).trans ((b4 m c t 0 _).trans ((qg_at m c _).trans ?_))
      exact congrArg (fun i => QA m c (ix2 0 i)) (Fin.ext (by dsimp only; omega)))
    (fun r l => by rw [hC, b12 m c t b j ht, scos_at]) (fun r l => by rw [hS, b13 m c t b j ht, ssin_at]) hM r e
  unfold qP
  generalize k0_pay65 C S M _ _ 96#32 = y at h ⊢
  pointwise
  rw [h]
  unfold Cert.Spec.sq
  refine congrArg (fun n => turn (tok j r) (nrm n _) _ * _) ?_
  funext i
  exact congrArg _ (Fin.ext (by dsimp only; omega))

end Cert.KernelIdeal.Queries

end

end
-- ==== Proof.Row.lean ====
/-
  How the two gated branches are read back and mixed into the output.
-/
module

public import proofs.«01_k».proof.Proof.Mix
public import proofs.«01_k».proof.Proof.Window
public import proofs.«01_k».proof.Proof.Queries
public import proofs.«01_k».proof.Proof.Keys

@[expose] public section

set_option maxRecDepth 16384
noncomputable section
open Idealize.ShloMosaic Idealize.ShloMosaic.TcCoe Idealize.SL.Sem
namespace Cert.KernelIdeal.Row
open Cert.KernelIdeal Cert.KernelIdeal.Gen Cert.KernelIdeal.Value Cert.Spec Cert.KernelIdeal.Blk Cert.KernelIdeal.Host Cert.KernelIdeal.Pay Cert.KernelIdeal.NormRope Cert.KernelIdeal.Heads Cert.KernelIdeal.Mix Cert.KernelIdeal.Att Cert.KernelIdeal.Keys Cert.KernelIdeal.Queries Cert.KernelIdeal.State Cert.KernelIdeal.Fold
variable (m : (ℓ : Loc nD τ sig) → Buf (Elt Ideal) ℓ)

/-- The window branch's sinks and the three last weights. -/
abbrev SA (c : Dev nD) : SArr := m ((c : Thread nD τ).loc main_arg6)
abbrev BR (c : Dev nD) : OArr := m ((c : Thread nD τ).loc main_arg7)
abbrev BS (c : Dev nD) : OArr := m ((c : Thread nD τ).loc main_arg8)
abbrev BO (c : Dev nD) : OArr := m ((c : Thread nD τ).loc main_arg9)

theorem full_idx (r : Fin 256) (k : Fin 1024) : (Rect.unit (s := S256x1024) ![0, 0] ![256, 1024] inb_S256x1024_S256x1024_0_0).toLoadRect.idx (ix2 r k) = ix2 r k := by
  funext a
  apply Fin.ext
  fin_cases a <;> exact (Rect.idx_unit_val _ _ _ _ _).trans (Nat.zero_add _)

theorem read3 (L : List (View.Piece (Elt Ideal) S256x1024 .bf16)) (r : Fin 256) (k : Fin 1024) :
    ((View.whole cc0_scratch3).readCov (Val := Elt Ideal) L (Rect.unit (s := S256x1024) ![0, 0] ![256, 1024] inb_S256x1024_S256x1024_0_0).toLoadRect : Vec Ideal S256x1024 .bf16) (ix2 r k) = View.canon L (ix2 r k) := by
  rw [View.readCov_eq_canon']
  exact congrArg (View.canon L) (full_idx r k)

theorem read4 (L : List (View.Piece (Elt Ideal) S256x1024 .bf16)) (r : Fin 256) (k : Fin 1024) :
    ((View.whole cc0_scratch4).readCov (Val := Elt Ideal) L (Rect.unit (s := S256x1024) ![0, 0] ![256, 1024] inb_S256x1024_S256x1024_0_0).toLoadRect : Vec Ideal S256x1024 .bf16) (ix2 r k) = View.canon L (ix2 r k) := by
  rw [View.readCov_eq_canon']
  exact congrArg (View.canon L) (full_idx r k)

theorem or_read (o0 o1 o2 o3 : FVec Ideal S256x256 .bf16) (r : Fin 256) (k : Fin 1024) :
    ((View.whole cc0_scratch3).readCov (Val := Elt Ideal) [⟨Rect.unit ![0, 768] ![256, 256] inb_S256x1024_S256x256_0_768, o3⟩, ⟨Rect.unit ![0, 512] ![256, 256] inb_S256x1024_S256x256_0_512, o2⟩, ⟨Rect.unit ![0, 256] ![256, 256] inb_S256x1024_S256x256_0_256, o1⟩, ⟨Rect.unit ![0, 0] ![256, 256] inb_S256x1024_S256x256_0_0, o0⟩] (Rect.unit (s := S256x1024) ![0, 0] ![256, 1024] inb_S256x1024_S256x1024_0_0).toLoadRect : Vec Ideal S256x1024 .bf16) (ix2 r k) = View.canon (orL o0 o1 o2 o3) (ix2 r k) :=
  read3 (orL o0 o1 o2 o3) r k

set_option pp.maxSteps 300 in
theorem os_read (M : IVec S1x128 1) (A0 A1 : IVec S128x256 1) (q0 q1 q2 q3 g0 g1 g2 g3 K U : FVec Ideal S256x256 .f32) (PK PV : Vec Ideal S128x256 .f32) (s0 s1 s2 s3 s4 s5 s6 s7 s8 s9 s10 s11 s12 s13 s14 s15 : Elt Ideal .f32) (r : Fin 256) (k : Fin 1024) :
    ((View.whole cc0_scratch4).readCov (Val := Elt Ideal) [⟨Rect.unit ![128, 896] ![128, 128] inb_S256x1024_S128x128_128_896, (k0_pay278 M (k0_pay238 M U) g3 (k0_pay273 A1 (k0_pay262 q3 (k0_pay237 (k0_pay233 K) (k0_pay234 M K) (k0_pay235 M) k0_pay236)) s14) (k0_pay274 A1 (k0_pay262 q3 (k0_pay237 (k0_pay233 K) (k0_pay234 M K) (k0_pay235 M) k0_pay236)) s14) s15 (k0_pay275 A1 (k0_pay262 q3 (k0_pay237 (k0_pay233 K) (k0_pay234 M K) (k0_pay235 M) k0_pay236))) (k0_pay276 A1 (k0_pay262 q3 (k0_pay237 (k0_pay233 K) (k0_pay234 M K) (k0_pay235 M) k0_pay236)) s15) (k0_pay277 A1 (k0_pay262 q3 (k0_pay237 (k0_pay233 K) (k0_pay234 M K) (k0_pay235 M) k0_pay236)) s15))⟩,
    ⟨Rect.unit ![0, 896] ![128, 128] inb_S256x1024_S128x128_0_896, (k0_pay268 (k0_pay265 M A0 (k0_pay222 M (k0_pay220 U PV) (k0_pay221 U PV) (Scalar.ofBits .f32 0x00000000#32)) (k0_pay248 q3 (k0_pay219 M K PK)) s14 (k0_pay264 A0 (k0_pay248 q3 (k0_pay219 M K PK))) s15) (k0_pay266 g3) (k0_pay267 g3) (Scalar.ofBits .f32 0x3F800000#32))⟩,
    ⟨Rect.unit ![128, 768] ![128, 128] inb_S256x1024_S128x128_128_768, (k0_pay261 M (k0_pay238 M U) g3 (k0_pay254 A1 (k0_pay239 q3 (k0_pay233 K) (k0_pay234 M K) (k0_pay235 M) k0_pay236) s12) (k0_pay255 A1 (k0_pay239 q3 (k0_pay233 K) (k0_pay234 M K) (k0_pay235 M) k0_pay236) s12) (k0_pay258 A1 (k0_pay239 q3 (k0_pay233 K) (k0_pay234 M K) (k0_pay235 M) k0_pay236) s13) (k0_pay259 A1 (k0_pay239 q3 (k0_pay233 K) (k0_pay234 M K) (k0_pay235 M) k0_pay236) s13) k0_pay260)⟩,
    ⟨Rect.unit ![0, 768] ![128, 128] inb_S256x1024_S128x128_0_768, (k0_pay247 M A0 (k0_pay222 M (k0_pay220 U PV) (k0_pay221 U PV) (Scalar.ofBits .f32 0x00000000#32)) g3 (k0_pay244 A0 (k0_pay223 q3 (k0_pay219 M K PK)) s12) (k0_pay245 A0 (k0_pay223 q3 (k0_pay219 M K PK)) s12) s13 (k0_pay246 (k0_pay223 q3 (k0_pay219 M K PK))) (Scalar.ofBits .f32 0xFF800000#32))⟩,
    ⟨Rect.unit ![128, 640] ![128, 128] inb_S256x1024_S128x128_128_640, (k0_pay232 M (k0_pay186 M U) g2 (k0_pay228 A1 (k0_pay205 q2 (k0_pay185 M K)) s10) (k0_pay229 A1 (k0_pay205 q2 (k0_pay185 M K)) s10) s11 (k0_pay230 A1 (k0_pay205 q2 (k0_pay185 M K))) (k0_pay231 A1 (k0_pay205 q2 (k0_pay185 M K)) s11))⟩,
    ⟨Rect.unit ![0, 640] ![128, 128] inb_S256x1024_S128x128_0_640, (k0_pay218 M (k0_pay175 M U PV) g2 (k0_pay211 A0 (k0_pay196 q2 (k0_pay174 M (k0_pay170 K PK) (k0_pay171 K PK) (k0_pay172 M) k0_pay173)) s10) (k0_pay212 A0 (k0_pay196 q2 (k0_pay174 M (k0_pay170 K PK) (k0_pay171 K PK) (k0_pay172 M) k0_pay173)) s10) (k0_pay216 A0 (k0_pay196 q2 (k0_pay174 M (k0_pay170 K PK) (k0_pay171 K PK) (k0_pay172 M) k0_pay173)) s11) (k0_pay217 A0 (k0_pay196 q2 (k0_pay174 M (k0_pay170 K PK) (k0_pay171 K PK) (k0_pay172 M) k0_pay173)) s11))⟩,
    ⟨Rect.unit ![128, 512] ![128, 128] inb_S256x1024_S128x128_128_512, (k0_pay204 M (k0_pay186 M U) g2 (k0_pay201 A1 (k0_pay187 M K q2) s8) (k0_pay202 A1 (k0_pay187 M K q2) s8) s9 (k0_pay203 A1 (k0_pay187 M K q2)))⟩,
    ⟨Rect.unit ![0, 512] ![128, 128] inb_S256x1024_S128x128_0_512, (k0_pay195 (k0_pay192 M A0 (k0_pay175 M U PV) (k0_pay176 M q2 (k0_pay170 K PK) (k0_pay171 K PK) (k0_pay172 M) k0_pay173) s8 (k0_pay189 A0 (k0_pay176 M q2 (k0_pay170 K PK) (k0_pay171 K PK) (k0_pay172 M) k0_pay173)) (k0_pay190 A0 (k0_pay176 M q2 (k0_pay170 K PK) (k0_pay171 K PK) (k0_pay172 M) k0_pay173) s8) (k0_pay191 A0 (k0_pay176 M q2 (k0_pay170 K PK) (k0_pay171 K PK) (k0_pay172 M) k0_pay173) s8) s9) (k0_pay193 g2) (k0_pay194 g2))⟩,
    ⟨Rect.unit ![128, 384] ![128, 128] inb_S256x1024_S128x128_128_384, (k0_pay184 (k0_pay183 M A1 (k0_pay139 M U) g1 (k0_pay160 q1 (k0_pay138 M K)) (k0_pay180 A1 (k0_pay160 q1 (k0_pay138 M K)) s6) (k0_pay181 A1 (k0_pay160 q1 (k0_pay138 M K)) s6) (k0_pay182 A1 (k0_pay160 q1 (k0_pay138 M K)) s6) s7))⟩,
    ⟨Rect.unit ![0, 384] ![128, 128] inb_S256x1024_S128x128_0_384, (k0_pay169 M (k0_pay132 M U PV) g1 (k0_pay165 A0 (k0_pay153 q1 (k0_pay131 M K PK)) s6) (k0_pay166 A0 (k0_pay153 q1 (k0_pay131 M K PK)) s6) s7 (k0_pay167 A0 (k0_pay153 q1 (k0_pay131 M K PK))) (k0_pay168 A0 (k0_pay153 q1 (k0_pay131 M K PK))))⟩,
    ⟨Rect.unit ![128, 256] ![128, 128] inb_S256x1024_S128x128_128_256, (k0_pay159 (k0_pay158 M A1 (k0_pay139 M U) (k0_pay140 M K q1) g1 s4 (k0_pay156 A1 (k0_pay140 M K q1) s4) (k0_pay157 A1 (k0_pay140 M K q1) s4) s5))⟩,
    ⟨Rect.unit ![0, 256] ![128, 128] inb_S256x1024_S128x128_0_256, (k0_pay152 g1 (k0_pay145 A0 (k0_pay133 M K q1 PK) s4) (k0_pay149 A0 (k0_pay133 M K q1 PK) s5) (k0_pay150 A0 (k0_pay132 M U PV) (k0_pay133 M K q1 PK) s4 s5) (k0_pay151 M))⟩,
    ⟨Rect.unit ![128, 128] ![128, 128] inb_S256x1024_S128x128_128_128, (k0_pay137 (k0_pay135 M A1 (k0_pay97 M (k0_pay95 U) (k0_pay96 U)) (k0_pay123 q0 (k0_pay94 M K)) s2 s3) (k0_pay136 g0))⟩,
    ⟨Rect.unit ![0, 128] ![128, 128] inb_S256x1024_S128x128_0_128, (k0_pay130 (k0_pay129 M A0 (k0_pay92 M U PV) g0 (k0_pay109 q0 (k0_pay91 M (k0_pay89 K PK) (k0_pay90 K PK))) s2 (k0_pay126 A0 (k0_pay109 q0 (k0_pay91 M (k0_pay89 K PK) (k0_pay90 K PK))) s2) (k0_pay127 A0 (k0_pay109 q0 (k0_pay91 M (k0_pay89 K PK) (k0_pay90 K PK))) s2) (k0_pay128 A0 (k0_pay109 q0 (k0_pay91 M (k0_pay89 K PK) (k0_pay90 K PK))) s2) s3))⟩,
    ⟨Rect.unit ![128, 0] ![128, 128] inb_S256x1024_S128x128_128_0, (k0_pay122 g0 (k0_pay118 A1 (k0_pay98 q0 (k0_pay94 M K)) s1) (k0_pay119 A1 (k0_pay97 M (k0_pay95 U) (k0_pay96 U)) (k0_pay98 q0 (k0_pay94 M K)) s0 s1) (k0_pay120 M) (k0_pay121 A1 (k0_pay98 q0 (k0_pay94 M K)) s0))⟩,
    ⟨Rect.unit ![0, 0] ![128, 128] inb_S256x1024_S128x128_0_0, (k0_pay108 M (k0_pay92 M U PV) g0 (k0_pay103 A0 (k0_pay93 M q0 (k0_pay89 K PK) (k0_pay90 K PK)) s0) (k0_pay104 A0 (k0_pay93 M q0 (k0_pay89 K PK) (k0_pay90 K PK)) s0) s1 (k0_pay106 A0 (k0_pay93 M q0 (k0_pay89 K PK) (k0_pay90 K PK)) s1) (k0_pay107 A0 (k0_pay93 M q0 (k0_pay89 K PK) (k0_pay90 K PK)) s1))⟩] (Rect.unit (s := S256x1024) ![0, 0] ![256, 1024] inb_S256x1024_S256x1024_0_0).toLoadRect : Vec Ideal S256x1024 .bf16) (ix2 r k) = View.canon (osL M A0 A1 q0 q1 q2 q3 g0 g1 g2 g3 K U PK PV s0 s1 s2 s3 s4 s5 s6 s7 s8 s9 s10 s11 s12 s13 s14 s15) (ix2 r k) :=
  (read4 _ r k).trans (congrArg (fun L => View.canon L (ix2 r k)) (osL_eq M A0 A1 q0 q1 q2 q3 g0 g1 g2 g3 K U PK PV s0 s1 s2 s3 s4 s5 s6 s7 s8 s9 s10 s11 s12 s13 s14 s15).symm)

/-- The two branches under their gates. -/
def mixF (c : Dev nD) (b : Fin 4) (j : Fin 16) (r : Fin 256) : Fin 1024 → EReal := fun k : Fin 1024 => Cert.Spec.sig (pj (XA m c) (GA m c) (WA m c) b (tok j r) ⟨5632 + k, by omega⟩) * brR (XA m c) (GA m c) (WA m c) (NA m c) (BR m c) b (tok j r) k
          + Cert.Spec.sig (pj (XA m c) (GA m c) (WA m c) b (tok j r) ⟨6656 + k, by omega⟩) * brS (XA m c) (GA m c) (WA m c) (QA m c) (KA m c) (SA m c) b (BS m c) (tok j r) k

section tile
variable (c : Dev nD) (t : Fin cfg0.N) (b : Fin 4) (j : Fin 16) (ht : t.val = 16 * b.val + j.val)
include ht

theorem col_at (OR OS : Vec Ideal S256x1024 .bf16) (r : Fin 256) (hOR : ∀ k, OR (ix2 r k) = rgate (XA m c) (GA m c) (WA m c) (NA m c) b (tok j r) k) (hOS : ∀ k, OS (ix2 r k) = sgate (XA m c) (GA m c) (WA m c) (QA m c) (KA m c) (SA m c) b (tok j r) k)
    (cb : Fin 4) (la ls lw : ℕ) (ha : la = 5632 + 256 * cb.val) (hs : ls = 6656 + 256 * cb.val) (hw : lw = 256 * cb.val) (i1 i2 i3 i4) (e : Fin 256) :
    k0_pay124 (k0_pay9 (F := Ideal) (iblk m c 0 t) (iblk m c 1 t)) (View.ld (iblk m c 2 t) (Rect.unit (s := S1024x7680) ![0, la] ![1024, 256] i1)) (ix2 r e)
        * k0_pay99 OR (View.ld (iblk m c 7 t) (Rect.unit (s := S1024x1024) ![0, lw] ![1024, 256] i3)) (ix2 r e)
      + k0_pay124 (k0_pay9 (F := Ideal) (iblk m c 0 t) (iblk m c 1 t)) (View.ld (iblk m c 2 t) (Rect.unit (s := S1024x7680) ![0, ls] ![1024, 256] i2)) (ix2 r e)
        * ∑ k : Fin 1024, OS (ix2 r k) * View.ld (iblk m c 8 t) (Rect.unit (s := S1024x1024) ![0, lw] ![1024, 256] i4) (ix2 k e)
      = mixF m c b j r ⟨256 * cb + e, by omega⟩ := by
  rw [gate_at, gate_at, mm_at, proj_sum m c t b j ht _ rfl la 256 i1 r e (by omega), proj_sum m c t b j ht _ rfl ls 256 i2 r e (by omega)]
  have w7 : ∀ k : Fin 1024, View.ld (iblk m c 7 t) (Rect.unit (s := S1024x1024) ![0, lw] ![1024, 256] i3) (ix2 k e) = BR m c (ix3 0 k ⟨256 * cb + e, by omega⟩) := fun k => by
    subst hw
    pointwise
    rw [b7 m c t, wbr_at]
  have w8 : ∀ k : Fin 1024, View.ld (iblk m c 8 t) (Rect.unit (s := S1024x1024) ![0, lw] ![1024, 256] i4) (ix2 k e) = BS m c (ix3 0 k ⟨256 * cb + e, by omega⟩) := fun k => by
    subst hw
    pointwise
    rw [b8 m c t, wbs_at]
  simp only [w7, w8, hOR, hOS]
  unfold mixF brR brS
  refine congrArg₂ HAdd.hAdd (congrArg₂ HMul.hMul (congrArg (fun x => Cert.Spec.sig (pj (XA m c) (GA m c) (WA m c) b (tok j r) x)) (Fin.ext ?_)) rfl)
    (congrArg₂ HMul.hMul (congrArg (fun x => Cert.Spec.sig (pj (XA m c) (GA m c) (WA m c) b (tok j r) x)) (Fin.ext ?_)) rfl)
  · dsimp only
    omega
  · dsimp only
    omega

/-- The output row, from the two gated branches. -/
theorem y_fin (OR OS : Vec Ideal S256x1024 .bf16) (hOR : ∀ r k, OR (ix2 r k) = rgate (XA m c) (GA m c) (WA m c) (NA m c) b (tok j r) k) (hOS : ∀ r k, OS (ix2 r k) = sgate (XA m c) (GA m c) (WA m c) (QA m c) (KA m c) (SA m c) b (tok j r) k) (r : Fin 256) (n : Fin 1024) :
    k0_pay1 (k0_pay281 (k0_pay8 (iblk m c 0 t)) (k0_pay111 (k0_pay110 (k0_pay9 (F := Ideal) (iblk m c 0 t) (iblk m c 1 t)) (View.ld (iblk m c 2 t) (Rect.unit ![0, 5632] ![1024, 256] inb_S1024x7680_S1024x256_0_5632)))) (k0_pay124 (k0_pay9 (F := Ideal) (iblk m c 0 t) (iblk m c 1 t)) (View.ld (iblk m c 2 t) (Rect.unit ![0, 6656] ![1024, 256] inb_S1024x7680_S1024x256_0_6656))) (k0_pay134 OR (View.ld (iblk m c 7 t) (Rect.unit ![0, 0] ![1024, 256] inb_S1024x1024_S1024x256_0_0))) (k0_pay154 (k0_pay9 (F := Ideal) (iblk m c 0 t) (iblk m c 1 t)) (View.ld (iblk m c 2 t) (Rect.unit ![0, 5888] ![1024, 256] inb_S1024x7680_S1024x256_0_5888))) (k0_pay161 (k0_pay9 (F := Ideal) (iblk m c 0 t) (iblk m c 1 t)) (View.ld (iblk m c 2 t) (Rect.unit ![0, 6912] ![1024, 256] inb_S1024x7680_S1024x256_0_6912))) (k0_pay177 OR (View.ld (iblk m c 7 t) (Rect.unit ![0, 256] ![1024, 256] inb_S1024x1024_S1024x256_0_256))) (k0_pay197 (k0_pay9 (F := Ideal) (iblk m c 0 t) (iblk m c 1 t)) (View.ld (iblk m c 2 t) (Rect.unit ![0, 6144] ![1024, 256] inb_S1024x7680_S1024x256_0_6144))) (k0_pay207 (k0_pay206 (k0_pay9 (F := Ideal) (iblk m c 0 t) (iblk m c 1 t)) (View.ld (iblk m c 2 t) (Rect.unit ![0, 7168] ![1024, 256] inb_S1024x7680_S1024x256_0_7168)))) (k0_pay224 OR (View.ld (iblk m c 7 t) (Rect.unit ![0, 512] ![1024, 256] inb_S1024x1024_S1024x256_0_512))) (k0_pay250 (k0_pay9 (F := Ideal) (iblk m c 0 t) (iblk m c 1 t)) (k0_pay249 (View.ld (iblk m c 2 t) (Rect.unit ![0, 6400] ![1024, 256] inb_S1024x7680_S1024x256_0_6400)))) (k0_pay263 (k0_pay9 (F := Ideal) (iblk m c 0 t) (iblk m c 1 t)) (View.ld (iblk m c 2 t) (Rect.unit ![0, 7424] ![1024, 256] inb_S1024x7680_S1024x256_0_7424))) (k0_pay269 OR (View.ld (iblk m c 7 t) (Rect.unit ![0, 768] ![1024, 256] inb_S1024x1024_S1024x256_0_768))) OS (View.ld (iblk m c 8 t) (Rect.unit ![0, 0] ![1024, 256] inb_S1024x1024_S1024x256_0_0)) OS (View.ld (iblk m c 8 t) (Rect.unit ![0, 256] ![1024, 256] inb_S1024x1024_S1024x256_0_256)) OS (View.ld (iblk m c 8 t) (Rect.unit ![0, 512] ![1024, 256] inb_S1024x1024_S1024x256_0_512)) OS (View.ld (iblk m c 8 t) (Rect.unit ![0, 768] ![1024, 256] inb_S1024x1024_S1024x256_0_768)) (iblk m c 9 t)) (ix3 0 r n)
      = yE (XA m c) (GA m c) (WA m c) (QA m c) (KA m c) (SA m c) b (NA m c) (BR m c) (BS m c) (BO m c) (tok j r) n := by
  rw [g110, g154, g161, g197, g207, g250, g263]
  refine (mix_at _ _ _ _ _ _ _ _ _ _ _ _ _ _ _ _ _ _ _ r n (mixF m c b j r)
    (fun e => col_at m c t b j ht OR OS r (hOR r) (hOS r) 0 5632 6656 0 rfl rfl rfl _ _ _ _ e)
    (fun e => col_at m c t b j ht OR OS r (hOR r) (hOS r) 1 5888 6912 256 rfl rfl rfl _ _ _ _ e)
    (fun e => col_at m c t b j ht OR OS r (hOR r) (hOS r) 2 6144 7168 512 rfl rfl rfl _ _ _ _ e)
    (fun e => col_at m c t b j ht OR OS r (hOR r) (hOS r) 3 6400 7424 768 rfl rfl rfl _ _ _ _ e)).trans ?_
  unfold yE mixF
  refine congrArg₂ HAdd.hAdd ?_ (Finset.sum_congr rfl fun k _ => congrArg (HMul.hMul _) ((b9 m c t k n).trans (wo_at m c k n)))
  pointwise [k0_pay8]
  rw [b0 m c t b j ht]
end tile
end Cert.KernelIdeal.Row

end

end
-- ==== Proof.Tile.lean ====
/-
  The two gated branches of a tile, at every position.
-/
module

public import proofs.«01_k».proof.Proof.Row

@[expose] public section

set_option maxRecDepth 16384
noncomputable section
open Idealize.ShloMosaic Idealize.ShloMosaic.TcCoe Idealize.SL.Sem
namespace Cert.KernelIdeal.Row
open Cert.KernelIdeal Cert.KernelIdeal.Gen Cert.KernelIdeal.Value Cert.Spec Cert.KernelIdeal.Blk Cert.KernelIdeal.Host Cert.KernelIdeal.Pay Cert.KernelIdeal.NormRope Cert.KernelIdeal.Heads Cert.KernelIdeal.Mix Cert.KernelIdeal.Att Cert.KernelIdeal.Keys Cert.KernelIdeal.Queries Cert.KernelIdeal.State Cert.KernelIdeal.Fold
variable (m : (ℓ : Loc nD τ sig) → Buf (Elt Ideal) ℓ)

theorem m10 (c : Dev nD) (t : Fin cfg0.N) (k e : Fin 256) : k0_pay10 (F := Ideal) (iblk m c 17 t) (ix2 k e) = iblk m c 17 t (ix2 k e) := by
  pointwise [k0_pay10]
theorem m11 (c : Dev nD) (t : Fin cfg0.N) (r : Fin 256) (l : Fin 128) : k0_pay11 (F := Ideal) (iblk m c 12 t) (ix2 r l) = iblk m c 12 t (ix2 r l) := by
  pointwise [k0_pay11]
theorem m12 (c : Dev nD) (t : Fin cfg0.N) (r : Fin 256) (l : Fin 128) : k0_pay12 (F := Ideal) (iblk m c 13 t) (ix2 r l) = iblk m c 13 t (ix2 r l) := by
  pointwise [k0_pay12]
/-- A sink, read by its number. -/
theorem snk (c : Dev nD) (t : Fin cfg0.N) (k : Fin 16) (inb) :
    View.ld (iblk m c 6 t) (Rect.unit (s := S16) ![k.val] ![1] inb) (Shape.Idx.first (Nat.lt_of_lt_of_eq Nat.zero_lt_one numel1_S1.symm)) = SA m c (ix2 0 k) := by
  refine Eq.trans ?_ ((b6 m c t k).trans (sink_at m c k))
  show iblk m c 6 t _ = _
  refine congrArg _ (funext fun a => Fin.ext ?_)
  fin_cases a
  exact (Rect.idx_unit_val _ _ _ _ _).trans (Nat.add_zero _)

section tile
variable (c : Dev nD) (t : Fin cfg0.N) (b : Fin 4) (j : Fin 16) (ht : t.val = 16 * b.val + j.val) (hG : ∀ i, IsR (GA m c i)) (hW : ∀ i, IsR (WA m c i))
include ht hG hW

theorem key_at (r e : Fin 256) : (k0_pay65 (k0_pay11 (iblk m c 12 t)) (k0_pay12 (iblk m c 13 t)) (k0_pay16 64#32 k0_pay13 k0_pay14 k0_pay15 0#32) (k0_pay63 (k0_pay9 (F := Ideal) (iblk m c 0 t) (iblk m c 1 t)) (k0_pay10 (iblk m c 17 t)) (k0_pay11 (iblk m c 12 t)) (k0_pay12 (iblk m c 13 t)) (k0_pay16 64#32 k0_pay13 k0_pay14 k0_pay15 0#32) (View.ld (iblk m c 2 t) (Rect.unit ![0, 4096] ![1024, 256] inb_S1024x7680_S1024x256_0_4096)) (iblk m c 5 t)) (k0_pay64 (k0_pay9 (F := Ideal) (iblk m c 0 t) (iblk m c 1 t)) (k0_pay10 (iblk m c 17 t)) (View.ld (iblk m c 2 t) (Rect.unit ![0, 4096] ![1024, 256] inb_S1024x7680_S1024x256_0_4096)) (iblk m c 5 t)) 96#32) (ix2 r e) = sk (XA m c) (GA m c) (WA m c) (KA m c) b (tok j r) ⟨e / 64, by omega⟩ ⟨e % 64, by omega⟩ :=
  keys_at m c t b j ht hG hW _ mask_at _ rfl _ (m10 m c t) _ _ (m11 m c t) (m12 m c t) _ (fun _ => rfl) _ r e

/-- The retention branch of a tile. -/
theorem or_all (S0 S1 S2 S3 : Vec Ideal S1x128x256 .f32)
    (h0 : ∀ d e, S0 (ix3 0 d e) = tiles (lgR (0 : Fin 4).val) (kN m c b 0 d) (vN m c b 0 e) j) (h1 : ∀ d e, S1 (ix3 0 d e) = tiles (lgR (1 : Fin 4).val) (kN m c b 1 d) (vN m c b 1 e) j)
    (h2 : ∀ d e, S2 (ix3 0 d e) = tiles (lgR (2 : Fin 4).val) (kN m c b 2 d) (vN m c b 2 e) j) (h3 : ∀ d e, S3 (ix3 0 d e) = tiles (lgR (3 : Fin 4).val) (kN m c b 3 d) (vN m c b 3 e) j)
    (r : Fin 256) (k : Fin 1024) :
    View.canon (orL
      (k0_pay66 (k0_pay25 (k0_pay9 (F := Ideal) (iblk m c 0 t) (iblk m c 1 t)) (View.ld (iblk m c 2 t) (Rect.unit ![0, 1024] ![1024, 1024] inb_S1024x7680_S1024x1024_0_1024))) (k0_pay27 (k0_pay23 (k0_pay9 (F := Ideal) (iblk m c 0 t) (iblk m c 1 t)) (View.ld (iblk m c 2 t) (Rect.unit ![0, 0] ![1024, 512] inb_S1024x7680_S1024x512_0_0)) (iblk m c 10 t) (iblk m c 11 t)) (k0_pay24 (k0_pay9 (F := Ideal) (iblk m c 0 t) (iblk m c 1 t)) (View.ld (iblk m c 2 t) (Rect.unit ![0, 512] ![1024, 512] inb_S1024x7680_S1024x512_0_512)) (iblk m c 10 t) (iblk m c 11 t))) (k0_pay28 (k0_pay23 (k0_pay9 (F := Ideal) (iblk m c 0 t) (iblk m c 1 t)) (View.ld (iblk m c 2 t) (Rect.unit ![0, 0] ![1024, 512] inb_S1024x7680_S1024x512_0_0)) (iblk m c 10 t) (iblk m c 11 t)) S0 (View.ld (iblk m c 15 t) (Rect.unit ![0, 0, 0] ![1, 256, 128] inb_S4x256x128_S1x256x128_0_0_0))) (k0_pay55 (k0_pay9 (F := Ideal) (iblk m c 0 t) (iblk m c 1 t)) (View.ld (iblk m c 2 t) (Rect.unit ![0, 2048] ![1024, 256] inb_S1024x7680_S1024x256_0_2048))) (View.ld (iblk m c 14 t) (Rect.unit ![0, 0, 0] ![1, 256, 256] inb_S4x256x256_S1x256x256_0_0_0)) (View.ld (iblk m c 3 t) (Rect.unit ![0, 0] ![1, 256] inb_S1x1024_S1x256_0_0)))
      (k0_pay70 (k0_pay32 (k0_pay20 (k0_pay9 (F := Ideal) (iblk m c 0 t) (iblk m c 1 t)) (View.ld (iblk m c 2 t) (Rect.unit ![0, 1024] ![1024, 1024] inb_S1024x7680_S1024x1024_0_1024)))) (k0_pay36 (k0_pay34 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t))) (k0_pay35 (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (constant S256x256 .f32 0x00000000#32)) (k0_pay37 (k0_pay30 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t))) (k0_pay33 S1) (View.ld (iblk m c 15 t) (Rect.unit ![1, 0, 0] ![1, 256, 128] inb_S4x256x128_S1x256x128_1_0_0))) (k0_pay67 (k0_pay9 (F := Ideal) (iblk m c 0 t) (iblk m c 1 t)) (View.ld (iblk m c 2 t) (Rect.unit ![0, 2304] ![1024, 256] inb_S1024x7680_S1024x256_0_2304))) (View.ld (iblk m c 14 t) (Rect.unit ![1, 0, 0] ![1, 256, 256] inb_S4x256x256_S1x256x256_1_0_0)) (View.ld (iblk m c 3 t) (Rect.unit ![0, 256] ![1, 256] inb_S1x1024_S1x256_0_256)))
      (k0_pay74 (k0_pay71 (k0_pay9 (F := Ideal) (iblk m c 0 t) (iblk m c 1 t)) (View.ld (iblk m c 2 t) (Rect.unit ![0, 2560] ![1024, 256] inb_S1024x7680_S1024x256_0_2560))) (k0_pay73 (k0_pay41 (k0_pay20 (k0_pay9 (F := Ideal) (iblk m c 0 t) (iblk m c 1 t)) (View.ld (iblk m c 2 t) (Rect.unit ![0, 1024] ![1024, 1024] inb_S1024x7680_S1024x1024_0_1024)))) (k0_pay43 (k0_pay18 (k0_pay9 (F := Ideal) (iblk m c 0 t) (iblk m c 1 t)) (View.ld (iblk m c 2 t) (Rect.unit ![0, 0] ![1024, 512] inb_S1024x7680_S1024x512_0_0))) (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay44 (k0_pay39 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t))) (k0_pay42 S2) (View.ld (iblk m c 15 t) (Rect.unit ![2, 0, 0] ![1, 256, 128] inb_S4x256x128_S1x256x128_2_0_0))) (View.ld (iblk m c 14 t) (Rect.unit ![2, 0, 0] ![1, 256, 256] inb_S4x256x256_S1x256x256_2_0_0))) (View.ld (iblk m c 3 t) (Rect.unit ![0, 512] ![1, 256] inb_S1x1024_S1x256_0_512)))
      (k0_pay86 (k0_pay75 (k0_pay9 (F := Ideal) (iblk m c 0 t) (iblk m c 1 t)) (View.ld (iblk m c 2 t) (Rect.unit ![0, 2816] ![1024, 256] inb_S1024x7680_S1024x256_0_2816))) (k0_pay82 (k0_pay48 (k0_pay20 (k0_pay9 (F := Ideal) (iblk m c 0 t) (iblk m c 1 t)) (View.ld (iblk m c 2 t) (Rect.unit ![0, 1024] ![1024, 1024] inb_S1024x7680_S1024x1024_0_1024)))) (k0_pay50 (k0_pay18 (k0_pay9 (F := Ideal) (iblk m c 0 t) (iblk m c 1 t)) (View.ld (iblk m c 2 t) (Rect.unit ![0, 0] ![1024, 512] inb_S1024x7680_S1024x512_0_0))) (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay53 (k0_pay51 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t)) (View.ld (iblk m c 15 t) (Rect.unit ![3, 0, 0] ![1, 256, 128] inb_S4x256x128_S1x256x128_3_0_0))) (k0_pay52 S3) (constant S256x256 .f32 0x00000000#32)) (View.ld (iblk m c 14 t) (Rect.unit ![3, 0, 0] ![1, 256, 256] inb_S4x256x256_S1x256x256_3_0_0))) (k0_pay83 (View.ld (iblk m c 3 t) (Rect.unit ![0, 768] ![1, 256] inb_S1x1024_S1x256_0_768))) (k0_pay84 (k0_pay48 (k0_pay20 (k0_pay9 (F := Ideal) (iblk m c 0 t) (iblk m c 1 t)) (View.ld (iblk m c 2 t) (Rect.unit ![0, 1024] ![1024, 1024] inb_S1024x7680_S1024x1024_0_1024)))) (k0_pay50 (k0_pay18 (k0_pay9 (F := Ideal) (iblk m c 0 t) (iblk m c 1 t)) (View.ld (iblk m c 2 t) (Rect.unit ![0, 0] ![1024, 512] inb_S1024x7680_S1024x512_0_0))) (k0_pay19 (k0_pay9 (F := Ideal) (iblk m c 0 t) (iblk m c 1 t)) (View.ld (iblk m c 2 t) (Rect.unit ![0, 512] ![1024, 512] inb_S1024x7680_S1024x512_0_512))) (k0_pay21 (iblk m c 10 t)) (k0_pay22 (iblk m c 11 t))) (k0_pay53 (k0_pay51 (k0_pay18 (k0_pay9 (F := Ideal) (iblk m c 0 t) (iblk m c 1 t)) (View.ld (iblk m c 2 t) (Rect.unit ![0, 0] ![1024, 512] inb_S1024x7680_S1024x512_0_0))) (k0_pay21 (iblk m c 10 t)) (k0_pay22 (iblk m c 11 t)) (View.ld (iblk m c 15 t) (Rect.unit ![3, 0, 0] ![1, 256, 128] inb_S4x256x128_S1x256x128_3_0_0))) (k0_pay52 S3) (constant S256x256 .f32 0x00000000#32)) (View.ld (iblk m c 14 t) (Rect.unit ![3, 0, 0] ![1, 256, 256] inb_S4x256x256_S1x256x256_3_0_0))) (k0_pay85 (F := Ideal)))) (ix2 r k) = rgate (XA m c) (GA m c) (WA m c) (NA m c) b (tok j r) k := by
  refine orL_at _ _ _ _ (fun r k => rgate (XA m c) (GA m c) (WA m c) (NA m c) b (tok j r) k) (fun r e => ?_) (fun r e => ?_) (fun r e => ?_) (fun r e => ?_) r k
  · refine (congrFun (head0 _ _ _ _ _ _ _ _ _ _ _ ) _).trans (rp_at m c t b j ht hG hW 0 _ _ _ _ _ _ _ _ (q0_at m c t b j ht) (k0_at m c t b j ht) (v0_at m c t b j ht) h0 (cr_at m c t b j ht 0 0 rfl _) (dm_at m c t b j ht 0 0 rfl _) (fun r e => (proj_at m c t b j ht 2048 (by omega) _ r e).trans (congrArg (pj _ _ _ b _) (Fin.ext (by simp)))) (rn_at m c t b j ht 0 0 rfl _) r e)
  · refine (congrFun (head1 _ _ _ _ _ _ _ _ _ _ ) _).trans (rp_at m c t b j ht hG hW 1 _ _ _ _ _ _ _ _ (q1_tile m c t b j ht) (k1_tile m c t b j ht) (v1_at m c t b j ht) h1 (cr_at m c t b j ht 1 1 rfl _) (dm_at m c t b j ht 1 1 rfl _) (fun r e => (proj_at m c t b j ht 2304 (by omega) _ r e).trans (congrArg (pj _ _ _ b _) (Fin.ext (by simp)))) (rn_at m c t b j ht 256 1 rfl _) r e)
  · refine (congrFun (head2 _ _ _ _ _ _ _ _ _ _ ) _).trans (rp_at m c t b j ht hG hW 2 _ _ _ _ _ _ _ _ (q2_tile m c t b j ht) (k2_tile m c t b j ht) (v2_at m c t b j ht) h2 (cr_at m c t b j ht 2 2 rfl _) (dm_at m c t b j ht 2 2 rfl _) (fun r e => (proj_at m c t b j ht 2560 (by omega) _ r e).trans (congrArg (pj _ _ _ b _) (Fin.ext (by simp)))) (rn_at m c t b j ht 512 2 rfl _) r e)
  · refine (congrFun (head3 _ _ _ _ _ _ _ _ _ _ ) _).trans (rp_at m c t b j ht hG hW 3 _ _ _ _ _ _ _ _ (q3_tile m c t b j ht) (k3_tile m c t b j ht) (v3_at m c t b j ht) h3 (cr_at m c t b j ht 3 3 rfl _) (dm_at m c t b j ht 3 3 rfl _) (fun r e => (proj_at m c t b j ht 2816 (by omega) _ r e).trans (congrArg (pj _ _ _ b _) (Fin.ext (by simp)))) (rn_at m c t b j ht 768 3 rfl _) r e)

variable (hgq : ∀ i, IsR (QA m c i)) (hgk : ∀ i, IsR (KA m c i)) (hS : ∀ i, IsR (SA m c i))
include hgq hgk hS

/-- The window branch of a tile. -/
theorem os_all (PK PV : Vec Ideal S128x256 .f32)
    (hPK : ∀ (r : Fin 128) (e : Fin 256), PK (ix2 r e) = if j.val = 0 then 0 else sk (XA m c) (GA m c) (WA m c) (KA m c) b ⟨256 * (j - 1) + 128 + r, by omega⟩ ⟨e / 64, by omega⟩ ⟨e % 64, by omega⟩)
    (hPV : ∀ (r : Fin 128) (e : Fin 256), PV (ix2 r e) = if j.val = 0 then 0 else pj (XA m c) (GA m c) (WA m c) b ⟨256 * (j - 1) + 128 + r, by omega⟩ ⟨4352 + e, by omega⟩)
    (r : Fin 256) (k : Fin 1024) :
    View.canon (osL (k0_pay17 (iota Kind.tc S1x128 32 [1] iota_S1x128_d1_w32)) (k0_pay87 (BitVec.ofNat 32 (grid0.coords t 1).val)) k0_pay88
      (k0_pay61 (k0_pay11 (iblk m c 12 t)) (k0_pay12 (iblk m c 13 t)) (k0_pay16 64#32 k0_pay13 k0_pay14 k0_pay15 0#32) (k0_pay56 (k0_pay9 (F := Ideal) (iblk m c 0 t) (iblk m c 1 t)) (k0_pay10 (iblk m c 17 t)) (View.ld (iblk m c 2 t) (Rect.unit ![0, 3072] ![1024, 256] inb_S1024x7680_S1024x256_0_3072)) (iblk m c 4 t)) (k0_pay57 (k0_pay9 (F := Ideal) (iblk m c 0 t) (iblk m c 1 t)) (k0_pay10 (iblk m c 17 t)) (View.ld (iblk m c 2 t) (Rect.unit ![0, 3072] ![1024, 256] inb_S1024x7680_S1024x256_0_3072)) (iblk m c 4 t)) (k0_pay58 (k0_pay9 (F := Ideal) (iblk m c 0 t) (iblk m c 1 t)) (k0_pay10 (iblk m c 17 t)) (View.ld (iblk m c 2 t) (Rect.unit ![0, 3072] ![1024, 256] inb_S1024x7680_S1024x256_0_3072)) (iblk m c 4 t)) (k0_pay59 (k0_pay9 (F := Ideal) (iblk m c 0 t) (iblk m c 1 t)) (k0_pay10 (iblk m c 17 t)) (View.ld (iblk m c 2 t) (Rect.unit ![0, 3072] ![1024, 256] inb_S1024x7680_S1024x256_0_3072)) (iblk m c 4 t)) (k0_pay60 (k0_pay16 64#32 k0_pay13 k0_pay14 k0_pay15 0#32)))
      (k0_pay68 (k0_pay9 (F := Ideal) (iblk m c 0 t) (iblk m c 1 t)) (k0_pay10 (iblk m c 17 t)) (k0_pay11 (iblk m c 12 t)) (k0_pay12 (iblk m c 13 t)) (k0_pay16 64#32 k0_pay13 k0_pay14 k0_pay15 0#32) (View.ld (iblk m c 2 t) (Rect.unit ![0, 3328] ![1024, 256] inb_S1024x7680_S1024x256_0_3328)) (iblk m c 4 t))
      (k0_pay72 (k0_pay9 (F := Ideal) (iblk m c 0 t) (iblk m c 1 t)) (k0_pay10 (iblk m c 17 t)) (k0_pay11 (iblk m c 12 t)) (k0_pay12 (iblk m c 13 t)) (k0_pay16 64#32 k0_pay13 k0_pay14 k0_pay15 0#32) (View.ld (iblk m c 2 t) (Rect.unit ![0, 3584] ![1024, 256] inb_S1024x7680_S1024x256_0_3584)) (iblk m c 4 t))
      (k0_pay81 (k0_pay10 (iblk m c 17 t)) (k0_pay11 (iblk m c 12 t)) (k0_pay12 (iblk m c 13 t)) (k0_pay16 64#32 k0_pay13 k0_pay14 k0_pay15 0#32) (k0_pay76 (k0_pay9 (F := Ideal) (iblk m c 0 t) (iblk m c 1 t)) (View.ld (iblk m c 2 t) (Rect.unit ![0, 3840] ![1024, 256] inb_S1024x7680_S1024x256_0_3840))) (k0_pay77 (iblk m c 4 t)) (k0_pay79 (k0_pay9 (F := Ideal) (iblk m c 0 t) (iblk m c 1 t)) (View.ld (iblk m c 2 t) (Rect.unit ![0, 3840] ![1024, 256] inb_S1024x7680_S1024x256_0_3840))) (k0_pay80 (k0_pay9 (F := Ideal) (iblk m c 0 t) (iblk m c 1 t)) (View.ld (iblk m c 2 t) (Rect.unit ![0, 3840] ![1024, 256] inb_S1024x7680_S1024x256_0_3840))) (constant S256x256 .f32 0x00000000#32))
      (k0_pay99 (k0_pay9 (F := Ideal) (iblk m c 0 t) (iblk m c 1 t)) (View.ld (iblk m c 2 t) (Rect.unit ![0, 4608] ![1024, 256] inb_S1024x7680_S1024x256_0_4608))) (k0_pay141 (k0_pay9 (F := Ideal) (iblk m c 0 t) (iblk m c 1 t)) (View.ld (iblk m c 2 t) (Rect.unit ![0, 4864] ![1024, 256] inb_S1024x7680_S1024x256_0_4864))) (k0_pay188 (k0_pay9 (F := Ideal) (iblk m c 0 t) (iblk m c 1 t)) (View.ld (iblk m c 2 t) (Rect.unit ![0, 5120] ![1024, 256] inb_S1024x7680_S1024x256_0_5120))) (k0_pay240 (k0_pay9 (F := Ideal) (iblk m c 0 t) (iblk m c 1 t)) (View.ld (iblk m c 2 t) (Rect.unit ![0, 5376] ![1024, 256] inb_S1024x7680_S1024x256_0_5376)))
      (k0_pay65 (k0_pay11 (iblk m c 12 t)) (k0_pay12 (iblk m c 13 t)) (k0_pay16 64#32 k0_pay13 k0_pay14 k0_pay15 0#32) (k0_pay63 (k0_pay9 (F := Ideal) (iblk m c 0 t) (iblk m c 1 t)) (k0_pay10 (iblk m c 17 t)) (k0_pay11 (iblk m c 12 t)) (k0_pay12 (iblk m c 13 t)) (k0_pay16 64#32 k0_pay13 k0_pay14 k0_pay15 0#32) (View.ld (iblk m c 2 t) (Rect.unit ![0, 4096] ![1024, 256] inb_S1024x7680_S1024x256_0_4096)) (iblk m c 5 t)) (k0_pay64 (k0_pay9 (F := Ideal) (iblk m c 0 t) (iblk m c 1 t)) (k0_pay10 (iblk m c 17 t)) (View.ld (iblk m c 2 t) (Rect.unit ![0, 4096] ![1024, 256] inb_S1024x7680_S1024x256_0_4096)) (iblk m c 5 t)) 96#32)
      (k0_pay69 (k0_pay9 (F := Ideal) (iblk m c 0 t) (iblk m c 1 t)) (View.ld (iblk m c 2 t) (Rect.unit ![0, 4352] ![1024, 256] inb_S1024x7680_S1024x256_0_4352))) PK PV
      (View.ld (iblk m c 6 t) (Rect.unit ![0] ![1] inb_S16_S1_0) (Shape.Idx.first (Nat.lt_of_lt_of_eq Nat.zero_lt_one numel1_S1.symm))) (View.ld (iblk m c 6 t) (Rect.unit ![1] ![1] inb_S16_S1_1) (Shape.Idx.first (Nat.lt_of_lt_of_eq Nat.zero_lt_one numel1_S1.symm))) (View.ld (iblk m c 6 t) (Rect.unit ![2] ![1] inb_S16_S1_2) (Shape.Idx.first (Nat.lt_of_lt_of_eq Nat.zero_lt_one numel1_S1.symm))) (View.ld (iblk m c 6 t) (Rect.unit ![3] ![1] inb_S16_S1_3) (Shape.Idx.first (Nat.lt_of_lt_of_eq Nat.zero_lt_one numel1_S1.symm))) (View.ld (iblk m c 6 t) (Rect.unit ![4] ![1] inb_S16_S1_4) (Shape.Idx.first (Nat.lt_of_lt_of_eq Nat.zero_lt_one numel1_S1.symm))) (View.ld (iblk m c 6 t) (Rect.unit ![5] ![1] inb_S16_S1_5) (Shape.Idx.first (Nat.lt_of_lt_of_eq Nat.zero_lt_one numel1_S1.symm))) (View.ld (iblk m c 6 t) (Rect.unit ![6] ![1] inb_S16_S1_6) (Shape.Idx.first (Nat.lt_of_lt_of_eq Nat.zero_lt_one numel1_S1.symm))) (View.ld (iblk m c 6 t) (Rect.unit ![7] ![1] inb_S16_S1_7) (Shape.Idx.first (Nat.lt_of_lt_of_eq Nat.zero_lt_one numel1_S1.symm))) (View.ld (iblk m c 6 t) (Rect.unit ![8] ![1] inb_S16_S1_8) (Shape.Idx.first (Nat.lt_of_lt_of_eq Nat.zero_lt_one numel1_S1.symm))) (View.ld (iblk m c 6 t) (Rect.unit ![9] ![1] inb_S16_S1_9) (Shape.Idx.first (Nat.lt_of_lt_of_eq Nat.zero_lt_one numel1_S1.symm))) (View.ld (iblk m c 6 t) (Rect.unit ![10] ![1] inb_S16_S1_10) (Shape.Idx.first (Nat.lt_of_lt_of_eq Nat.zero_lt_one numel1_S1.symm))) (View.ld (iblk m c 6 t) (Rect.unit ![11] ![1] inb_S16_S1_11) (Shape.Idx.first (Nat.lt_of_lt_of_eq Nat.zero_lt_one numel1_S1.symm))) (View.ld (iblk m c 6 t) (Rect.unit ![12] ![1] inb_S16_S1_12) (Shape.Idx.first (Nat.lt_of_lt_of_eq Nat.zero_lt_one numel1_S1.symm))) (View.ld (iblk m c 6 t) (Rect.unit ![13] ![1] inb_S16_S1_13) (Shape.Idx.first (Nat.lt_of_lt_of_eq Nat.zero_lt_one numel1_S1.symm))) (View.ld (iblk m c 6 t) (Rect.unit ![14] ![1] inb_S16_S1_14) (Shape.Idx.first (Nat.lt_of_lt_of_eq Nat.zero_lt_one numel1_S1.symm))) (View.ld (iblk m c 6 t) (Rect.unit ![15] ![1] inb_S16_S1_15) (Shape.Idx.first (Nat.lt_of_lt_of_eq Nat.zero_lt_one numel1_S1.symm)))) (ix2 r k) = sgate (XA m c) (GA m c) (WA m c) (QA m c) (KA m c) (SA m c) b (tok j r) k := by
  have hj : (grid0.coords t 1).val = j.val := by
    rw [Pipeline.Grid.coords_val (G := grid0) t 1 (S := 1) (B := 16) rfl rfl]
    omega
  rw [hj, q0_eq, q1_eq, q2_eq, q3_eq]
  exact osL_at (XA m c) (GA m c) (WA m c) (QA m c) (KA m c) (SA m c) b hG hW hgq hgk hS j _ _ _ _ _ _ _ _ _ _ _ _ _ PK PV _ _ _ _ _ _ _ _ _ _ _ _ _ _ _ _
    low_at (first_at j) (second_at j)
    (fun r e => q_at m c t b j ht hG hW _ mask_at _ rfl _ (m10 m c t) _ _ (m11 m c t) (m12 m c t) _ (fun _ => rfl) 0 3072 rfl _ r e)
    (fun r e => proj_at m c t b j ht 4608 (by omega) _ r e)
    (fun r e => q_at m c t b j ht hG hW _ mask_at _ rfl _ (m10 m c t) _ _ (m11 m c t) (m12 m c t) _ (fun _ => rfl) 1 3328 rfl _ r e)
    (fun r e => proj_at m c t b j ht 4864 (by omega) _ r e)
    (fun r e => q_at m c t b j ht hG hW _ mask_at _ rfl _ (m10 m c t) _ _ (m11 m c t) (m12 m c t) _ (fun _ => rfl) 2 3584 rfl _ r e)
    (fun r e => proj_at m c t b j ht 5120 (by omega) _ r e)
    (fun r e => q_at m c t b j ht hG hW _ mask_at _ rfl _ (m10 m c t) _ _ (m11 m c t) (m12 m c t) _ (fun _ => rfl) 3 3840 rfl _ r e)
    (fun r e => proj_at m c t b j ht 5376 (by omega) _ r e)
    (key_at m c t b j ht hG hW) (fun r e => proj_at m c t b j ht 4352 (by omega) _ r e) hPK hPV
    (snk m c t 0 _) (snk m c t 1 _) (snk m c t 2 _) (snk m c t 3 _) (snk m c t 4 _) (snk m c t 5 _) (snk m c t 6 _) (snk m c t 7 _) (snk m c t 8 _) (snk m c t 9 _) (snk m c t 10 _) (snk m c t 11 _) (snk m c t 12 _) (snk m c t 13 _) (snk m c t 14 _) (snk m c t 15 _) r k
end tile
end Cert.KernelIdeal.Row

end

end
-- ==== Proof.Yout.lean ====
/-
  The output row that every tile computes, and the output array.
-/
module

public import proofs.«01_k».proof.Proof.Tile

@[expose] public section

set_option maxRecDepth 16384
noncomputable section
open Idealize.ShloMosaic Idealize.ShloMosaic.TcCoe Idealize.SL.Sem
namespace Cert.KernelIdeal.Row
open Cert.KernelIdeal Cert.KernelIdeal.Gen Cert.KernelIdeal.Value Cert.Spec Cert.KernelIdeal.Blk Cert.KernelIdeal.Host Cert.KernelIdeal.Pay Cert.KernelIdeal.NormRope Cert.KernelIdeal.Heads Cert.KernelIdeal.Mix Cert.KernelIdeal.Att Cert.KernelIdeal.Keys Cert.KernelIdeal.Queries Cert.KernelIdeal.State Cert.KernelIdeal.Fold
variable (m : (ℓ : Loc nD τ sig) → Buf (Elt Ideal) ℓ)

section
variable (c : Dev nD) (hG : ∀ i, IsR (GA m c i)) (hW : ∀ i, IsR (WA m c i))

/-- The keys that a tile leaves to the next. -/
theorem pk_at (hG : ∀ i, IsR (GA m c i)) (hW : ∀ i, IsR (WA m c i)) (t : Fin cfg0.N) (b : Fin 4) (j : Fin 16) (ht : t.val = 16 * b.val + j.val) (r : Fin 128) (e : Fin 256) :
    (outsAt0 m c t.val t.isLt).2.2.2.2.2.1 (ix2 r e) = sk (XA m c) (GA m c) (WA m c) (KA m c) b (tok j ⟨128 + r, by omega⟩) ⟨e / 64, by omega⟩ ⟨e % 64, by omega⟩ := by
  have e1 : ∀ (v : FVec Ideal S256x256 .f32), k0_pay279 v (ix2 r e) = v (ix2 ⟨128 + r, by omega⟩ e) := by
    intro v
    pointwise [k0_pay279]
  by_cases h0 : t.val % 16 = 0
  · have h1 : ¬ t.val % 16 = 15 := by omega
    rw [outsAt0_A m c t h0 h1]
    frame_out
    clear h0 h1
    exact (e1 _).trans (key_at m c t b j ht hG hW _ e)
  · by_cases h1 : t.val % 16 = 15
    · rw [outsAt0_C m c t h0 h1]
      frame_out
      clear h0 h1
      exact (e1 _).trans (key_at m c t b j ht hG hW _ e)
    · rw [outsAt0_B m c t h0 h1]
      frame_out
      clear h0 h1
      exact (e1 _).trans (key_at m c t b j ht hG hW _ e)

/-- The values that a tile leaves to the next. -/
theorem pv_at (t : Fin cfg0.N) (b : Fin 4) (j : Fin 16) (ht : t.val = 16 * b.val + j.val) (r : Fin 128) (e : Fin 256) :
    (outsAt0 m c t.val t.isLt).2.2.2.2.2.2 (ix2 r e) = pj (XA m c) (GA m c) (WA m c) b (tok j ⟨128 + r, by omega⟩) ⟨4352 + e, by omega⟩ := by
  have e1 : ∀ (v : FVec Ideal S256x256 .f32), k0_pay280 v (ix2 r e) = v (ix2 ⟨128 + r, by omega⟩ e) := by
    intro v
    pointwise [k0_pay280]
  by_cases h0 : t.val % 16 = 0
  · have h1 : ¬ t.val % 16 = 15 := by omega
    rw [outsAt0_A m c t h0 h1]
    frame_out
    clear h0 h1
    exact (e1 _).trans (proj_at m c t b j ht 4352 (by omega) _ _ e)
  · by_cases h1 : t.val % 16 = 15
    · rw [outsAt0_C m c t h0 h1]
      frame_out
      clear h0 h1
      exact (e1 _).trans (proj_at m c t b j ht 4352 (by omega) _ _ e)
    · rw [outsAt0_B m c t h0 h1]
      frame_out
      clear h0 h1
      exact (e1 _).trans (proj_at m c t b j ht 4352 (by omega) _ _ e)
end

theorem s_prev (c : Dev nD) (t : Fin cfg0.N) (b : Fin 4) (j : Fin 16) (ht : t.val = 16 * b.val + j.val) (hj : j.val ≠ 0) (h : Fin 4) (d : Fin 128) (e : Fin 256) :
    (outsAt0 m c (t.val - 1) (by omega)).2.2.2.2.1 (ix3 h d e) = tiles (lgR h.val) (kN m c b h d) (vN m c b h e) j := by
  have hp := s_fold m c b h d e (j.val - 1) (by omega) ⟨t.val - 1, by omega⟩ (by dsimp only; omega)
  rw [Nat.sub_add_cancel (by omega)] at hp
  exact hp

theorem st0 (c : Dev nD) (t : Fin cfg0.N) (b : Fin 4) (j : Fin 16) (ht : t.val = 16 * b.val + j.val) (hj : j.val ≠ 0) (d : Fin 128) (e : Fin 256) :
    View.ld (Val := Elt Ideal) (outsAt0 m c (t.val - 1) (by omega)).2.2.2.2.1 (Rect.unit ![0, 0, 0] ![1, 128, 256] inb_S4x128x256_S1x128x256_0_0_0) (ix3 0 d e) = tiles (lgR (0 : Fin 4).val) (kN m c b 0 d) (vN m c b 0 e) j := by
  refine Eq.trans ?_ (s_prev m c t b j ht hj 0 d e)
  generalize (outsAt0 m c (t.val - 1) _).2.2.2.2.1 = P
  pointwise

theorem st1 (c : Dev nD) (t : Fin cfg0.N) (b : Fin 4) (j : Fin 16) (ht : t.val = 16 * b.val + j.val) (hj : j.val ≠ 0) (d : Fin 128) (e : Fin 256) :
    View.ld (Val := Elt Ideal) (outsAt0 m c (t.val - 1) (by omega)).2.2.2.2.1 (Rect.unit ![1, 0, 0] ![1, 128, 256] inb_S4x128x256_S1x128x256_1_0_0) (ix3 0 d e) = tiles (lgR (1 : Fin 4).val) (kN m c b 1 d) (vN m c b 1 e) j := by
  refine Eq.trans ?_ (s_prev m c t b j ht hj 1 d e)
  generalize (outsAt0 m c (t.val - 1) _).2.2.2.2.1 = P
  pointwise

theorem st2 (c : Dev nD) (t : Fin cfg0.N) (b : Fin 4) (j : Fin 16) (ht : t.val = 16 * b.val + j.val) (hj : j.val ≠ 0) (d : Fin 128) (e : Fin 256) :
    View.ld (Val := Elt Ideal) (outsAt0 m c (t.val - 1) (by omega)).2.2.2.2.1 (Rect.unit ![2, 0, 0] ![1, 128, 256] inb_S4x128x256_S1x128x256_2_0_0) (ix3 0 d e) = tiles (lgR (2 : Fin 4).val) (kN m c b 2 d) (vN m c b 2 e) j := by
  refine Eq.trans ?_ (s_prev m c t b j ht hj 2 d e)
  generalize (outsAt0 m c (t.val - 1) _).2.2.2.2.1 = P
  pointwise

theorem st3 (c : Dev nD) (t : Fin cfg0.N) (b : Fin 4) (j : Fin 16) (ht : t.val = 16 * b.val + j.val) (hj : j.val ≠ 0) (d : Fin 128) (e : Fin 256) :
    View.ld (Val := Elt Ideal) (outsAt0 m c (t.val - 1) (by omega)).2.2.2.2.1 (Rect.unit ![3, 0, 0] ![1, 128, 256] inb_S4x128x256_S1x128x256_3_0_0) (ix3 0 d e) = tiles (lgR (3 : Fin 4).val) (kN m c b 3 d) (vN m c b 3 e) j := by
  refine Eq.trans ?_ (s_prev m c t b j ht hj 3 d e)
  generalize (outsAt0 m c (t.val - 1) _).2.2.2.2.1 = P
  pointwise

theorem pk_prev (c : Dev nD) (hG : ∀ i, IsR (GA m c i)) (hW : ∀ i, IsR (WA m c i)) (t : Fin cfg0.N) (b : Fin 4) (j : Fin 16) (ht : t.val = 16 * b.val + j.val) (hj : j.val ≠ 0) (r : Fin 128) (e : Fin 256) :
    (outsAt0 m c (t.val - 1) (by omega)).2.2.2.2.2.1 (ix2 r e) = if j.val = 0 then 0 else sk (XA m c) (GA m c) (WA m c) (KA m c) b ⟨256 * (j - 1) + 128 + r, by omega⟩ ⟨e / 64, by omega⟩ ⟨e % 64, by omega⟩ := by
  rw [if_neg hj]
  refine (pk_at m c hG hW ⟨t.val - 1, by omega⟩ b ⟨j.val - 1, by omega⟩ (by dsimp only; omega) r e).trans ?_
  congr 1
  exact Fin.ext (by show 256 * (j.val - 1) + (128 + r.val) = _; dsimp only; omega)

theorem pv_prev (c : Dev nD) (t : Fin cfg0.N) (b : Fin 4) (j : Fin 16) (ht : t.val = 16 * b.val + j.val) (hj : j.val ≠ 0) (r : Fin 128) (e : Fin 256) :
    (outsAt0 m c (t.val - 1) (by omega)).2.2.2.2.2.2 (ix2 r e) = if j.val = 0 then 0 else pj (XA m c) (GA m c) (WA m c) b ⟨256 * (j - 1) + 128 + r, by omega⟩ ⟨4352 + e, by omega⟩ := by
  rw [if_neg hj]
  refine (pv_at m c ⟨t.val - 1, by omega⟩ b ⟨j.val - 1, by omega⟩ (by dsimp only; omega) r e).trans ?_
  congr 1
  exact Fin.ext (by show 256 * (j.val - 1) + (128 + r.val) = _; dsimp only; omega)

section row
variable (c : Dev nD) (hG : ∀ i, IsR (GA m c i)) (hW : ∀ i, IsR (WA m c i)) (hgq : ∀ i, IsR (QA m c i)) (hgk : ∀ i, IsR (KA m c i)) (hS : ∀ i, IsR (SA m c i))
  (t : Fin cfg0.N) (b : Fin 4) (j : Fin 16) (ht : t.val = 16 * b.val + j.val)
include hG hW hgq hgk hS ht

set_option maxHeartbeats 8000000 in
theorem row_mid (hj : j.val ≠ 0) (h0 : ¬ t.val % 16 = 0) (h1 : ¬ t.val % 16 = 15) (r : Fin 256) (n : Fin 1024) :
    (outsAt0 m c t.val t.isLt).1 (ix3 0 r n) = yE (XA m c) (GA m c) (WA m c) (QA m c) (KA m c) (SA m c) b (NA m c) (BR m c) (BS m c) (BO m c) (tok j r) n := by
  rw [outsAt0_B m c t h0 h1]
  frame_out
  clear h0 h1
  simp only [read_unread_whole]
  exact y_fin m c t b j ht _ _ (fun r k => (or_read _ _ _ _ r k).trans (or_all m c t b j ht hG hW _ _ _ _ (st0 m c t b j ht hj) (st1 m c t b j ht hj) (st2 m c t b j ht hj) (st3 m c t b j ht hj) r k))
    (fun r k => (os_read _ _ _ _ _ _ _ _ _ _ _ _ _ _ _ _ _ _ _ _ _ _ _ _ _ _ _ _ _ _ _ r k).trans (os_all m c t b j ht hG hW hgq hgk hS _ _ (pk_prev m c hG hW t b j ht hj) (pv_prev m c t b j ht hj) r k)) r n

set_option maxHeartbeats 8000000 in
theorem row_last (hj : j.val ≠ 0) (h0 : ¬ t.val % 16 = 0) (h1 : t.val % 16 = 15) (r : Fin 256) (n : Fin 1024) :
    (outsAt0 m c t.val t.isLt).1 (ix3 0 r n) = yE (XA m c) (GA m c) (WA m c) (QA m c) (KA m c) (SA m c) b (NA m c) (BR m c) (BS m c) (BO m c) (tok j r) n := by
  rw [outsAt0_C m c t h0 h1]
  frame_out
  clear h0 h1
  simp only [read_unread_whole]
  exact y_fin m c t b j ht _ _ (fun r k => (or_read _ _ _ _ r k).trans (or_all m c t b j ht hG hW _ _ _ _ (st0 m c t b j ht hj) (st1 m c t b j ht hj) (st2 m c t b j ht hj) (st3 m c t b j ht hj) r k))
    (fun r k => (os_read _ _ _ _ _ _ _ _ _ _ _ _ _ _ _ _ _ _ _ _ _ _ _ _ _ _ _ _ _ _ _ r k).trans (os_all m c t b j ht hG hW hgq hgk hS _ _ (pk_prev m c hG hW t b j ht hj) (pv_prev m c t b j ht hj) r k)) r n

set_option maxHeartbeats 8000000 in
theorem row_first (hj : j.val = 0) (h0 : t.val % 16 = 0) (h1 : ¬ t.val % 16 = 15) (r : Fin 256) (n : Fin 1024) :
    (outsAt0 m c t.val t.isLt).1 (ix3 0 r n) = yE (XA m c) (GA m c) (WA m c) (QA m c) (KA m c) (SA m c) b (NA m c) (BR m c) (BS m c) (BO m c) (tok j r) n := by
  rw [outsAt0_A m c t h0 h1]
  frame_out
  clear h0 h1
  refine y_fin m c t b j ht _ _ (fun r k => (or_read _ _ _ _ r k).trans (or_all m c t b j ht hG hW _ _ _ _ ?_ ?_ ?_ ?_ r k))
    (fun r k => (os_read _ _ _ _ _ _ _ _ _ _ _ _ _ _ _ _ _ _ _ _ _ _ _ _ _ _ _ _ _ _ _ r k).trans (os_all m c t b j ht hG hW hgq hgk hS _ _ ?_ ?_ r k)) r n
  · intro d e
    simp (config := { decide := true }) only [↓ View.readCov_skip, ↓ View.readCov_fill]
    rw [hj, tiles_zero]
    pointwise [k0_pay5]
  · intro d e
    simp (config := { decide := true }) only [↓ View.readCov_skip, ↓ View.readCov_fill]
    rw [hj, tiles_zero]
    pointwise [k0_pay5]
  · intro d e
    simp (config := { decide := true }) only [↓ View.readCov_skip, ↓ View.readCov_fill]
    rw [hj, tiles_zero]
    pointwise [k0_pay5]
  · intro d e
    simp (config := { decide := true }) only [↓ View.readCov_skip, ↓ View.readCov_fill]
    rw [hj, tiles_zero]
    pointwise [k0_pay5]
  · intro r e
    rw [if_pos hj]
    pointwise [k0_pay6]
  · intro r e
    rw [if_pos hj]
    pointwise [k0_pay7]

/-- Every tile's output row. -/
theorem row_at (r : Fin 256) (n : Fin 1024) : (outsAt0 m c t.val t.isLt).1 (ix3 0 r n) = yE (XA m c) (GA m c) (WA m c) (QA m c) (KA m c) (SA m c) b (NA m c) (BR m c) (BS m c) (BO m c) (tok j r) n := by
  by_cases hj : j.val = 0
  · exact row_first m c hG hW hgq hgk hS t b j ht hj (by omega) (by omega) r n
  · by_cases h1 : t.val % 16 = 15
    · exact row_last m c hG hW hgq hgk hS t b j ht hj (by omega) h1 r n
    · exact row_mid m c hG hW hgq hgk hS t b j ht hj (by omega) h1 r n
end row

/-- The output array. -/
theorem G18_at (c : Dev nD) (hG : ∀ i, IsR (GA m c i)) (hW : ∀ i, IsR (WA m c i)) (hgq : ∀ i, IsR (QA m c i)) (hgk : ∀ i, IsR (KA m c i)) (hS : ∀ i, IsR (SA m c i))
    (b : Fin 4) (s : Fin 4096) (n : Fin 1024) :
    G18 m c (ix3 b s n) = yE (XA m c) (GA m c) (WA m c) (QA m c) (KA m c) (SA m c) b (NA m c) (BR m c) (BS m c) (BO m c) s n := by
  have hp : pt18Of (ix3 b s n) = 16 * b.val + s.val / 256 := by
    show 16 * (b.val / 1 - 0) + 1 * (s.val / 256 - 0) + 1 * (n.val / 1024 - 0) = _
    omega
  have hlt : pt18Of (ix3 b s n) < cfg0.N := by rw [hp, show cfg0.N = 64 from N_0]; omega
  have hl : loc18Of (ix3 b s n) = ix3 0 ⟨s.val % 256, by omega⟩ n := by
    funext a
    fin_cases a
    · exact Subsingleton.elim (α := Fin 1) _ _
    · rfl
    · exact Fin.ext (Nat.mod_eq_of_lt n.isLt)
  unfold G18
  rw [dif_pos hlt, ← outsAt0_sweep m c _ hlt, hl, row_at m c hG hW hgq hgk hS ⟨_, hlt⟩ b ⟨s.val / 256, by omega⟩ hp]
  congr 1
  exact Fin.ext (by show 256 * (s.val / 256) + s.val % 256 = _; omega)
end Cert.KernelIdeal.Row

end

end
-- ==== Proof.Pre.lean ====
/-
  What the precondition says: no entry of the first norm's gain, of the projection's weights, of the attention's two gains
  or of its sinks is infinite.
-/
module

public import proofs.«01_k».proof.Pre_finite
public import proofs.«01_k».proof.Proof.Finite
public import Idealize.ShloMosaic.Lib.ReduceAll
public import Idealize.ShloMosaic.Lib.Pointwise

@[expose] public section

noncomputable section
open Idealize.ShloMosaic
namespace Cert.Pre_finite

theorem facts : Facts where
  bcast_S_S1x1024 := by decide
  reducesTo_S1x1024_S_d0_1 := by decide
  h_S_ := by decide
  bcast_S_S1x1024x7680 := by decide
  reducesTo_S1x1024x7680_S_d0_1_2 := by decide
  bcast_S_S1x64 := by decide
  reducesTo_S1x64_S_d0_1 := by decide
  bcast_S_S1x16 := by decide
  reducesTo_S1x16_S_d0_1 := by decide

/-- A number whose absolute value is below the infinity is real. -/
theorem real_of_abs (x : EReal) (h : Ideal.cmp .olt (max x (-x)) (Ideal.ofBits .f32 0x7F800000#32) = 1#1) : Cert.Spec.IsR x := by
  have hi : Ideal.ofBits .f32 0x7F800000#32 = (⊤ : EReal) := by simp [Ideal.ofBits, Ideal.ieee]
  rw [hi] at h
  induction x with
  | bot => exact absurd h (by simp [Ideal.cmp])
  | top => exact absurd h (by simp [Ideal.cmp])
  | coe r => exact ⟨r, rfl⟩

variable [Facts]

theorem reals (a0 : FVec Ideal S4x4096x1024 .f32) (a1 : FVec Ideal S1x1024 .f32) (a2 : FVec Ideal S1x1024x7680 .f32) (a3 : FVec Ideal S1x4x256 .f32)
    (a4 a5 : FVec Ideal S1x64 .f32) (a6 : FVec Ideal S1x16 .f32) (a7 a8 a9 : FVec Ideal S1x1024x1024 .f32)
    (h : fn (F := Ideal) a0 a1 a2 a3 a4 a5 a6 a7 a8 a9 = fun _ => 1#1) :
    (∀ i, Cert.Spec.IsR (a1 i)) ∧ (∀ i, Cert.Spec.IsR (a2 i)) ∧ (∀ i, Cert.Spec.IsR (a4 i)) ∧ (∀ i, Cert.Spec.IsR (a5 i)) ∧ ∀ i, Cert.Spec.IsR (a6 i) := by
  have h0 := congrFun h ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h1, h2⟩ := IntOp.andi_eq_one.1 h0
  haveI : Subsingleton S_.Idx := ⟨fun a b => funext fun i => i.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h4 i), fun i => real_of_abs _ (Host.reduce_andi_all _ _ _ _ _ h5 i),
    fun i => real_of_abs _ (Host.reduce_andi_all _ _ _ _ _ h6 i)⟩

end Cert.Pre_finite

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import proofs.«01_k».proof.Proof.Ref2
public import proofs.«01_k».proof.Proof.Fold
public import proofs.«01_k».proof.Proof.Keys
public import proofs.«01_k».proof.Proof.Yout
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-- The reference's state is what the kernel's state array holds after its run. -/
theorem state_eq (m : (ℓ : Loc Cert.KernelIdeal.nD Cert.KernelIdeal.τ Cert.KernelIdeal.sig) → Buf (Elt Ideal) ℓ) (c : Dev Cert.KernelIdeal.nD) :
    Cert.ReferenceIdeal.Read.val_main_v149 (F := Ideal) (Cert.KernelIdeal.Pay.XA m c) (Cert.KernelIdeal.Pay.GA m c) (Cert.KernelIdeal.Pay.WA m c)
      = Cert.KernelIdeal.Value.G19 m c := by
  funext i
  idx_vars i
  exact (Cert.ReferenceIdeal.Ref.s_at _ _ _ _ _ _ _).trans (Cert.KernelIdeal.Fold.G19_at m c _ _ _ _).symm

/-- The reference's value rows are what the kernel's array of them holds after its run. -/
theorem rows_eq (m : (ℓ : Loc Cert.KernelIdeal.nD Cert.KernelIdeal.τ Cert.KernelIdeal.sig) → Buf (Elt Ideal) ℓ) (c : Dev Cert.KernelIdeal.nD) :
    Cert.ReferenceIdeal.Read.val_main_v275 (F := Ideal) (Cert.KernelIdeal.Pay.XA m c) (Cert.KernelIdeal.Pay.GA m c) (Cert.KernelIdeal.Pay.WA m c)
      = Cert.KernelIdeal.Value.G21 m c := by
  funext i
  idx_vars i
  exact (Cert.ReferenceIdeal.Ref.v_at _ _ _ _ _ _).trans (Cert.KernelIdeal.Fold.G21_at m c _ _ _).symm

/-- The reference's key rows are what the kernel's array of them holds after its run, the gain and the weights being real. -/
theorem keys_eq (m : (ℓ : Loc Cert.KernelIdeal.nD Cert.KernelIdeal.τ Cert.KernelIdeal.sig) → Buf (Elt Ideal) ℓ) (c : Dev Cert.KernelIdeal.nD)
    (hG : ∀ i, Cert.Spec.IsR (Cert.KernelIdeal.Pay.GA m c i)) (hW : ∀ i, Cert.Spec.IsR (Cert.KernelIdeal.Pay.WA m c i)) :
    Cert.ReferenceIdeal.Read.val_main_v274 (F := Ideal) (Cert.KernelIdeal.Pay.XA m c) (Cert.KernelIdeal.Pay.GA m c) (Cert.KernelIdeal.Pay.WA m c) (Cert.KernelIdeal.Keys.KA m c)
      = Cert.KernelIdeal.Value.G20 m c := by
  funext i
  idx_vars i
  exact (Cert.ReferenceIdeal.Ref.kb_at _ _ _ _ _ _ _).trans (Cert.KernelIdeal.Keys.G20_at m c hG hW _ _ _).symm

/-- The reference's output is what the kernel's array of it holds after its run, the gains, the weights and the sinks being real. -/
theorem y_eq (m : (ℓ : Loc Cert.KernelIdeal.nD Cert.KernelIdeal.τ Cert.KernelIdeal.sig) → Buf (Elt Ideal) ℓ) (c : Dev Cert.KernelIdeal.nD)
    (hG : ∀ i, Cert.Spec.IsR (Cert.KernelIdeal.Pay.GA m c i)) (hW : ∀ i, Cert.Spec.IsR (Cert.KernelIdeal.Pay.WA m c i))
    (hq : ∀ i, Cert.Spec.IsR (Cert.KernelIdeal.Queries.QA m c i)) (hk : ∀ i, Cert.Spec.IsR (Cert.KernelIdeal.Keys.KA m c i))
    (hS : ∀ i, Cert.Spec.IsR (Cert.KernelIdeal.Row.SA m c i)) :
    Cert.ReferenceIdeal.Read.val_main_v367 (F := Ideal) (Cert.KernelIdeal.Pay.XA m c) (Cert.KernelIdeal.Pay.GA m c) (Cert.KernelIdeal.Pay.WA m c)
        (Cert.KernelIdeal.Heads.NA m c) (Cert.KernelIdeal.Queries.QA m c) (Cert.KernelIdeal.Keys.KA m c) (Cert.KernelIdeal.Row.SA m c)
        (Cert.KernelIdeal.Row.BR m c) (Cert.KernelIdeal.Row.BS m c) (Cert.KernelIdeal.Row.BO m c)
      = Cert.KernelIdeal.Value.G18 m c := by
  funext i
  idx_vars i
  exact (Cert.ReferenceIdeal.Ref.y_at _ _ _ _ _ _ _ _ _ _ _ _ _).trans (Cert.KernelIdeal.Row.G18_at m c hG hW hq hk hS _ _ _).symm

/-- The kernel's run and the reference's end with the same output, state, key rows and value rows. -/
theorem same_results : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hpre hagree
  refine ⟨fun c => Cert.KernelIdeal.Value.G18 m c, fun c => Cert.KernelIdeal.Value.G19 m c, fun c => Cert.KernelIdeal.Value.G20 m c, fun c => Cert.KernelIdeal.Value.G21 m c, ?_, ?_⟩
  · exact (θ_run Cert.KernelIdeal.defs _ _).mono (fun r h c => ⟨(h c).1, (h c).2.1, (h c).2.2.1, (h c).2.2.2.1, (h c).2.2.2.2⟩) (Cert.KernelIdeal.Value.run m g)
  · refine (θ_run Cert.ReferenceIdeal.defs _ _).mono (fun r h c => ⟨(h c).1.trans ?_, (h c).2.1.trans ?_, (h c).2.2.1.trans ?_, (h c).2.2.2.1.trans ?_, (h c).2.2.2.2⟩) (Cert.ReferenceIdeal.Value.run (F := Ideal) m' g')
    · obtain ⟨hG, hW, hq, hk, hS⟩ := @Cert.Pre_finite.reals Cert.Pre_finite.facts _ _ _ _ _ _ _ _ _ _ (hpre c)
      exact (Cert.ReferenceIdeal.Read.val_main_v367_eq _).trans
        ((congr (congr (congr (congr (congr (congr (congr (congr (congr (congrArg Cert.ReferenceIdeal.Read.val_main_v367 (hagree c).1) (hagree c).2.1) (hagree c).2.2.1) (hagree c).2.2.2.1) (hagree c).2.2.2.2.1) (hagree c).2.2.2.2.2.1) (hagree c).2.2.2.2.2.2.1) (hagree c).2.2.2.2.2.2.2.1) (hagree c).2.2.2.2.2.2.2.2.1) (hagree c).2.2.2.2.2.2.2.2.2).trans (y_eq m c hG hW hq hk hS))
    · exact (Cert.ReferenceIdeal.Read.val_main_v149_eq _).trans
        ((congr (congr (congrArg Cert.ReferenceIdeal.Read.val_main_v149 (hagree c).1) (hagree c).2.1) (hagree c).2.2.1).trans (state_eq m c))
    · obtain ⟨hG, hW, -, -, -⟩ := @Cert.Pre_finite.reals Cert.Pre_finite.facts _ _ _ _ _ _ _ _ _ _ (hpre c)
      exact (Cert.ReferenceIdeal.Read.val_main_v274_eq _).trans
        ((congr (congr (congr (congrArg Cert.ReferenceIdeal.Read.val_main_v274 (hagree c).1) (hagree c).2.1) (hagree c).2.2.1) (hagree c).2.2.2.2.2.1).trans (keys_eq m c hG hW))
    · exact (Cert.ReferenceIdeal.Read.val_main_v275_eq _).trans
        ((congr (congr (congrArg Cert.ReferenceIdeal.Read.val_main_v275 (hagree c).1) (hagree c).2.1) (hagree c).2.2.1).trans (rows_eq m c))

theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  ⟨IdealRules.named_const.statement _ _ _ _ _ rfl, IdealRules.named_const.statement _ _ _ _ _ rfl,
    IdealRules.named_const.statement _ _ _ _ _ rfl, IdealRules.named_const.statement _ _ _ _ _ rfl⟩, same_results⟩

end Cert.Proof

end
